-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Second (m : (ℓ : Loc Cert.Second.nD Cert.Second.τ Cert.Second.sig) → Buf (Elt Bits) ℓ) : Prop :=
  True

def Pre_SecondIdeal (m : (ℓ : Loc Cert.SecondIdeal.nD Cert.SecondIdeal.τ Cert.SecondIdeal.sig) → Buf (Elt Ideal) ℓ) : Prop :=
  True

def Pre_SecondReferenceIdeal (m : (ℓ : Loc Cert.SecondReferenceIdeal.nD Cert.SecondReferenceIdeal.τ Cert.SecondReferenceIdeal.sig) → Buf (Elt Ideal) ℓ) : Prop :=
  True

def Pre_Third (m : (ℓ : Loc Cert.Third.nD Cert.Third.τ Cert.Third.sig) → Buf (Elt Bits) ℓ) : Prop :=
  True

def Pre_ThirdIdeal (m : (ℓ : Loc Cert.ThirdIdeal.nD Cert.ThirdIdeal.τ Cert.ThirdIdeal.sig) → Buf (Elt Ideal) ℓ) : Prop :=
  True

def Pre_ThirdReferenceIdeal (m : (ℓ : Loc Cert.ThirdReferenceIdeal.nD Cert.ThirdReferenceIdeal.τ Cert.ThirdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Second [hSecond : Cert.Second.Facts] : Prop :=
  ∀ (m : (ℓ : Loc Cert.Second.nD Cert.Second.τ Cert.Second.sig) → Buf (Elt Bits) ℓ) (g : Dev Cert.Second.nD → PrngReg), Pre_Second m →
    θ_run (Cert.Second.defs (F := Bits)) (onTc (τ := Cert.Second.τ) (Cert.Second.main (F := Bits))) ⟨m, fun _ => 0, g⟩ (fun r => (∀ c : Dev Cert.Second.nD,
      r.2.mem ((c.tc : Thread Cert.Second.nD Cert.Second.τ).loc Cert.Second.main_arg0) = m ((c.tc : Thread Cert.Second.nD Cert.Second.τ).loc Cert.Second.main_arg0)
      ∧ r.2.mem ((c.tc : Thread Cert.Second.nD Cert.Second.τ).loc Cert.Second.main_arg1) = m ((c.tc : Thread Cert.Second.nD Cert.Second.τ).loc Cert.Second.main_arg1)
      ∧ r.2.mem ((c.tc : Thread Cert.Second.nD Cert.Second.τ).loc Cert.Second.main_arg2) = m ((c.tc : Thread Cert.Second.nD Cert.Second.τ).loc Cert.Second.main_arg2)
      ∧ r.2.mem ((c.tc : Thread Cert.Second.nD Cert.Second.τ).loc Cert.Second.main_arg3) = m ((c.tc : Thread Cert.Second.nD Cert.Second.τ).loc Cert.Second.main_arg3)
      ∧ r.2.mem ((c.tc : Thread Cert.Second.nD Cert.Second.τ).loc Cert.Second.main_arg4) = m ((c.tc : Thread Cert.Second.nD Cert.Second.τ).loc Cert.Second.main_arg4)
      ∧ r.2.mem ((c.tc : Thread Cert.Second.nD Cert.Second.τ).loc Cert.Second.main_arg5) = m ((c.tc : Thread Cert.Second.nD Cert.Second.τ).loc Cert.Second.main_arg5)
      ∧ r.2.mem ((c.tc : Thread Cert.Second.nD Cert.Second.τ).loc Cert.Second.main_arg6) = m ((c.tc : Thread Cert.Second.nD Cert.Second.τ).loc Cert.Second.main_arg6)
      ∧ r.2.mem ((c.tc : Thread Cert.Second.nD Cert.Second.τ).loc Cert.Second.main_arg7) = m ((c.tc : Thread Cert.Second.nD Cert.Second.τ).loc Cert.Second.main_arg7)
      ∧ r.2.mem ((c.tc : Thread Cert.Second.nD Cert.Second.τ).loc Cert.Second.main_arg8) = m ((c.tc : Thread Cert.Second.nD Cert.Second.τ).loc Cert.Second.main_arg8))
      ∧ r.2.sem = fun _ => 0)

def quiescent_SecondIdeal [hSecondIdeal : Cert.SecondIdeal.Facts] : Prop :=
  ∀ (m : (ℓ : Loc Cert.SecondIdeal.nD Cert.SecondIdeal.τ Cert.SecondIdeal.sig) → Buf (Elt Ideal) ℓ) (g : Dev Cert.SecondIdeal.nD → PrngReg), Pre_SecondIdeal m →
    θ_run (Cert.SecondIdeal.defs (F := Ideal)) (onTc (τ := Cert.SecondIdeal.τ) (Cert.SecondIdeal.main (F := Ideal))) ⟨m, fun _ => 0, g⟩ (fun r => (∀ c : Dev Cert.SecondIdeal.nD,
      r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
      ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
      ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
      ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
      ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
      ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
      ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
      ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
      ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ r.2.sem = fun _ => 0)

def quiescent_SecondReferenceIdeal [hSecondReferenceIdeal : Cert.SecondReferenceIdeal.Facts] : Prop :=
  ∀ (m : (ℓ : Loc Cert.SecondReferenceIdeal.nD Cert.SecondReferenceIdeal.τ Cert.SecondReferenceIdeal.sig) → Buf (Elt Ideal) ℓ) (g : Dev Cert.SecondReferenceIdeal.nD → PrngReg), Pre_SecondReferenceIdeal m →
    θ_run (Cert.SecondReferenceIdeal.defs (F := Ideal)) (onTc (τ := Cert.SecondReferenceIdeal.τ) (Cert.SecondReferenceIdeal.main (F := Ideal))) ⟨m, fun _ => 0, g⟩ (fun r => (∀ c : Dev Cert.SecondReferenceIdeal.nD,
      r.2.mem ((c.tc : Thread Cert.SecondReferenceIdeal.nD Cert.SecondReferenceIdeal.τ).loc Cert.SecondReferenceIdeal.main_arg0) = m ((c.tc : Thread Cert.SecondReferenceIdeal.nD Cert.SecondReferenceIdeal.τ).loc Cert.SecondReferenceIdeal.main_arg0)
      ∧ r.2.mem ((c.tc : Thread Cert.SecondReferenceIdeal.nD Cert.SecondReferenceIdeal.τ).loc Cert.SecondReferenceIdeal.main_arg1) = m ((c.tc : Thread Cert.SecondReferenceIdeal.nD Cert.SecondReferenceIdeal.τ).loc Cert.SecondReferenceIdeal.main_arg1)
      ∧ r.2.mem ((c.tc : Thread Cert.SecondReferenceIdeal.nD Cert.SecondReferenceIdeal.τ).loc Cert.SecondReferenceIdeal.main_arg2) = m ((c.tc : Thread Cert.SecondReferenceIdeal.nD Cert.SecondReferenceIdeal.τ).loc Cert.SecondReferenceIdeal.main_arg2)
      ∧ r.2.mem ((c.tc : Thread Cert.SecondReferenceIdeal.nD Cert.SecondReferenceIdeal.τ).loc Cert.SecondReferenceIdeal.main_arg3) = m ((c.tc : Thread Cert.SecondReferenceIdeal.nD Cert.SecondReferenceIdeal.τ).loc Cert.SecondReferenceIdeal.main_arg3)
      ∧ r.2.mem ((c.tc : Thread Cert.SecondReferenceIdeal.nD Cert.SecondReferenceIdeal.τ).loc Cert.SecondReferenceIdeal.main_arg4) = m ((c.tc : Thread Cert.SecondReferenceIdeal.nD Cert.SecondReferenceIdeal.τ).loc Cert.SecondReferenceIdeal.main_arg4)
      ∧ r.2.mem ((c.tc : Thread Cert.SecondReferenceIdeal.nD Cert.SecondReferenceIdeal.τ).loc Cert.SecondReferenceIdeal.main_arg5) = m ((c.tc : Thread Cert.SecondReferenceIdeal.nD Cert.SecondReferenceIdeal.τ).loc Cert.SecondReferenceIdeal.main_arg5)
      ∧ r.2.mem ((c.tc : Thread Cert.SecondReferenceIdeal.nD Cert.SecondReferenceIdeal.τ).loc Cert.SecondReferenceIdeal.main_arg6) = m ((c.tc : Thread Cert.SecondReferenceIdeal.nD Cert.SecondReferenceIdeal.τ).loc Cert.SecondReferenceIdeal.main_arg6)
      ∧ r.2.mem ((c.tc : Thread Cert.SecondReferenceIdeal.nD Cert.SecondReferenceIdeal.τ).loc Cert.SecondReferenceIdeal.main_arg7) = m ((c.tc : Thread Cert.SecondReferenceIdeal.nD Cert.SecondReferenceIdeal.τ).loc Cert.SecondReferenceIdeal.main_arg7)
      ∧ r.2.mem ((c.tc : Thread Cert.SecondReferenceIdeal.nD Cert.SecondReferenceIdeal.τ).loc Cert.SecondReferenceIdeal.main_arg8) = m ((c.tc : Thread Cert.SecondReferenceIdeal.nD Cert.SecondReferenceIdeal.τ).loc Cert.SecondReferenceIdeal.main_arg8))
      ∧ r.2.sem = fun _ => 0)

def quiescent_Third [hThird : Cert.Third.Facts] : Prop :=
  ∀ (m : (ℓ : Loc Cert.Third.nD Cert.Third.τ Cert.Third.sig) → Buf (Elt Bits) ℓ) (g : Dev Cert.Third.nD → PrngReg), Pre_Third m →
    θ_run (Cert.Third.defs (F := Bits)) (onTc (τ := Cert.Third.τ) (Cert.Third.main (F := Bits))) ⟨m, fun _ => 0, g⟩ (fun r => (∀ c : Dev Cert.Third.nD,
      r.2.mem ((c.tc : Thread Cert.Third.nD Cert.Third.τ).loc Cert.Third.main_arg0) = m ((c.tc : Thread Cert.Third.nD Cert.Third.τ).loc Cert.Third.main_arg0)
      ∧ r.2.mem ((c.tc : Thread Cert.Third.nD Cert.Third.τ).loc Cert.Third.main_arg1) = m ((c.tc : Thread Cert.Third.nD Cert.Third.τ).loc Cert.Third.main_arg1)
      ∧ r.2.mem ((c.tc : Thread Cert.Third.nD Cert.Third.τ).loc Cert.Third.main_arg2) = m ((c.tc : Thread Cert.Third.nD Cert.Third.τ).loc Cert.Third.main_arg2)
      ∧ r.2.mem ((c.tc : Thread Cert.Third.nD Cert.Third.τ).loc Cert.Third.main_arg3) = m ((c.tc : Thread Cert.Third.nD Cert.Third.τ).loc Cert.Third.main_arg3)
      ∧ r.2.mem ((c.tc : Thread Cert.Third.nD Cert.Third.τ).loc Cert.Third.main_arg4) = m ((c.tc : Thread Cert.Third.nD Cert.Third.τ).loc Cert.Third.main_arg4)
      ∧ r.2.mem ((c.tc : Thread Cert.Third.nD Cert.Third.τ).loc Cert.Third.main_arg5) = m ((c.tc : Thread Cert.Third.nD Cert.Third.τ).loc Cert.Third.main_arg5)
      ∧ r.2.mem ((c.tc : Thread Cert.Third.nD Cert.Third.τ).loc Cert.Third.main_arg6) = m ((c.tc : Thread Cert.Third.nD Cert.Third.τ).loc Cert.Third.main_arg6)
      ∧ r.2.mem ((c.tc : Thread Cert.Third.nD Cert.Third.τ).loc Cert.Third.main_arg7) = m ((c.tc : Thread Cert.Third.nD Cert.Third.τ).loc Cert.Third.main_arg7))
      ∧ r.2.sem = fun _ => 0)

def quiescent_ThirdIdeal [hThirdIdeal : Cert.ThirdIdeal.Facts] : Prop :=
  ∀ (m : (ℓ : Loc Cert.ThirdIdeal.nD Cert.ThirdIdeal.τ Cert.ThirdIdeal.sig) → Buf (Elt Ideal) ℓ) (g : Dev Cert.ThirdIdeal.nD → PrngReg), Pre_ThirdIdeal m →
    θ_run (Cert.ThirdIdeal.defs (F := Ideal)) (onTc (τ := Cert.ThirdIdeal.τ) (Cert.ThirdIdeal.main (F := Ideal))) ⟨m, fun _ => 0, g⟩ (fun r => (∀ c : Dev Cert.ThirdIdeal.nD,
      r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
      ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
      ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
      ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
      ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
      ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
      ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
      ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7))
      ∧ r.2.sem = fun _ => 0)

def quiescent_ThirdReferenceIdeal [hThirdReferenceIdeal : Cert.ThirdReferenceIdeal.Facts] : Prop :=
  ∀ (m : (ℓ : Loc Cert.ThirdReferenceIdeal.nD Cert.ThirdReferenceIdeal.τ Cert.ThirdReferenceIdeal.sig) → Buf (Elt Ideal) ℓ) (g : Dev Cert.ThirdReferenceIdeal.nD → PrngReg), Pre_ThirdReferenceIdeal m →
    θ_run (Cert.ThirdReferenceIdeal.defs (F := Ideal)) (onTc (τ := Cert.ThirdReferenceIdeal.τ) (Cert.ThirdReferenceIdeal.main (F := Ideal))) ⟨m, fun _ => 0, g⟩ (fun r => (∀ c : Dev Cert.ThirdReferenceIdeal.nD,
      r.2.mem ((c.tc : Thread Cert.ThirdReferenceIdeal.nD Cert.ThirdReferenceIdeal.τ).loc Cert.ThirdReferenceIdeal.main_arg0) = m ((c.tc : Thread Cert.ThirdReferenceIdeal.nD Cert.ThirdReferenceIdeal.τ).loc Cert.ThirdReferenceIdeal.main_arg0)
      ∧ r.2.mem ((c.tc : Thread Cert.ThirdReferenceIdeal.nD Cert.ThirdReferenceIdeal.τ).loc Cert.ThirdReferenceIdeal.main_arg1) = m ((c.tc : Thread Cert.ThirdReferenceIdeal.nD Cert.ThirdReferenceIdeal.τ).loc Cert.ThirdReferenceIdeal.main_arg1)
      ∧ r.2.mem ((c.tc : Thread Cert.ThirdReferenceIdeal.nD Cert.ThirdReferenceIdeal.τ).loc Cert.ThirdReferenceIdeal.main_arg2) = m ((c.tc : Thread Cert.ThirdReferenceIdeal.nD Cert.ThirdReferenceIdeal.τ).loc Cert.ThirdReferenceIdeal.main_arg2)
      ∧ r.2.mem ((c.tc : Thread Cert.ThirdReferenceIdeal.nD Cert.ThirdReferenceIdeal.τ).loc Cert.ThirdReferenceIdeal.main_arg3) = m ((c.tc : Thread Cert.ThirdReferenceIdeal.nD Cert.ThirdReferenceIdeal.τ).loc Cert.ThirdReferenceIdeal.main_arg3)
      ∧ r.2.mem ((c.tc : Thread Cert.ThirdReferenceIdeal.nD Cert.ThirdReferenceIdeal.τ).loc Cert.ThirdReferenceIdeal.main_arg4) = m ((c.tc : Thread Cert.ThirdReferenceIdeal.nD Cert.ThirdReferenceIdeal.τ).loc Cert.ThirdReferenceIdeal.main_arg4)
      ∧ r.2.mem ((c.tc : Thread Cert.ThirdReferenceIdeal.nD Cert.ThirdReferenceIdeal.τ).loc Cert.ThirdReferenceIdeal.main_arg5) = m ((c.tc : Thread Cert.ThirdReferenceIdeal.nD Cert.ThirdReferenceIdeal.τ).loc Cert.ThirdReferenceIdeal.main_arg5)
      ∧ r.2.mem ((c.tc : Thread Cert.ThirdReferenceIdeal.nD Cert.ThirdReferenceIdeal.τ).loc Cert.ThirdReferenceIdeal.main_arg6) = m ((c.tc : Thread Cert.ThirdReferenceIdeal.nD Cert.ThirdReferenceIdeal.τ).loc Cert.ThirdReferenceIdeal.main_arg6)
      ∧ r.2.mem ((c.tc : Thread Cert.ThirdReferenceIdeal.nD Cert.ThirdReferenceIdeal.τ).loc Cert.ThirdReferenceIdeal.main_arg7) = m ((c.tc : Thread Cert.ThirdReferenceIdeal.nD Cert.ThirdReferenceIdeal.τ).loc Cert.ThirdReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Second_SecondIdeal : Prop :=
  True

def algebraic_SecondIdeal_SecondReferenceIdeal [hSecondIdeal : Cert.SecondIdeal.Facts] [hSecondReferenceIdeal : Cert.SecondReferenceIdeal.Facts] : Prop :=
  ∀ (m : (ℓ : Loc Cert.SecondIdeal.nD Cert.SecondIdeal.τ Cert.SecondIdeal.sig) → Buf (Elt Ideal) ℓ) (g : Dev Cert.SecondIdeal.nD → PrngReg)
    (m' : (ℓ : Loc Cert.SecondReferenceIdeal.nD Cert.SecondReferenceIdeal.τ Cert.SecondReferenceIdeal.sig) → Buf (Elt Ideal) ℓ) (g' : Dev Cert.SecondReferenceIdeal.nD → PrngReg), Pre_SecondIdeal m →
    (∀ c : Dev Cert.SecondIdeal.nD,
      m' ((c.tc : Thread Cert.SecondReferenceIdeal.nD Cert.SecondReferenceIdeal.τ).loc Cert.SecondReferenceIdeal.main_arg0) = m ((c.tc : Thread Cert.SecondIdeal.nD Cert.SecondIdeal.τ).loc Cert.SecondIdeal.main_arg0)
      ∧ m' ((c.tc : Thread Cert.SecondReferenceIdeal.nD Cert.SecondReferenceIdeal.τ).loc Cert.SecondReferenceIdeal.main_arg1) = m ((c.tc : Thread Cert.SecondIdeal.nD Cert.SecondIdeal.τ).loc Cert.SecondIdeal.main_arg1)
      ∧ m' ((c.tc : Thread Cert.SecondReferenceIdeal.nD Cert.SecondReferenceIdeal.τ).loc Cert.SecondReferenceIdeal.main_arg2) = m ((c.tc : Thread Cert.SecondIdeal.nD Cert.SecondIdeal.τ).loc Cert.SecondIdeal.main_arg2)
      ∧ m' ((c.tc : Thread Cert.SecondReferenceIdeal.nD Cert.SecondReferenceIdeal.τ).loc Cert.SecondReferenceIdeal.main_arg3) = m ((c.tc : Thread Cert.SecondIdeal.nD Cert.SecondIdeal.τ).loc Cert.SecondIdeal.main_arg3)
      ∧ m' ((c.tc : Thread Cert.SecondReferenceIdeal.nD Cert.SecondReferenceIdeal.τ).loc Cert.SecondReferenceIdeal.main_arg4) = m ((c.tc : Thread Cert.SecondIdeal.nD Cert.SecondIdeal.τ).loc Cert.SecondIdeal.main_arg4)
      ∧ m' ((c.tc : Thread Cert.SecondReferenceIdeal.nD Cert.SecondReferenceIdeal.τ).loc Cert.SecondReferenceIdeal.main_arg5) = m ((c.tc : Thread Cert.SecondIdeal.nD Cert.SecondIdeal.τ).loc Cert.SecondIdeal.main_arg5)
      ∧ m' ((c.tc : Thread Cert.SecondReferenceIdeal.nD Cert.SecondReferenceIdeal.τ).loc Cert.SecondReferenceIdeal.main_arg6) = m ((c.tc : Thread Cert.SecondIdeal.nD Cert.SecondIdeal.τ).loc Cert.SecondIdeal.main_arg6)
      ∧ m' ((c.tc : Thread Cert.SecondReferenceIdeal.nD Cert.SecondReferenceIdeal.τ).loc Cert.SecondReferenceIdeal.main_arg7) = m ((c.tc : Thread Cert.SecondIdeal.nD Cert.SecondIdeal.τ).loc Cert.SecondIdeal.main_arg7)
      ∧ m' ((c.tc : Thread Cert.SecondReferenceIdeal.nD Cert.SecondReferenceIdeal.τ).loc Cert.SecondReferenceIdeal.main_arg8) = m ((c.tc : Thread Cert.SecondIdeal.nD Cert.SecondIdeal.τ).loc Cert.SecondIdeal.main_arg8)) →
    ∃ (v0 : (c : Dev Cert.SecondIdeal.nD) → Buf (Elt Ideal) ((c.tc : Thread Cert.SecondIdeal.nD Cert.SecondIdeal.τ).loc Cert.SecondIdeal.main_v4_0)) (v1 : (c : Dev Cert.SecondIdeal.nD) → Buf (Elt Ideal) ((c.tc : Thread Cert.SecondIdeal.nD Cert.SecondIdeal.τ).loc Cert.SecondIdeal.main_v4_1)) (v2 : (c : Dev Cert.SecondIdeal.nD) → Buf (Elt Ideal) ((c.tc : Thread Cert.SecondIdeal.nD Cert.SecondIdeal.τ).loc Cert.SecondIdeal.main_v4_2)) (v3 : (c : Dev Cert.SecondIdeal.nD) → Buf (Elt Ideal) ((c.tc : Thread Cert.SecondIdeal.nD Cert.SecondIdeal.τ).loc Cert.SecondIdeal.main_v4_3)),
      θ_run (Cert.SecondIdeal.defs (F := Ideal)) (onTc (τ := Cert.SecondIdeal.τ) (Cert.SecondIdeal.main (F := Ideal))) ⟨m, fun _ => 0, g⟩ (fun r => ∀ c : Dev Cert.SecondIdeal.nD,
          r.2.mem ((c.tc : Thread Cert.SecondIdeal.nD Cert.SecondIdeal.τ).loc Cert.SecondIdeal.main_v4_0) = v0 c
          ∧ r.2.mem ((c.tc : Thread Cert.SecondIdeal.nD Cert.SecondIdeal.τ).loc Cert.SecondIdeal.main_v4_1) = v1 c
          ∧ r.2.mem ((c.tc : Thread Cert.SecondIdeal.nD Cert.SecondIdeal.τ).loc Cert.SecondIdeal.main_v4_2) = v2 c
          ∧ r.2.mem ((c.tc : Thread Cert.SecondIdeal.nD Cert.SecondIdeal.τ).loc Cert.SecondIdeal.main_v4_3) = v3 c
          ∧ r.2.mem ((c.tc : Thread Cert.SecondIdeal.nD Cert.SecondIdeal.τ).loc Cert.SecondIdeal.main_arg0) = m ((c.tc : Thread Cert.SecondIdeal.nD Cert.SecondIdeal.τ).loc Cert.SecondIdeal.main_arg0)
          ∧ r.2.mem ((c.tc : Thread Cert.SecondIdeal.nD Cert.SecondIdeal.τ).loc Cert.SecondIdeal.main_arg1) = m ((c.tc : Thread Cert.SecondIdeal.nD Cert.SecondIdeal.τ).loc Cert.SecondIdeal.main_arg1)
          ∧ r.2.mem ((c.tc : Thread Cert.SecondIdeal.nD Cert.SecondIdeal.τ).loc Cert.SecondIdeal.main_arg2) = m ((c.tc : Thread Cert.SecondIdeal.nD Cert.SecondIdeal.τ).loc Cert.SecondIdeal.main_arg2)
          ∧ r.2.mem ((c.tc : Thread Cert.SecondIdeal.nD Cert.SecondIdeal.τ).loc Cert.SecondIdeal.main_arg3) = m ((c.tc : Thread Cert.SecondIdeal.nD Cert.SecondIdeal.τ).loc Cert.SecondIdeal.main_arg3)
          ∧ r.2.mem ((c.tc : Thread Cert.SecondIdeal.nD Cert.SecondIdeal.τ).loc Cert.SecondIdeal.main_arg4) = m ((c.tc : Thread Cert.SecondIdeal.nD Cert.SecondIdeal.τ).loc Cert.SecondIdeal.main_arg4)
          ∧ r.2.mem ((c.tc : Thread Cert.SecondIdeal.nD Cert.SecondIdeal.τ).loc Cert.SecondIdeal.main_arg5) = m ((c.tc : Thread Cert.SecondIdeal.nD Cert.SecondIdeal.τ).loc Cert.SecondIdeal.main_arg5)
          ∧ r.2.mem ((c.tc : Thread Cert.SecondIdeal.nD Cert.SecondIdeal.τ).loc Cert.SecondIdeal.main_arg6) = m ((c.tc : Thread Cert.SecondIdeal.nD Cert.SecondIdeal.τ).loc Cert.SecondIdeal.main_arg6)
          ∧ r.2.mem ((c.tc : Thread Cert.SecondIdeal.nD Cert.SecondIdeal.τ).loc Cert.SecondIdeal.main_arg7) = m ((c.tc : Thread Cert.SecondIdeal.nD Cert.SecondIdeal.τ).loc Cert.SecondIdeal.main_arg7)
          ∧ r.2.mem ((c.tc : Thread Cert.SecondIdeal.nD Cert.SecondIdeal.τ).loc Cert.SecondIdeal.main_arg8) = m ((c.tc : Thread Cert.SecondIdeal.nD Cert.SecondIdeal.τ).loc Cert.SecondIdeal.main_arg8))
      ∧ θ_run (Cert.SecondReferenceIdeal.defs (F := Ideal)) (onTc (τ := Cert.SecondReferenceIdeal.τ) (Cert.SecondReferenceIdeal.main (F := Ideal))) ⟨m', fun _ => 0, g'⟩ (fun r => ∀ c : Dev Cert.SecondReferenceIdeal.nD,
          r.2.mem ((c.tc : Thread Cert.SecondReferenceIdeal.nD Cert.SecondReferenceIdeal.τ).loc Cert.SecondReferenceIdeal.main_v4_0) = v0 c
          ∧ r.2.mem ((c.tc : Thread Cert.SecondReferenceIdeal.nD Cert.SecondReferenceIdeal.τ).loc Cert.SecondReferenceIdeal.main_v4_1) = v1 c
          ∧ r.2.mem ((c.tc : Thread Cert.SecondReferenceIdeal.nD Cert.SecondReferenceIdeal.τ).loc Cert.SecondReferenceIdeal.main_v4_2) = v2 c
          ∧ r.2.mem ((c.tc : Thread Cert.SecondReferenceIdeal.nD Cert.SecondReferenceIdeal.τ).loc Cert.SecondReferenceIdeal.main_v4_3) = v3 c
          ∧ r.2.mem ((c.tc : Thread Cert.SecondReferenceIdeal.nD Cert.SecondReferenceIdeal.τ).loc Cert.SecondReferenceIdeal.main_arg0) = m' ((c.tc : Thread Cert.SecondReferenceIdeal.nD Cert.SecondReferenceIdeal.τ).loc Cert.SecondReferenceIdeal.main_arg0)
          ∧ r.2.mem ((c.tc : Thread Cert.SecondReferenceIdeal.nD Cert.SecondReferenceIdeal.τ).loc Cert.SecondReferenceIdeal.main_arg1) = m' ((c.tc : Thread Cert.SecondReferenceIdeal.nD Cert.SecondReferenceIdeal.τ).loc Cert.SecondReferenceIdeal.main_arg1)
          ∧ r.2.mem ((c.tc : Thread Cert.SecondReferenceIdeal.nD Cert.SecondReferenceIdeal.τ).loc Cert.SecondReferenceIdeal.main_arg2) = m' ((c.tc : Thread Cert.SecondReferenceIdeal.nD Cert.SecondReferenceIdeal.τ).loc Cert.SecondReferenceIdeal.main_arg2)
          ∧ r.2.mem ((c.tc : Thread Cert.SecondReferenceIdeal.nD Cert.SecondReferenceIdeal.τ).loc Cert.SecondReferenceIdeal.main_arg3) = m' ((c.tc : Thread Cert.SecondReferenceIdeal.nD Cert.SecondReferenceIdeal.τ).loc Cert.SecondReferenceIdeal.main_arg3)
          ∧ r.2.mem ((c.tc : Thread Cert.SecondReferenceIdeal.nD Cert.SecondReferenceIdeal.τ).loc Cert.SecondReferenceIdeal.main_arg4) = m' ((c.tc : Thread Cert.SecondReferenceIdeal.nD Cert.SecondReferenceIdeal.τ).loc Cert.SecondReferenceIdeal.main_arg4)
          ∧ r.2.mem ((c.tc : Thread Cert.SecondReferenceIdeal.nD Cert.SecondReferenceIdeal.τ).loc Cert.SecondReferenceIdeal.main_arg5) = m' ((c.tc : Thread Cert.SecondReferenceIdeal.nD Cert.SecondReferenceIdeal.τ).loc Cert.SecondReferenceIdeal.main_arg5)
          ∧ r.2.mem ((c.tc : Thread Cert.SecondReferenceIdeal.nD Cert.SecondReferenceIdeal.τ).loc Cert.SecondReferenceIdeal.main_arg6) = m' ((c.tc : Thread Cert.SecondReferenceIdeal.nD Cert.SecondReferenceIdeal.τ).loc Cert.SecondReferenceIdeal.main_arg6)
          ∧ r.2.mem ((c.tc : Thread Cert.SecondReferenceIdeal.nD Cert.SecondReferenceIdeal.τ).loc Cert.SecondReferenceIdeal.main_arg7) = m' ((c.tc : Thread Cert.SecondReferenceIdeal.nD Cert.SecondReferenceIdeal.τ).loc Cert.SecondReferenceIdeal.main_arg7)
          ∧ r.2.mem ((c.tc : Thread Cert.SecondReferenceIdeal.nD Cert.SecondReferenceIdeal.τ).loc Cert.SecondReferenceIdeal.main_arg8) = m' ((c.tc : Thread Cert.SecondReferenceIdeal.nD Cert.SecondReferenceIdeal.τ).loc Cert.SecondReferenceIdeal.main_arg8))

def preserves_Third_ThirdIdeal : Prop :=
  True

def algebraic_ThirdIdeal_ThirdReferenceIdeal [hThirdIdeal : Cert.ThirdIdeal.Facts] [hThirdReferenceIdeal : Cert.ThirdReferenceIdeal.Facts] : Prop :=
  ∀ (m : (ℓ : Loc Cert.ThirdIdeal.nD Cert.ThirdIdeal.τ Cert.ThirdIdeal.sig) → Buf (Elt Ideal) ℓ) (g : Dev Cert.ThirdIdeal.nD → PrngReg)
    (m' : (ℓ : Loc Cert.ThirdReferenceIdeal.nD Cert.ThirdReferenceIdeal.τ Cert.ThirdReferenceIdeal.sig) → Buf (Elt Ideal) ℓ) (g' : Dev Cert.ThirdReferenceIdeal.nD → PrngReg), Pre_ThirdIdeal m →
    (∀ c : Dev Cert.ThirdIdeal.nD,
      m' ((c.tc : Thread Cert.ThirdReferenceIdeal.nD Cert.ThirdReferenceIdeal.τ).loc Cert.ThirdReferenceIdeal.main_arg0) = m ((c.tc : Thread Cert.ThirdIdeal.nD Cert.ThirdIdeal.τ).loc Cert.ThirdIdeal.main_arg0)
      ∧ m' ((c.tc : Thread Cert.ThirdReferenceIdeal.nD Cert.ThirdReferenceIdeal.τ).loc Cert.ThirdReferenceIdeal.main_arg1) = m ((c.tc : Thread Cert.ThirdIdeal.nD Cert.ThirdIdeal.τ).loc Cert.ThirdIdeal.main_arg1)
      ∧ m' ((c.tc : Thread Cert.ThirdReferenceIdeal.nD Cert.ThirdReferenceIdeal.τ).loc Cert.ThirdReferenceIdeal.main_arg2) = m ((c.tc : Thread Cert.ThirdIdeal.nD Cert.ThirdIdeal.τ).loc Cert.ThirdIdeal.main_arg2)
      ∧ m' ((c.tc : Thread Cert.ThirdReferenceIdeal.nD Cert.ThirdReferenceIdeal.τ).loc Cert.ThirdReferenceIdeal.main_arg3) = m ((c.tc : Thread Cert.ThirdIdeal.nD Cert.ThirdIdeal.τ).loc Cert.ThirdIdeal.main_arg3)
      ∧ m' ((c.tc : Thread Cert.ThirdReferenceIdeal.nD Cert.ThirdReferenceIdeal.τ).loc Cert.ThirdReferenceIdeal.main_arg4) = m ((c.tc : Thread Cert.ThirdIdeal.nD Cert.ThirdIdeal.τ).loc Cert.ThirdIdeal.main_arg4)
      ∧ m' ((c.tc : Thread Cert.ThirdReferenceIdeal.nD Cert.ThirdReferenceIdeal.τ).loc Cert.ThirdReferenceIdeal.main_arg5) = m ((c.tc : Thread Cert.ThirdIdeal.nD Cert.ThirdIdeal.τ).loc Cert.ThirdIdeal.main_arg5)
      ∧ m' ((c.tc : Thread Cert.ThirdReferenceIdeal.nD Cert.ThirdReferenceIdeal.τ).loc Cert.ThirdReferenceIdeal.main_arg6) = m ((c.tc : Thread Cert.ThirdIdeal.nD Cert.ThirdIdeal.τ).loc Cert.ThirdIdeal.main_arg6)
      ∧ m' ((c.tc : Thread Cert.ThirdReferenceIdeal.nD Cert.ThirdReferenceIdeal.τ).loc Cert.ThirdReferenceIdeal.main_arg7) = m ((c.tc : Thread Cert.ThirdIdeal.nD Cert.ThirdIdeal.τ).loc Cert.ThirdIdeal.main_arg7)) →
    ∃ (v0 : (c : Dev Cert.ThirdIdeal.nD) → Buf (Elt Ideal) ((c.tc : Thread Cert.ThirdIdeal.nD Cert.ThirdIdeal.τ).loc Cert.ThirdIdeal.main_v4_0)) (v1 : (c : Dev Cert.ThirdIdeal.nD) → Buf (Elt Ideal) ((c.tc : Thread Cert.ThirdIdeal.nD Cert.ThirdIdeal.τ).loc Cert.ThirdIdeal.main_v4_1)) (v2 : (c : Dev Cert.ThirdIdeal.nD) → Buf (Elt Ideal) ((c.tc : Thread Cert.ThirdIdeal.nD Cert.ThirdIdeal.τ).loc Cert.ThirdIdeal.main_v4_2)) (v3 : (c : Dev Cert.ThirdIdeal.nD) → Buf (Elt Ideal) ((c.tc : Thread Cert.ThirdIdeal.nD Cert.ThirdIdeal.τ).loc Cert.ThirdIdeal.main_v4_3)) (v4 : (c : Dev Cert.ThirdIdeal.nD) → Buf (Elt Ideal) ((c.tc : Thread Cert.ThirdIdeal.nD Cert.ThirdIdeal.τ).loc Cert.ThirdIdeal.main_v4_4)) (v5 : (c : Dev Cert.ThirdIdeal.nD) → Buf (Elt Ideal) ((c.tc : Thread Cert.ThirdIdeal.nD Cert.ThirdIdeal.τ).loc Cert.ThirdIdeal.main_v4_5)),
      θ_run (Cert.ThirdIdeal.defs (F := Ideal)) (onTc (τ := Cert.ThirdIdeal.τ) (Cert.ThirdIdeal.main (F := Ideal))) ⟨m, fun _ => 0, g⟩ (fun r => ∀ c : Dev Cert.ThirdIdeal.nD,
          r.2.mem ((c.tc : Thread Cert.ThirdIdeal.nD Cert.ThirdIdeal.τ).loc Cert.ThirdIdeal.main_v4_0) = v0 c
          ∧ r.2.mem ((c.tc : Thread Cert.ThirdIdeal.nD Cert.ThirdIdeal.τ).loc Cert.ThirdIdeal.main_v4_1) = v1 c
          ∧ r.2.mem ((c.tc : Thread Cert.ThirdIdeal.nD Cert.ThirdIdeal.τ).loc Cert.ThirdIdeal.main_v4_2) = v2 c
          ∧ r.2.mem ((c.tc : Thread Cert.ThirdIdeal.nD Cert.ThirdIdeal.τ).loc Cert.ThirdIdeal.main_v4_3) = v3 c
          ∧ r.2.mem ((c.tc : Thread Cert.ThirdIdeal.nD Cert.ThirdIdeal.τ).loc Cert.ThirdIdeal.main_v4_4) = v4 c
          ∧ r.2.mem ((c.tc : Thread Cert.ThirdIdeal.nD Cert.ThirdIdeal.τ).loc Cert.ThirdIdeal.main_v4_5) = v5 c
          ∧ r.2.mem ((c.tc : Thread Cert.ThirdIdeal.nD Cert.ThirdIdeal.τ).loc Cert.ThirdIdeal.main_arg0) = m ((c.tc : Thread Cert.ThirdIdeal.nD Cert.ThirdIdeal.τ).loc Cert.ThirdIdeal.main_arg0)
          ∧ r.2.mem ((c.tc : Thread Cert.ThirdIdeal.nD Cert.ThirdIdeal.τ).loc Cert.ThirdIdeal.main_arg1) = m ((c.tc : Thread Cert.ThirdIdeal.nD Cert.ThirdIdeal.τ).loc Cert.ThirdIdeal.main_arg1)
          ∧ r.2.mem ((c.tc : Thread Cert.ThirdIdeal.nD Cert.ThirdIdeal.τ).loc Cert.ThirdIdeal.main_arg2) = m ((c.tc : Thread Cert.ThirdIdeal.nD Cert.ThirdIdeal.τ).loc Cert.ThirdIdeal.main_arg2)
          ∧ r.2.mem ((c.tc : Thread Cert.ThirdIdeal.nD Cert.ThirdIdeal.τ).loc Cert.ThirdIdeal.main_arg3) = m ((c.tc : Thread Cert.ThirdIdeal.nD Cert.ThirdIdeal.τ).loc Cert.ThirdIdeal.main_arg3)
          ∧ r.2.mem ((c.tc : Thread Cert.ThirdIdeal.nD Cert.ThirdIdeal.τ).loc Cert.ThirdIdeal.main_arg4) = m ((c.tc : Thread Cert.ThirdIdeal.nD Cert.ThirdIdeal.τ).loc Cert.ThirdIdeal.main_arg4)
          ∧ r.2.mem ((c.tc : Thread Cert.ThirdIdeal.nD Cert.ThirdIdeal.τ).loc Cert.ThirdIdeal.main_arg5) = m ((c.tc : Thread Cert.ThirdIdeal.nD Cert.ThirdIdeal.τ).loc Cert.ThirdIdeal.main_arg5)
          ∧ r.2.mem ((c.tc : Thread Cert.ThirdIdeal.nD Cert.ThirdIdeal.τ).loc Cert.ThirdIdeal.main_arg6) = m ((c.tc : Thread Cert.ThirdIdeal.nD Cert.ThirdIdeal.τ).loc Cert.ThirdIdeal.main_arg6)
          ∧ r.2.mem ((c.tc : Thread Cert.ThirdIdeal.nD Cert.ThirdIdeal.τ).loc Cert.ThirdIdeal.main_arg7) = m ((c.tc : Thread Cert.ThirdIdeal.nD Cert.ThirdIdeal.τ).loc Cert.ThirdIdeal.main_arg7))
      ∧ θ_run (Cert.ThirdReferenceIdeal.defs (F := Ideal)) (onTc (τ := Cert.ThirdReferenceIdeal.τ) (Cert.ThirdReferenceIdeal.main (F := Ideal))) ⟨m', fun _ => 0, g'⟩ (fun r => ∀ c : Dev Cert.ThirdReferenceIdeal.nD,
          r.2.mem ((c.tc : Thread Cert.ThirdReferenceIdeal.nD Cert.ThirdReferenceIdeal.τ).loc Cert.ThirdReferenceIdeal.main_v4_0) = v0 c
          ∧ r.2.mem ((c.tc : Thread Cert.ThirdReferenceIdeal.nD Cert.ThirdReferenceIdeal.τ).loc Cert.ThirdReferenceIdeal.main_v4_1) = v1 c
          ∧ r.2.mem ((c.tc : Thread Cert.ThirdReferenceIdeal.nD Cert.ThirdReferenceIdeal.τ).loc Cert.ThirdReferenceIdeal.main_v4_2) = v2 c
          ∧ r.2.mem ((c.tc : Thread Cert.ThirdReferenceIdeal.nD Cert.ThirdReferenceIdeal.τ).loc Cert.ThirdReferenceIdeal.main_v4_3) = v3 c
          ∧ r.2.mem ((c.tc : Thread Cert.ThirdReferenceIdeal.nD Cert.ThirdReferenceIdeal.τ).loc Cert.ThirdReferenceIdeal.main_v4_4) = v4 c
          ∧ r.2.mem ((c.tc : Thread Cert.ThirdReferenceIdeal.nD Cert.ThirdReferenceIdeal.τ).loc Cert.ThirdReferenceIdeal.main_v4_5) = v5 c
          ∧ r.2.mem ((c.tc : Thread Cert.ThirdReferenceIdeal.nD Cert.ThirdReferenceIdeal.τ).loc Cert.ThirdReferenceIdeal.main_arg0) = m' ((c.tc : Thread Cert.ThirdReferenceIdeal.nD Cert.ThirdReferenceIdeal.τ).loc Cert.ThirdReferenceIdeal.main_arg0)
          ∧ r.2.mem ((c.tc : Thread Cert.ThirdReferenceIdeal.nD Cert.ThirdReferenceIdeal.τ).loc Cert.ThirdReferenceIdeal.main_arg1) = m' ((c.tc : Thread Cert.ThirdReferenceIdeal.nD Cert.ThirdReferenceIdeal.τ).loc Cert.ThirdReferenceIdeal.main_arg1)
          ∧ r.2.mem ((c.tc : Thread Cert.ThirdReferenceIdeal.nD Cert.ThirdReferenceIdeal.τ).loc Cert.ThirdReferenceIdeal.main_arg2) = m' ((c.tc : Thread Cert.ThirdReferenceIdeal.nD Cert.ThirdReferenceIdeal.τ).loc Cert.ThirdReferenceIdeal.main_arg2)
          ∧ r.2.mem ((c.tc : Thread Cert.ThirdReferenceIdeal.nD Cert.ThirdReferenceIdeal.τ).loc Cert.ThirdReferenceIdeal.main_arg3) = m' ((c.tc : Thread Cert.ThirdReferenceIdeal.nD Cert.ThirdReferenceIdeal.τ).loc Cert.ThirdReferenceIdeal.main_arg3)
          ∧ r.2.mem ((c.tc : Thread Cert.ThirdReferenceIdeal.nD Cert.ThirdReferenceIdeal.τ).loc Cert.ThirdReferenceIdeal.main_arg4) = m' ((c.tc : Thread Cert.ThirdReferenceIdeal.nD Cert.ThirdReferenceIdeal.τ).loc Cert.ThirdReferenceIdeal.main_arg4)
          ∧ r.2.mem ((c.tc : Thread Cert.ThirdReferenceIdeal.nD Cert.ThirdReferenceIdeal.τ).loc Cert.ThirdReferenceIdeal.main_arg5) = m' ((c.tc : Thread Cert.ThirdReferenceIdeal.nD Cert.ThirdReferenceIdeal.τ).loc Cert.ThirdReferenceIdeal.main_arg5)
          ∧ r.2.mem ((c.tc : Thread Cert.ThirdReferenceIdeal.nD Cert.ThirdReferenceIdeal.τ).loc Cert.ThirdReferenceIdeal.main_arg6) = m' ((c.tc : Thread Cert.ThirdReferenceIdeal.nD Cert.ThirdReferenceIdeal.τ).loc Cert.ThirdReferenceIdeal.main_arg6)
          ∧ r.2.mem ((c.tc : Thread Cert.ThirdReferenceIdeal.nD Cert.ThirdReferenceIdeal.τ).loc Cert.ThirdReferenceIdeal.main_arg7) = m' ((c.tc : Thread Cert.ThirdReferenceIdeal.nD Cert.ThirdReferenceIdeal.τ).loc Cert.ThirdReferenceIdeal.main_arg7))

def Claim : Prop :=
  ∃ (hKernel : Cert.Kernel.Facts) (hKernelIdeal : Cert.KernelIdeal.Facts) (hReferenceIdeal : Cert.ReferenceIdeal.Facts) (hSecond : Cert.Second.Facts) (hSecondIdeal : Cert.SecondIdeal.Facts) (hSecondReferenceIdeal : Cert.SecondReferenceIdeal.Facts) (hThird : Cert.Third.Facts) (hThirdIdeal : Cert.ThirdIdeal.Facts) (hThirdReferenceIdeal : Cert.ThirdReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Second (hSecond := hSecond)
    ∧ quiescent_SecondIdeal (hSecondIdeal := hSecondIdeal)
    ∧ quiescent_SecondReferenceIdeal (hSecondReferenceIdeal := hSecondReferenceIdeal)
    ∧ quiescent_Third (hThird := hThird)
    ∧ quiescent_ThirdIdeal (hThirdIdeal := hThirdIdeal)
    ∧ quiescent_ThirdReferenceIdeal (hThirdReferenceIdeal := hThirdReferenceIdeal)
    ∧ preserves_Kernel_KernelIdeal
    ∧ algebraic_KernelIdeal_ReferenceIdeal (hKernelIdeal := hKernelIdeal) (hReferenceIdeal := hReferenceIdeal)
    ∧ preserves_Second_SecondIdeal
    ∧ algebraic_SecondIdeal_SecondReferenceIdeal (hSecondIdeal := hSecondIdeal) (hSecondReferenceIdeal := hSecondReferenceIdeal)
    ∧ preserves_Third_ThirdIdeal
    ∧ algebraic_ThirdIdeal_ThirdReferenceIdeal (hThirdIdeal := hThirdIdeal) (hThirdReferenceIdeal := hThirdReferenceIdeal)
-- ==== Kernel.lean ====
abbrev S256x5760 : Shape := ⟨2, ![256, 5760]⟩
abbrev S256x1 : Shape := ⟨2, ![256, 1]⟩
abbrev S5760x15360 : Shape := ⟨2, ![5760, 15360]⟩
abbrev S15360 : Shape := ⟨1, ![15360]⟩
abbrev S1x15360 : Shape := ⟨2, ![1, 15360]⟩
abbrev S256x15360 : Shape := ⟨2, ![256, 15360]⟩
abbrev S5760x1024 : Shape := ⟨2, ![5760, 1024]⟩
abbrev S1x1024 : Shape := ⟨2, ![1, 1024]⟩
abbrev S256x1024 : Shape := ⟨2, ![256, 1024]⟩
abbrev S32x15360 : Shape := ⟨2, ![32, 15360]⟩
abbrev S32 : Shape := ⟨1, ![32]⟩
abbrev S32x1 : Shape := ⟨2, ![32, 1]⟩

abbrev nBuf : Space → Nat
  | .hbm => 11
  | .vmem => 14
  | .smem => 0
  | _ => 0

abbrev bufTy : (tb : Table) → Fin (tcTables nBuf tb) → BufTy
  | .hbm, ⟨0, _⟩ => ⟨S256x5760, .i8⟩
  | .hbm, ⟨1, _⟩ => ⟨S256x1, .f32⟩
  | .hbm, ⟨2, _⟩ => ⟨S5760x15360, .i8⟩
  | .hbm, ⟨3, _⟩ => ⟨S15360, .f32⟩
  | .hbm, ⟨4, _⟩ => ⟨S15360, .f32⟩
  | .hbm, ⟨5, _⟩ => ⟨S1x15360, .f32⟩
  | .hbm, ⟨6, _⟩ => ⟨S1x15360, .f32⟩
  | .hbm, ⟨7, _⟩ => ⟨S256x15360, .i8⟩
  | .hbm, ⟨8, _⟩ => ⟨S256x1, .f32⟩
  | .hbm, ⟨9, _⟩ => ⟨S256x15360, .i8⟩
  | .hbm, ⟨10, _⟩ => ⟨S256x1, .f32⟩
  | .local _ .vmem, ⟨0, _⟩ => ⟨S256x5760, .i8⟩
  | .local _ .vmem, ⟨1, _⟩ => ⟨S256x1, .f32⟩
  | .local _ .vmem, ⟨2, _⟩ => ⟨S5760x1024, .i8⟩
  | .local _ .vmem, ⟨3, _⟩ => ⟨S5760x1024, .i8⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x15360, .i8⟩
  | .local _ .vmem, ⟨9, _⟩ => ⟨S256x1, .f32⟩
  | .local _ .vmem, ⟨10, _⟩ => ⟨S256x15360, .i8⟩
  | .local _ .vmem, ⟨11, _⟩ => ⟨S256x1, .f32⟩
  | .local _ .vmem, ⟨12, _⟩ => ⟨S256x5760, .bf16⟩
  | .local _ .vmem, ⟨13, _⟩ => ⟨S256x15360, .f32⟩
  | _, _ => ⟨S256x5760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![15], ![false]⟩

def k0_mult1 (i : grid0.Coords) : BitVec 32 :=
  let arg0 : BitVec 32 := BitVec.ofNat 32 (i 0).val
  let c1024_i32 : BitVec 32 := 1024#32
  let v7 : BitVec 32 := Scalar.muli arg0 c1024_i32
  v7
def k0_off1 (i : grid0.Coords) : Fin 2 → Nat :=
  let c0_10 : Index := 0#32
  let arg0 : BitVec 32 := BitVec.ofNat 32 (i 0).val
  let c1024_i32 : BitVec 32 := 1024#32
  let v7 : BitVec 32 := Scalar.muli arg0 c1024_i32
  let v8 : BitVec 32 := v7
  let v20 : Index := Scalar.indexCast v8
  ![0, v20.toNat]
def k0_cond2 (i : grid0.Coords) : BitVec 1 :=
  let arg0 : BitVec 32 := BitVec.ofNat 32 (i 0).val
  let c14_i32 : BitVec 32 := 14#32
  let v24 : BitVec 1 := Scalar.cmpi .eq arg0 c14_i32
  let v25 : BitVec 32 := Scalar.extui v24
  let c0_i32_11 : BitVec 32 := 0#32
  let v26 : BitVec 1 := Scalar.cmpi .ne v25 c0_i32_11
  v26

@[reducible] def k0_t1_loop : Scf.Loop 32 :=
  let c0_i32_12 : BitVec 32 := 0#32
  let c8_i32 : BitVec 32 := 8#32
  let v27 : BitVec 32 := Scalar.addi c0_i32_12 c8_i32
  let c1_i32 : BitVec 32 := 1#32
  ⟨c0_i32_12, v27, c1_i32⟩
def k0_off2 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c32_i32 : BitVec 32 := 32#32
  let v28 : BitVec 32 := Scalar.muli arg12 c32_i32
  let v29 : Index := Scalar.indexCast v28
  let c0_14 : Index := 0#32
  ![v29.toNat, 0]
def k0_off3 (k0_t1 : Fin k0_t1_loop.trips) : Fin 2 → Nat :=
  let c0_i32_12 : BitVec 32 := 0#32
  let c1_i32 : BitVec 32 := 1#32
  let arg12 : BitVec 32 := Scf.iv c0_i32_12 c1_i32 k0_t1
  let c32_i32 : BitVec 32 := 32#32
  let v28 : BitVec 32 := Scalar.muli arg12 c32_i32
  let v52 : Index := Scalar.indexCast v28
  let c0_20 : Index := 0#32
  ![v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5760 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5760x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x15360 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x15360 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S256x5760 : Shape := ⟨2, ![256, 5760]⟩
abbrev S256x1 : Shape := ⟨2, ![256, 1]⟩
abbrev S5760x15360 : Shape := ⟨2, ![5760, 15360]⟩
abbrev S15360 : Shape := ⟨1, ![15360]⟩
abbrev S1x15360 : Shape := ⟨2, ![1, 15360]⟩
abbrev S256x15360 : Shape := ⟨2, ![256, 15360]⟩
abbrev S256 : Shape := ⟨1, ![256]⟩

abbrev nBuf : Space → Nat
  | .hbm => 11
  | .vmem => 9
  | .smem => 0
  | _ => 0

abbrev bufTy : (tb : Table) → Fin (tcTables nBuf tb) → BufTy
  | .hbm, ⟨0, _⟩ => ⟨S256x5760, .i8⟩
  | .hbm, ⟨1, _⟩ => ⟨S256x1, .f32⟩
  | .hbm, ⟨2, _⟩ => ⟨S5760x15360, .i8⟩
  | .hbm, ⟨3, _⟩ => ⟨S15360, .f32⟩
  | .hbm, ⟨4, _⟩ => ⟨S15360, .f32⟩
  | .hbm, ⟨5, _⟩ => ⟨S1x15360, .f32⟩
  | .hbm, ⟨6, _⟩ => ⟨S1x15360, .f32⟩
  | .hbm, ⟨7, _⟩ => ⟨S256x15360, .i8⟩
  | .hbm, ⟨8, _⟩ => ⟨S256x1, .f32⟩
  | .hbm, ⟨9, _⟩ => ⟨S256x15360, .i8⟩
  | .hbm, ⟨10, _⟩ => ⟨S256x1, .f32⟩
  | .local _ .vmem, ⟨0, _⟩ => ⟨S256x5760, .i8⟩
  | .local _ .vmem, ⟨1, _⟩ => ⟨S256x1, .f32⟩
  | .local _ .vmem, ⟨2, _⟩ => ⟨S5760x15360, .i8⟩
  | .local _ .vmem, ⟨3, _⟩ => ⟨S1x15360, .f32⟩
  | .local _ .vmem, ⟨4, _⟩ => ⟨S1x15360, .f32⟩
  | .local _ .vmem, ⟨5, _⟩ => ⟨S256x15360, .i8⟩
  | .local _ .vmem, ⟨6, _⟩ => ⟨S256x1, .f32⟩
  | .local _ .vmem, ⟨7, _⟩ => ⟨S256x15360, .i8⟩
  | .local _ .vmem, ⟨8, _⟩ => ⟨S256x1, .f32⟩
  | _, _ => ⟨S256x5760, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x5760 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5760x15360 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x15360 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x15360 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x15360 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x15360 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Second.lean ====
abbrev S256x15360 : Shape := ⟨2, ![256, 15360]⟩
abbrev S256x1 : Shape := ⟨2, ![256, 1]⟩
abbrev S15360x5760 : Shape := ⟨2, ![15360, 5760]⟩
abbrev S5760 : Shape := ⟨1, ![5760]⟩
abbrev S256x5760 : Shape := ⟨2, ![256, 5760]⟩
abbrev S1x5760 : Shape := ⟨2, ![1, 5760]⟩
abbrev S15360x384 : Shape := ⟨2, ![15360, 384]⟩
abbrev S1x384 : Shape := ⟨2, ![1, 384]⟩
abbrev S256x384 : Shape := ⟨2, ![256, 384]⟩
abbrev S32x5760 : Shape := ⟨2, ![32, 5760]⟩
abbrev S32 : Shape := ⟨1, ![32]⟩
abbrev S32x1 : Shape := ⟨2, ![32, 1]⟩

abbrev nBuf : Space → Nat
  | .hbm => 17
  | .vmem => 19
  | .smem => 0
  | _ => 0

abbrev bufTy : (tb : Table) → Fin (tcTables nBuf tb) → BufTy
  | .hbm, ⟨0, _⟩ => ⟨S256x15360, .i8⟩
  | .hbm, ⟨1, _⟩ => ⟨S256x1, .f32⟩
  | .hbm, ⟨2, _⟩ => ⟨S15360x5760, .i8⟩
  | .hbm, ⟨3, _⟩ => ⟨S5760, .f32⟩
  | .hbm, ⟨4, _⟩ => ⟨S5760, .f32⟩
  | .hbm, ⟨5, _⟩ => ⟨S256x5760, .i8⟩
  | .hbm, ⟨6, _⟩ => ⟨S256x1, .f32⟩
  | .hbm, ⟨7, _⟩ => ⟨S5760, .f32⟩
  | .hbm, ⟨8, _⟩ => ⟨S5760, .f32⟩
  | .hbm, ⟨9, _⟩ => ⟨S1x5760, .f32⟩
  | .hbm, ⟨10, _⟩ => ⟨S1x5760, .f32⟩
  | .hbm, ⟨11, _⟩ => ⟨S1x5760, .f32⟩
  | .hbm, ⟨12, _⟩ => ⟨S1x5760, .f32⟩
  | .hbm, ⟨13, _⟩ => ⟨S256x5760, .i8⟩
  | .hbm, ⟨14, _⟩ => ⟨S256x1, .f32⟩
  | .hbm, ⟨15, _⟩ => ⟨S256x5760, .i8⟩
  | .hbm, ⟨16, _⟩ => ⟨S256x1, .f32⟩
  | .local _ .vmem, ⟨0, _⟩ => ⟨S256x15360, .i8⟩
  | .local _ .vmem, ⟨1, _⟩ => ⟨S256x1, .f32⟩
  | .local _ .vmem, ⟨2, _⟩ => ⟨S15360x384, .i8⟩
  | .local _ .vmem, ⟨3, _⟩ => ⟨S15360x384, .i8⟩
  | .local _ .vmem, ⟨4, _⟩ => ⟨S1x384, .f32⟩
  | .local _ .vmem, ⟨5, _⟩ => ⟨S1x384, .f32⟩
  | .local _ .vmem, ⟨6, _⟩ => ⟨S1x384, .f32⟩
  | .local _ .vmem, ⟨7, _⟩ => ⟨S1x384, .f32⟩
  | .local _ .vmem, ⟨8, _⟩ => ⟨S256x384, .i8⟩
  | .local _ .vmem, ⟨9, _⟩ => ⟨S256x384, .i8⟩
  | .local _ .vmem, ⟨10, _⟩ => ⟨S256x1, .f32⟩
  | .local _ .vmem, ⟨11, _⟩ => ⟨S1x5760, .f32⟩
  | .local _ .vmem, ⟨12, _⟩ => ⟨S1x5760, .f32⟩
  | .local _ .vmem, ⟨13, _⟩ => ⟨S256x5760, .i8⟩
  | .local _ .vmem, ⟨14, _⟩ => ⟨S256x1, .f32⟩
  | .local _ .vmem, ⟨15, _⟩ => ⟨S256x5760, .i8⟩
  | .local _ .vmem, ⟨16, _⟩ => ⟨S256x1, .f32⟩
  | .local _ .vmem, ⟨17, _⟩ => ⟨S256x15360, .bf16⟩
  | .local _ .vmem, ⟨18, _⟩ => ⟨S256x5760, .f32⟩
  | _, _ => ⟨S256x15360, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![15], ![false]⟩

def k0_mult1 (i : grid0.Coords) : BitVec 32 :=
  let arg0 : BitVec 32 := BitVec.ofNat 32 (i 0).val
  let c384_i32 : BitVec 32 := 384#32
  let v18 : BitVec 32 := Scalar.muli arg0 c384_i32
  v18
def k0_off1 (i : grid0.Coords) : Fin 2 → Nat :=
  let c0_14 : Index := 0#32
  let arg0 : BitVec 32 := BitVec.ofNat 32 (i 0).val
  let c384_i32 : BitVec 32 := 384#32
  let v18 : BitVec 32 := Scalar.muli arg0 c384_i32
  let v19 : BitVec 32 := v18
  let v26 : Index := Scalar.indexCast v19
  ![0, v26.toNat]
def k0_cond2 (i : grid0.Coords) : BitVec 1 :=
  let arg0 : BitVec 32 := BitVec.ofNat 32 (i 0).val
  let c14_i32 : BitVec 32 := 14#32
  let v30 : BitVec 1 := Scalar.cmpi .eq arg0 c14_i32
  let v31 : BitVec 32 := Scalar.extui v30
  let c0_i32_15 : BitVec 32 := 0#32
  let v32 : BitVec 1 := Scalar.cmpi .ne v31 c0_i32_15
  v32

@[reducible] def k0_t1_loop : Scf.Loop 32 :=
  let c0_i32_20 : BitVec 32 := 0#32
  let c8_i32 : BitVec 32 := 8#32
  let v37 : BitVec 32 := Scalar.addi c0_i32_20 c8_i32
  let c1_i32 : BitVec 32 := 1#32
  ⟨c0_i32_20, v37, c1_i32⟩
def k0_off2 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v38 : BitVec 32 := Scalar.muli arg16 c32_i32
  let v39 : Index := Scalar.indexCast v38
  let c0_22 : Index := 0#32
  ![v39.toNat, 0]
def k0_off3 (k0_t1 : Fin k0_t1_loop.trips) : Fin 2 → Nat :=
  let c0_i32_20 : BitVec 32 := 0#32
  let c1_i32 : BitVec 32 := 1#32
  let arg16 : BitVec 32 := Scf.iv c0_i32_20 c1_i32 k0_t1
  let c32_i32 : BitVec 32 := 32#32
  let v38 : BitVec 32 := Scalar.muli arg16 c32_i32
  let v62 : Index := Scalar.indexCast v38
  let c0_28 : Index := 0#32
  ![v62.toNat, 0]
@[reducible] def k0_t2_loop : Scf.Loop 32 :=
  let c0_i32_38 : BitVec 32 := 0#32
  let c24_i32 : BitVec 32 := 24#32
  let v101 : BitVec 32 := Scalar.addi c0_i32_38 c24_i32
  let c1_i32_39 : BitVec 32 := 1#32
  ⟨c0_i32_38, v101, c1_i32_39⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x15360 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S15360x384 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x384 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5760 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x5760 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x5760 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x5760 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== SecondReferenceIdeal.lean ====
abbrev S256x15360 : Shape := ⟨2, ![256, 15360]⟩
abbrev S256x1 : Shape := ⟨2, ![256, 1]⟩
abbrev S15360x5760 : Shape := ⟨2, ![15360, 5760]⟩
abbrev S5760 : Shape := ⟨1, ![5760]⟩
abbrev S256x5760 : Shape := ⟨2, ![256, 5760]⟩
abbrev S1x5760 : Shape := ⟨2, ![1, 5760]⟩
abbrev S256 : Shape := ⟨1, ![256]⟩

abbrev nBuf : Space → Nat
  | .hbm => 17
  | .vmem => 13
  | .smem => 0
  | _ => 0

abbrev bufTy : (tb : Table) → Fin (tcTables nBuf tb) → BufTy
  | .hbm, ⟨0, _⟩ => ⟨S256x15360, .i8⟩
  | .hbm, ⟨1, _⟩ => ⟨S256x1, .f32⟩
  | .hbm, ⟨2, _⟩ => ⟨S15360x5760, .i8⟩
  | .hbm, ⟨3, _⟩ => ⟨S5760, .f32⟩
  | .hbm, ⟨4, _⟩ => ⟨S5760, .f32⟩
  | .hbm, ⟨5, _⟩ => ⟨S256x5760, .i8⟩
  | .hbm, ⟨6, _⟩ => ⟨S256x1, .f32⟩
  | .hbm, ⟨7, _⟩ => ⟨S5760, .f32⟩
  | .hbm, ⟨8, _⟩ => ⟨S5760, .f32⟩
  | .hbm, ⟨9, _⟩ => ⟨S1x5760, .f32⟩
  | .hbm, ⟨10, _⟩ => ⟨S1x5760, .f32⟩
  | .hbm, ⟨11, _⟩ => ⟨S1x5760, .f32⟩
  | .hbm, ⟨12, _⟩ => ⟨S1x5760, .f32⟩
  | .hbm, ⟨13, _⟩ => ⟨S256x5760, .i8⟩
  | .hbm, ⟨14, _⟩ => ⟨S256x1, .f32⟩
  | .hbm, ⟨15, _⟩ => ⟨S256x5760, .i8⟩
  | .hbm, ⟨16, _⟩ => ⟨S256x1, .f32⟩
  | .local _ .vmem, ⟨0, _⟩ => ⟨S256x15360, .i8⟩
  | .local _ .vmem, ⟨1, _⟩ => ⟨S256x1, .f32⟩
  | .local _ .vmem, ⟨2, _⟩ => ⟨S15360x5760, .i8⟩
  | .local _ .vmem, ⟨3, _⟩ => ⟨S1x5760, .f32⟩
  | .local _ .vmem, ⟨4, _⟩ => ⟨S1x5760, .f32⟩
  | .local _ .vmem, ⟨5, _⟩ => ⟨S256x5760, .i8⟩
  | .local _ .vmem, ⟨6, _⟩ => ⟨S256x1, .f32⟩
  | .local _ .vmem, ⟨7, _⟩ => ⟨S1x5760, .f32⟩
  | .local _ .vmem, ⟨8, _⟩ => ⟨S1x5760, .f32⟩
  | .local _ .vmem, ⟨9, _⟩ => ⟨S256x5760, .i8⟩
  | .local _ .vmem, ⟨10, _⟩ => ⟨S256x1, .f32⟩
  | .local _ .vmem, ⟨11, _⟩ => ⟨S256x5760, .i8⟩
  | .local _ .vmem, ⟨12, _⟩ => ⟨S256x1, .f32⟩
  | _, _ => ⟨S256x15360, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

@[reducible] def k0_t1_loop : Scf.Loop 32 :=
  let c0_i32_32 : BitVec 32 := 0#32
  let c24_i32 : BitVec 32 := 24#32
  let v82 : BitVec 32 := Scalar.addi c0_i32_32 c24_i32
  let c1_i32_33 : BitVec 32 := 1#32
  ⟨c0_i32_32, v82, c1_i32_33⟩
abbrev stage0_0 : Fin 1 → Memref sig .tc .vmem S256x15360 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S15360x5760 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5760 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5760 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x5760 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5760 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x5760 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x5760 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x5760 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Third.lean ====
abbrev S256x5760 : Shape := ⟨2, ![256, 5760]⟩
abbrev S256x1 : Shape := ⟨2, ![256, 1]⟩
abbrev S5760x5760 : Shape := ⟨2, ![5760, 5760]⟩
abbrev S5760 : Shape := ⟨1, ![5760]⟩
abbrev S1x5760 : Shape := ⟨2, ![1, 5760]⟩
abbrev S256x640 : Shape := ⟨2, ![256, 640]⟩
abbrev S5760x640 : Shape := ⟨2, ![5760, 640]⟩
abbrev S1x640 : Shape := ⟨2, ![1, 640]⟩
abbrev S32x5760 : Shape := ⟨2, ![32, 5760]⟩
abbrev S32 : Shape := ⟨1, ![32]⟩
abbrev S32x1 : Shape := ⟨2, ![32, 1]⟩

abbrev nBuf : Space → Nat
  | .hbm => 18
  | .vmem => 20
  | .smem => 0
  | _ => 0

abbrev bufTy : (tb : Table) → Fin (tcTables nBuf tb) → BufTy
  | .hbm, ⟨0, _⟩ => ⟨S256x5760, .f32⟩
  | .hbm, ⟨1, _⟩ => ⟨S256x5760, .i8⟩
  | .hbm, ⟨2, _⟩ => ⟨S256x1, .f32⟩
  | .hbm, ⟨3, _⟩ => ⟨S5760x5760, .i8⟩
  | .hbm, ⟨4, _⟩ => ⟨S5760, .f32⟩
  | .hbm, ⟨5, _⟩ => ⟨S5760, .f32⟩
  | .hbm, ⟨6, _⟩ => ⟨S5760, .f32⟩
  | .hbm, ⟨7, _⟩ => ⟨S5760, .f32⟩
  | .hbm, ⟨8, _⟩ => ⟨S1x5760, .f32⟩
  | .hbm, ⟨9, _⟩ => ⟨S1x5760, .f32⟩
  | .hbm, ⟨10, _⟩ => ⟨S1x5760, .f32⟩
  | .hbm, ⟨11, _⟩ => ⟨S1x5760, .f32⟩
  | .hbm, ⟨12, _⟩ => ⟨S256x5760, .i8⟩
  | .hbm, ⟨13, _⟩ => ⟨S256x1, .f32⟩
  | .hbm, ⟨14, _⟩ => ⟨S256x5760, .i8⟩
  | .hbm, ⟨15, _⟩ => ⟨S256x1, .f32⟩
  | .hbm, ⟨16, _⟩ => ⟨S256x5760, .i8⟩
  | .hbm, ⟨17, _⟩ => ⟨S256x1, .f32⟩
  | .local _ .vmem, ⟨0, _⟩ => ⟨S256x5760, .f32⟩
  | .local _ .vmem, ⟨1, _⟩ => ⟨S256x640, .i8⟩
  | .local _ .vmem, ⟨2, _⟩ => ⟨S256x640, .i8⟩
  | .local _ .vmem, ⟨3, _⟩ => ⟨S256x1, .f32⟩
  | .local _ .vmem, ⟨4, _⟩ => ⟨S5760x640, .i8⟩
  | .local _ .vmem, ⟨5, _⟩ => ⟨S5760x640, .i8⟩
  | .local _ .vmem, ⟨6, _⟩ => ⟨S1x640, .f32⟩
  | .local _ .vmem, ⟨7, _⟩ => ⟨S1x640, .f32⟩
  | .local _ .vmem, ⟨8, _⟩ => ⟨S1x640, .f32⟩
  | .local _ .vmem, ⟨9, _⟩ => ⟨S1x640, .f32⟩
  | .local _ .vmem, ⟨10, _⟩ => ⟨S1x5760, .f32⟩
  | .local _ .vmem, ⟨11, _⟩ => ⟨S1x5760, .f32⟩
  | .local _ .vmem, ⟨12, _⟩ => ⟨S256x5760, .i8⟩
  | .local _ .vmem, ⟨13, _⟩ => ⟨S256x1, .f32⟩
  | .local _ .vmem, ⟨14, _⟩ => ⟨S256x5760, .i8⟩
  | .local _ .vmem, ⟨15, _⟩ => ⟨S256x1, .f32⟩
  | .local _ .vmem, ⟨16, _⟩ => ⟨S256x5760, .i8⟩
  | .local _ .vmem, ⟨17, _⟩ => ⟨S256x1, .f32⟩
  | .local _ .vmem, ⟨18, _⟩ => ⟨S256x5760, .bf16⟩
  | .local _ .vmem, ⟨19, _⟩ => ⟨S256x5760, .f32⟩
  | _, _ => ⟨S256x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_16 : BitVec 32 := 0#32
  let c8_i32_17 : BitVec 32 := 8#32
  let v34 : BitVec 32 := Scalar.addi c0_i32_16 c8_i32_17
  let c1_i32 : BitVec 32 := 1#32
  ⟨c0_i32_16, v34, c1_i32⟩
def k0_off1 (k0_t1 : Fin k0_t1_loop.trips) : Fin 2 → Nat :=
  let c0_i32_16 : BitVec 32 := 0#32
  let c1_i32 : BitVec 32 := 1#32
  let arg17 : BitVec 32 := Scf.iv c0_i32_16 c1_i32 k0_t1
  let c32_i32 : BitVec 32 := 32#32
  let v35 : BitVec 32 := Scalar.muli arg17 c32_i32
  let v36 : Index := Scalar.indexCast v35
  let c0_19 : Index := 0#32
  ![v36.toNat, 0]
def k0_off2 (k0_t1 : Fin k0_t1_loop.trips) : Fin 2 → Nat :=
  let c0_i32_16 : BitVec 32 := 0#32
  let c1_i32 : BitVec 32 := 1#32
  let arg17 : BitVec 32 := Scf.iv c0_i32_16 c1_i32 k0_t1
  let c32_i32 : BitVec 32 := 32#32
  let v35 : BitVec 32 := Scalar.muli arg17 c32_i32
  let v64 : Index := Scalar.indexCast v35
  let c0_26 : Index := 0#32
  ![v64.toNat, 0]
def k0_mult1 (i : grid0.Coords) : BitVec 32 :=
  let arg0 : BitVec 32 := BitVec.ofNat 32 (i 0).val
  let c640_i32 : BitVec 32 := 640#32
  let v19 : BitVec 32 := Scalar.muli arg0 c640_i32
  v19
def k0_off3 (i : grid0.Coords) : Fin 2 → Nat :=
  let c0_14 : Index := 0#32
  let arg0 : BitVec 32 := BitVec.ofNat 32 (i 0).val
  let c640_i32 : BitVec 32 := 640#32
  let v19 : BitVec 32 := Scalar.muli arg0 c640_i32
  let v20 : BitVec 32 := v19
  let v27 : Index := Scalar.indexCast v20
  ![0, v27.toNat]
def k0_cond2 (i : grid0.Coords) : BitVec 1 :=
  let arg0 : BitVec 32 := BitVec.ofNat 32 (i 0).val
  let c8_i32 : BitVec 32 := 8#32
  let v31 : BitVec 1 := Scalar.cmpi .eq arg0 c8_i32
  let v32 : BitVec 32 := Scalar.extui v31
  let c0_i32_15 : BitVec 32 := 0#32
  let v33 : BitVec 1 := Scalar.cmpi .ne v32 c0_i32_15
  v33

@[reducible] def k0_t2_loop : Scf.Loop 32 :=
  let c0_i32_20 : BitVec 32 := 0#32
  let c8_i32_21 : BitVec 32 := 8#32
  let v38 : BitVec 32 := Scalar.addi c0_i32_20 c8_i32_21
  let c1_i32 : BitVec 32 := 1#32
  ⟨c0_i32_20, v38, c1_i32⟩
def k0_off4 (k0_t2 : Fin k0_t2_loop.trips) : Fin 2 → Nat :=
  let c0_i32_20 : BitVec 32 := 0#32
  let c1_i32 : BitVec 32 := 1#32
  let arg17 : BitVec 32 := Scf.iv c0_i32_20 c1_i32 k0_t2
  let c32_i32 : BitVec 32 := 32#32
  let v39 : BitVec 32 := Scalar.muli arg17 c32_i32
  let v40 : Index := Scalar.indexCast v39
  let c0_23 : Index := 0#32
  ![v40.toNat, 0]
def k0_off5 (k0_t2 : Fin k0_t2_loop.trips) : Fin 2 → Nat :=
  let c0_i32_20 : BitVec 32 := 0#32
  let c1_i32 : BitVec 32 := 1#32
  let arg17 : BitVec 32 := Scf.iv c0_i32_20 c1_i32 k0_t2
  let c32_i32 : BitVec 32 := 32#32
  let v39 : BitVec 32 := Scalar.muli arg17 c32_i32
  let v63 : Index := Scalar.indexCast v39
  let c0_29 : Index := 0#32
  ![v63.toNat, 0]
@[reducible] def k0_t3_loop : Scf.Loop 32 :=
  let c0_i32_39 : BitVec 32 := 0#32
  let c24_i32 : BitVec 32 := 24#32
  let v102 : BitVec 32 := Scalar.addi c0_i32_39 c24_i32
  let c1_i32_40 : BitVec 32 := 1#32
  ⟨c0_i32_39, v102, c1_i32_40⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x5760 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5760x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x5760 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x5760 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x5760 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x5760 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x5760 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ThirdReferenceIdeal.lean ====
abbrev S256x5760 : Shape := ⟨2, ![256, 5760]⟩
abbrev S256x1 : Shape := ⟨2, ![256, 1]⟩
abbrev S5760x5760 : Shape := ⟨2, ![5760, 5760]⟩
abbrev S5760 : Shape := ⟨1, ![5760]⟩
abbrev S1x5760 : Shape := ⟨2, ![1, 5760]⟩
abbrev S256 : Shape := ⟨1, ![256]⟩

abbrev nBuf : Space → Nat
  | .hbm => 18
  | .vmem => 14
  | .smem => 0
  | _ => 0

abbrev bufTy : (tb : Table) → Fin (tcTables nBuf tb) → BufTy
  | .hbm, ⟨0, _⟩ => ⟨S256x5760, .f32⟩
  | .hbm, ⟨1, _⟩ => ⟨S256x5760, .i8⟩
  | .hbm, ⟨2, _⟩ => ⟨S256x1, .f32⟩
  | .hbm, ⟨3, _⟩ => ⟨S5760x5760, .i8⟩
  | .hbm, ⟨4, _⟩ => ⟨S5760, .f32⟩
  | .hbm, ⟨5, _⟩ => ⟨S5760, .f32⟩
  | .hbm, ⟨6, _⟩ => ⟨S5760, .f32⟩
  | .hbm, ⟨7, _⟩ => ⟨S5760, .f32⟩
  | .hbm, ⟨8, _⟩ => ⟨S1x5760, .f32⟩
  | .hbm, ⟨9, _⟩ => ⟨S1x5760, .f32⟩
  | .hbm, ⟨10, _⟩ => ⟨S1x5760, .f32⟩
  | .hbm, ⟨11, _⟩ => ⟨S1x5760, .f32⟩
  | .hbm, ⟨12, _⟩ => ⟨S256x5760, .i8⟩
  | .hbm, ⟨13, _⟩ => ⟨S256x1, .f32⟩
  | .hbm, ⟨14, _⟩ => ⟨S256x5760, .i8⟩
  | .hbm, ⟨15, _⟩ => ⟨S256x1, .f32⟩
  | .hbm, ⟨16, _⟩ => ⟨S256x5760, .i8⟩
  | .hbm, ⟨17, _⟩ => ⟨S256x1, .f32⟩
  | .local _ .vmem, ⟨0, _⟩ => ⟨S256x5760, .f32⟩
  | .local _ .vmem, ⟨1, _⟩ => ⟨S256x5760, .i8⟩
  | .local _ .vmem, ⟨2, _⟩ => ⟨S256x1, .f32⟩
  | .local _ .vmem, ⟨3, _⟩ => ⟨S5760x5760, .i8⟩
  | .local _ .vmem, ⟨4, _⟩ => ⟨S1x5760, .f32⟩
  | .local _ .vmem, ⟨5, _⟩ => ⟨S1x5760, .f32⟩
  | .local _ .vmem, ⟨6, _⟩ => ⟨S1x5760, .f32⟩
  | .local _ .vmem, ⟨7, _⟩ => ⟨S1x5760, .f32⟩
  | .local _ .vmem, ⟨8, _⟩ => ⟨S256x5760, .i8⟩
  | .local _ .vmem, ⟨9, _⟩ => ⟨S256x1, .f32⟩
  | .local _ .vmem, ⟨10, _⟩ => ⟨S256x5760, .i8⟩
  | .local _ .vmem, ⟨11, _⟩ => ⟨S256x1, .f32⟩
  | .local _ .vmem, ⟨12, _⟩ => ⟨S256x5760, .i8⟩
  | .local _ .vmem, ⟨13, _⟩ => ⟨S256x1, .f32⟩
  | _, _ => ⟨S256x5760, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

@[reducible] def k0_t1_loop : Scf.Loop 32 :=
  let c0_i32_40 : BitVec 32 := 0#32
  let c24_i32 : BitVec 32 := 24#32
  let v102 : BitVec 32 := Scalar.addi c0_i32_40 c24_i32
  let c1_i32_41 : BitVec 32 := 1#32
  ⟨c0_i32_40, v102, c1_i32_41⟩
abbrev stage0_0 : Fin 1 → Memref sig .tc .vmem S256x5760 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x5760 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5760x5760 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5760 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5760 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x5760 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x5760 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x5760 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x5760 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x5760 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Rows.lean ====
/-
  Row and column blocks of two-dimensional arrays, and what a list of stores of such blocks leaves: facts that name no program.
-/
module

public import Idealize.ShloMosaic.Lib.WritesUnit
public import Idealize.ShloMosaic.Lib.ValueIdx

@[expose] public section

noncomputable section

namespace Cert.Proof.Rows

open Idealize.ShloMosaic Idealize.ShloMosaic.ValueIdx

/-- The shape of an `a × b` array. -/
abbrev sh (a b : ℕ) : Shape := ⟨2, ![a, b]⟩

/-- The block of 32 rows from row `32 k` of an array of 256 rows. -/
def blk32 {α : Type} {n : ℕ} (X : (sh 256 n).Idx → α) (k : ℕ) : (sh 32 n).Idx → α :=
  fun x => X (ix2 ⟨(32 * k + (x 0).val) % 256, Nat.mod_lt _ (by decide)⟩ (x 1))

/-- The array of 256 rows whose block of 32 rows from row `32 k` is `f k`. -/
def glue32 {α : Type} {n : ℕ} (f : ℕ → (sh 32 n).Idx → α) : (sh 256 n).Idx → α :=
  fun y => f ((y 0).val / 32) (ix2 ⟨(y 0).val % 32, Nat.mod_lt _ (by decide)⟩ (y 1))

/-- The array with the block of columns from column `b t` replaced by `w`. -/
def putCols {α : Type} {r b n : ℕ} (hb : 0 < b) (t : ℕ) (w : (sh r b).Idx → α) (d : (sh r n).Idx → α) : (sh r n).Idx → α :=
  fun y => if (y 1).val / b = t then w (ix2 (y 0) ⟨(y 1).val % b, Nat.mod_lt _ hb⟩) else d y

section
variable {sig : RefSig} {κ : Kind} {sp : Space} {e : EltTy} {Val : EltTy → Type}

/-- A load of the 32 rows from row `32 k` is that block of what the view reads. -/
theorem readAt_rows {n : ℕ} (v : View sig κ sp (sh 256 n) e) (f : v.ty.Contents Val) {off : Fin 2 → ℕ}
    (inb : ∀ a : Fin 2, off a + (![32, n] : Fin 2 → ℕ) a ≤ (sh 256 n).size a) {k : ℕ} (ho : off = ![32 * k, 0]) :
    v.readAt Val (Rect.unit (s := sh 256 n) off ![32, n] inb).toLoadRect f = blk32 (v.read Val f) k := by
  subst ho
  funext x
  rw [View.readAt_apply]
  unfold blk32
  congr 1
  have h0 : (x 0).val < 32 := (x 0).isLt
  have hk : 32 * k + 32 ≤ 256 := inb 0
  funext a
  match a with
  | ⟨0, _⟩ =>
    apply Fin.ext
    show 32 * k + 1 * (x 0).val = (32 * k + (x 0).val) % 256
    rw [Nat.mod_eq_of_lt (by omega)]; omega
  | ⟨1, _⟩ =>
    apply Fin.ext
    show 0 + 1 * (x 1).val = (x 1).val
    omega

/-- Eight stores of 32 rows each, one below the other, leave the array whose blocks they are. -/
theorem read_writes_rows {n : ℕ} (v : View sig κ sp (sh 256 n) e) (f : v.ty.Contents Val)
    (pb : ℕ → List (View.Piece Val (sh 256 n) e)) (h0 : pb 0 = []) (w : ℕ → (sh 32 n).Idx → Val e)
    (hs : ∀ k < 8, ∃ (off : Fin 2 → ℕ) (inb : ∀ a : Fin 2, off a + (![32, n] : Fin 2 → ℕ) a ≤ (sh 256 n).size a),
      off = ![32 * k, 0] ∧ pb (k + 1) = (⟨Rect.unit (s := sh 256 n) off ![32, n] inb, w k⟩ : View.Piece Val (sh 256 n) e) :: pb k) :
    v.read Val (v.writes Val f (pb 8)) = glue32 w := by
  have main : ∀ k ≤ 8, ∀ y : (sh 256 n).Idx, (y 0).val < 32 * k → v.read Val (v.writes Val f (pb k)) y = glue32 w y := by
    intro k
    induction k with
    | zero => intro _ y hy; omega
    | succ k ih =>
      intro hk y hy
      obtain ⟨off, inb, ho, hp⟩ := hs k (by omega)
      rw [hp]
      by_cases hlt : (y 0).val < 32 * k
      · rw [View.read_writes_cons_unit_of_not_mem v f inb (w k) (pb k) y ho (0 : Fin 2) (Or.inl hlt)]
        exact ih (by omega) y hlt
      · have hd : (y 0).val / 32 = k := by omega
        have hm : (y 0).val = 32 * k + (y 0).val % 32 := by omega
        rw [View.read_writes_cons_unit_of_mem v f inb (w k) (pb k) y
          (ix2 ⟨(y 0).val % 32, Nat.mod_lt _ (by decide)⟩ (y 1)) ho (Fin.forall_fin_two.mpr ⟨hm, (Nat.zero_add _).symm⟩)]
        unfold glue32
        rw [hd]
  funext y
  exact main 8 le_rfl y (by have := (y 0).isLt; exact this)

/-- One store of a block of columns over all rows. -/
theorem read_writes_cols {r b n : ℕ} (hb : 0 < b) (v : View sig κ sp (sh r n) e) (f : v.ty.Contents Val) {off : Fin 2 → ℕ}
    (inb : ∀ a : Fin 2, off a + (![r, b] : Fin 2 → ℕ) a ≤ (sh r n).size a) (w : (sh r b).Idx → Val e) {t : ℕ} (ho : off = ![0, b * t]) :
    v.read Val (v.writes Val f [(⟨Rect.unit (s := sh r n) off ![r, b] inb, w⟩ : View.Piece Val (sh r n) e)])
      = putCols hb t w (v.read Val f) := by
  funext y
  unfold putCols
  by_cases h : (y 1).val / b = t
  · rw [if_pos h]
    have hm : (y 1).val = b * t + (y 1).val % b := by rw [← h, Nat.div_add_mod]
    exact View.read_writes_cons_unit_of_mem v f inb w [] y (ix2 (y 0) ⟨(y 1).val % b, Nat.mod_lt _ hb⟩) ho
      (Fin.forall_fin_two.mpr ⟨(Nat.zero_add _).symm, hm⟩)
  · rw [if_neg h]
    rw [View.read_writes_cons_unit_of_not_mem v f inb w [] y ho (1 : Fin 2)]
    · rfl
    · show (y 1).val < b * t ∨ b * t + b ≤ (y 1).val
      by_contra hc
      apply h
      push Not at hc
      apply Nat.div_eq_of_lt_le
      · rw [Nat.mul_comm]; exact hc.1
      · rw [Nat.mul_comm, Nat.mul_succ]; exact hc.2

/-- A load of a whole array reads it. -/
theorem readAt_whole {a b : ℕ} (v : View sig κ sp (sh a b) e) (f : v.ty.Contents Val)
    (inb : ∀ d : Fin 2, (![0, 0] : Fin 2 → ℕ) d + (![a, b] : Fin 2 → ℕ) d ≤ (sh a b).size d) :
    v.readAt Val (Rect.unit (s := sh a b) ![0, 0] ![a, b] inb).toLoadRect f = v.read Val f := by
  funext x
  rw [View.readAt_apply]
  congr 1
  funext d
  match d with
  | ⟨0, _⟩ => exact Fin.ext (by show 0 + 1 * (x 0).val = (x 0).val; omega)
  | ⟨1, _⟩ => exact Fin.ext (by show 0 + 1 * (x 1).val = (x 1).val; omega)

/-- A store of a whole array leaves it. -/
theorem read_writes_whole {a b : ℕ} (v : View sig κ sp (sh a b) e) (f : v.ty.Contents Val)
    (inb : ∀ d : Fin 2, (![0, 0] : Fin 2 → ℕ) d + (![a, b] : Fin 2 → ℕ) d ≤ (sh a b).size d) (w : (sh a b).Idx → Val e)
    (L : List (View.Piece Val (sh a b) e)) :
    v.read Val (v.writes Val f ((⟨Rect.unit (s := sh a b) ![0, 0] ![a, b] inb, w⟩ : View.Piece Val (sh a b) e) :: L)) = w := by
  funext y
  exact View.read_writes_cons_unit_of_mem v f inb w L y y rfl
    (Fin.forall_fin_two.mpr ⟨(Nat.zero_add _).symm, (Nat.zero_add _).symm⟩)

end

end Cert.Proof.Rows

end
-- ==== Proof.KernelIdealBody.lean ====
/-
  The body of the first feed-forward kernel at one grid point, as three triples: the first point, a point in between, the last
  point. Every buffer is named by what it reads before and after.
-/
module

public import proofs.«01_k».proof.Proof.Gen.KernelIdeal.Frame
public import proofs.«01_k».proof.Proof.Gen.KernelIdeal.Loops
public import proofs.«01_k».proof.Proof.Rows
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rows

variable {F : FTy → Type} [FloatOps F]

local notation "𝕄" => MT nD τ sig Unit (Elt F) ℕ (UR sig nD τ) ℕ

/-! ## The branch conditions in closed form -/

/-- The condition of the first point's branch. -/
abbrev first0 (i : grid0.Coords) : Prop := (Scalar.cmpi .ne (Scalar.extui (Scalar.cmpi .eq (BitVec.ofNat 32 (i 0).val) 0#32)) 0#32) = 1#1
theorem first0_iff : ∀ t : Fin cfg0.N, first0 (grid0.coords t) ↔ t.val = 0 :=
  (fun t => by
    have ht : t.val < 15 := Nat.lt_of_lt_of_eq t.isLt N_0
    have e0 : (grid0.coords t 0).val = t.val / 1 % 15 := Pipeline.Grid.coords_val t 0 (by decide) rfl
    simp only [first0, e0]
    word_cmp
   : ∀ t : Fin grid0.N, first0 (grid0.coords t) ↔ t.val = 0)

/-- The condition of the last point's branch. -/
theorem last0_iff : ∀ t : Fin cfg0.N, k0_cond2 (grid0.coords t) = 1#1 ↔ t.val = 14 :=
  (fun t => by
    have ht : t.val < 15 := Nat.lt_of_lt_of_eq t.isLt N_0
    have e0 : (grid0.coords t 0).val = t.val / 1 % 15 := Pipeline.Grid.coords_val t 0 (by decide) rfl
    simp only [k0_cond2, e0]
    word_cmp
   : ∀ t : Fin grid0.N, k0_cond2 (grid0.coords t) = 1#1 ↔ t.val = 14)

/-! ## What the last point's loop leaves -/

/-- The codes of the rows of `u`, and their scales; the codes of the activation, and their scales: by blocks of 32 rows. -/
def outU (U : Vec F S256x15360 .f32) : Vec F S256x15360 .i8 := glue32 fun k => k0_pay5 (blk32 U k)
def outUs (U : Vec F S256x15360 .f32) : Vec F S256x1 .f32 := glue32 fun k => k0_pay3 (blk32 U k)
def outG (U : Vec F S256x15360 .f32) : Vec F S256x15360 .i8 :=
  glue32 fun k => k0_pay14 (k0_pay3 (blk32 U k)) (k0_pay7 (blk32 U k)) (k0_pay8 (blk32 U k)) (k0_pay9 (blk32 U k)) (k0_pay10 (blk32 U k)) (k0_pay11 (blk32 U k))
def outGs (U : Vec F S256x15360 .f32) : Vec F S256x1 .f32 :=
  glue32 fun k => k0_pay13 (k0_pay3 (blk32 U k)) (k0_pay7 (blk32 U k)) (k0_pay8 (blk32 U k)) (k0_pay9 (blk32 U k)) (k0_pay10 (blk32 U k)) (k0_pay11 (blk32 U k))

section Loop
variable (𝒱 : Variants) (c : Dev nD) (bd : Option 𝒱.V) (i : grid0.Coords) (arg1 : Memref sig .tc .vmem S256x5760 .i8) (harg1 : arg1.IsWhole) (arg2 : Memref sig .tc .vmem S256x1 .f32) (harg2 : arg2.IsWhole) (arg3 : Memref sig .tc .vmem S5760x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x15360 .i8) (harg6 : arg6.IsWhole) (arg7 : Memref sig .tc .vmem S256x1 .f32) (harg7 : arg7.IsWhole) (arg8 : Memref sig .tc .vmem S256x15360 .i8) (harg8 : arg8.IsWhole) (arg9 : Memref sig .tc .vmem S256x1 .f32) (harg9 : arg9.IsWhole) (arg10 : Memref sig .tc .vmem S256x5760 .bf16) (harg10 : arg10.IsWhole) (arg11 : Memref sig .tc .vmem S256x15360 .f32) (harg11 : arg11.IsWhole) (k0_h2 : k0_cond2 i = 1#1) (X : BufTy.Contents (Elt F) arg11.view.ty)

theorem trips0 : k0_t1_loop.trips = 8 := by decide +kernel

set_option maxHeartbeats 1000000 in
/-- One trip's stores. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 k0_h2 X k
      = ([⟨Rect.unit (s := S256x15360) (k0_off2 k) S32x15360.size (k0_off2_inb i k k0_h2), k0_pay5 (blk32 (arg11.view.read (Elt F) X) k.val)⟩],
         [⟨Rect.unit (s := S256x1) (k0_off3 k) S32x1.size (k0_off3_inb i k k0_h2), k0_pay3 (blk32 (arg11.view.read (Elt F) X) k.val)⟩],
         [⟨Rect.unit (s := S256x15360) (k0_off2 k) S32x15360.size (k0_off2_inb i k k0_h2),
            k0_pay14 (k0_pay3 (blk32 (arg11.view.read (Elt F) X) k.val)) (k0_pay7 (blk32 (arg11.view.read (Elt F) X) k.val)) (k0_pay8 (blk32 (arg11.view.read (Elt F) X) k.val)) (k0_pay9 (blk32 (arg11.view.read (Elt F) X) k.val)) (k0_pay10 (blk32 (arg11.view.read (Elt F) X) k.val)) (k0_pay11 (blk32 (arg11.view.read (Elt F) X) k.val))⟩],
         [⟨Rect.unit (s := S256x1) (k0_off3 k) S32x1.size (k0_off3_inb i k k0_h2),
            k0_pay13 (k0_pay3 (blk32 (arg11.view.read (Elt F) X) k.val)) (k0_pay7 (blk32 (arg11.view.read (Elt F) X) k.val)) (k0_pay8 (blk32 (arg11.view.read (Elt F) X) k.val)) (k0_pay9 (blk32 (arg11.view.read (Elt F) X) k.val)) (k0_pay10 (blk32 (arg11.view.read (Elt F) X) k.val)) (k0_pay11 (blk32 (arg11.view.read (Elt F) X) k.val))⟩]) := by
  rw [← readAt_rows arg11.view X (k0_off2_inb i k k0_h2) (k0_off2_eq k)]
  unfold tripL_k0_t1 trip_k0_t1
  rfl

theorem pb_succ (k : ℕ) (hk : k < 8) :
    pb_k0_t1 (F := F) 𝒱 c bd i arg1 harg1 arg2 harg2 arg3 harg3 arg4 harg4 arg5 harg5 arg6 harg6 arg7 harg7 arg8 harg8 arg9 harg9 arg10 harg10 arg11 harg11 k0_h2 X (k + 1)
      = ((tripL_k0_t1 (F := F) 𝒱 c bd i arg1 harg1 arg2 harg2 arg3 harg3 arg4 harg4 arg5 harg5 arg6 harg6 arg7 harg7 arg8 harg8 arg9 harg9 arg10 harg10 arg11 harg11 k0_h2 X ⟨k, by rw [trips0]; exact hk⟩).1 ++ (pb_k0_t1 (F := F) 𝒱 c bd i arg1 harg1 arg2 harg2 arg3 harg3 arg4 harg4 arg5 harg5 arg6 harg6 arg7 harg7 arg8 harg8 arg9 harg9 arg10 harg10 arg11 harg11 k0_h2 X k).1,
         (tripL_k0_t1 (F := F) 𝒱 c bd i arg1 harg1 arg2 harg2 arg3 harg3 arg4 harg4 arg5 harg5 arg6 harg6 arg7 harg7 arg8 harg8 arg9 harg9 arg10 harg10 arg11 harg11 k0_h2 X ⟨k, by rw [trips0]; exact hk⟩).2.1 ++ (pb_k0_t1 (F := F) 𝒱 c bd i arg1 harg1 arg2 harg2 arg3 harg3 arg4 harg4 arg5 harg5 arg6 harg6 arg7 harg7 arg8 harg8 arg9 harg9 arg10 harg10 arg11 harg11 k0_h2 X k).2.1,
         (tripL_k0_t1 (F := F) 𝒱 c bd i arg1 harg1 arg2 harg2 arg3 harg3 arg4 harg4 arg5 harg5 arg6 harg6 arg7 harg7 arg8 harg8 arg9 harg9 arg10 harg10 arg11 harg11 k0_h2 X ⟨k, by rw [trips0]; exact hk⟩).2.2.1 ++ (pb_k0_t1 (F := F) 𝒱 c bd i arg1 harg1 arg2 harg2 arg3 harg3 arg4 harg4 arg5 harg5 arg6 harg6 arg7 harg7 arg8 harg8 arg9 harg9 arg10 harg10 arg11 harg11 k0_h2 X k).2.2.1,
         (tripL_k0_t1 (F := F) 𝒱 c bd i arg1 harg1 arg2 harg2 arg3 harg3 arg4 harg4 arg5 harg5 arg6 harg6 arg7 harg7 arg8 harg8 arg9 harg9 arg10 harg10 arg11 harg11 k0_h2 X ⟨k, by rw [trips0]; exact hk⟩).2.2.2 ++ (pb_k0_t1 (F := F) 𝒱 c bd i arg1 harg1 arg2 harg2 arg3 harg3 arg4 harg4 arg5 harg5 arg6 harg6 arg7 harg7 arg8 harg8 arg9 harg9 arg10 harg10 arg11 harg11 k0_h2 X k).2.2.2) :=
  pb_k0_t1_succ 𝒱 c bd i arg1 harg1 arg2 harg2 arg3 harg3 arg4 harg4 arg5 harg5 arg6 harg6 arg7 harg7 arg8 harg8 arg9 harg9 arg10 harg10 arg11 harg11 k0_h2 X ⟨k, by rw [trips0]; exact hk⟩

theorem loop_outU (f : BufTy.Contents (Elt F) arg6.view.ty) :
    arg6.view.read (Elt F) (arg6.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h2 X k0_t1_loop.trips).1)
      = outU (arg11.view.read (Elt F) X) := by
  rw [trips0]
  exact read_writes_rows arg6.view f (fun k => (pb_k0_t1 (F := F) 𝒱 c bd i arg1 harg1 arg2 harg2 arg3 harg3 arg4 harg4 arg5 harg5 arg6 harg6 arg7 harg7 arg8 harg8 arg9 harg9 arg10 harg10 arg11 harg11 k0_h2 X k).1) rfl _ fun k hk =>
    ⟨_, k0_off2_inb i ⟨k, by rw [trips0]; exact hk⟩ k0_h2, k0_off2_eq _, by beta_reduce; rw [pb_succ 𝒱 c bd i arg1 harg1 arg2 harg2 arg3 harg3 arg4 harg4 arg5 harg5 arg6 harg6 arg7 harg7 arg8 harg8 arg9 harg9 arg10 harg10 arg11 harg11 k0_h2 X k hk, tripL_eq]; rfl⟩
theorem loop_outUs (f : BufTy.Contents (Elt F) arg7.view.ty) :
    arg7.view.read (Elt F) (arg7.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h2 X k0_t1_loop.trips).2.1)
      = outUs (arg11.view.read (Elt F) X) := by
  rw [trips0]
  exact read_writes_rows arg7.view f (fun k => (pb_k0_t1 (F := F) 𝒱 c bd i arg1 harg1 arg2 harg2 arg3 harg3 arg4 harg4 arg5 harg5 arg6 harg6 arg7 harg7 arg8 harg8 arg9 harg9 arg10 harg10 arg11 harg11 k0_h2 X k).2.1) rfl _ fun k hk =>
    ⟨_, k0_off3_inb i ⟨k, by rw [trips0]; exact hk⟩ k0_h2, k0_off3_eq _, by beta_reduce; rw [pb_succ 𝒱 c bd i arg1 harg1 arg2 harg2 arg3 harg3 arg4 harg4 arg5 harg5 arg6 harg6 arg7 harg7 arg8 harg8 arg9 harg9 arg10 harg10 arg11 harg11 k0_h2 X k hk, tripL_eq]; rfl⟩
theorem loop_outG (f : BufTy.Contents (Elt F) arg8.view.ty) :
    arg8.view.read (Elt F) (arg8.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h2 X k0_t1_loop.trips).2.2.1)
      = outG (arg11.view.read (Elt F) X) := by
  rw [trips0]
  exact read_writes_rows arg8.view f (fun k => (pb_k0_t1 (F := F) 𝒱 c bd i arg1 harg1 arg2 harg2 arg3 harg3 arg4 harg4 arg5 harg5 arg6 harg6 arg7 harg7 arg8 harg8 arg9 harg9 arg10 harg10 arg11 harg11 k0_h2 X k).2.2.1) rfl _ fun k hk =>
    ⟨_, k0_off2_inb i ⟨k, by rw [trips0]; exact hk⟩ k0_h2, k0_off2_eq _, by beta_reduce; rw [pb_succ 𝒱 c bd i arg1 harg1 arg2 harg2 arg3 harg3 arg4 harg4 arg5 harg5 arg6 harg6 arg7 harg7 arg8 harg8 arg9 harg9 arg10 harg10 arg11 harg11 k0_h2 X k hk, tripL_eq]; rfl⟩
theorem loop_outGs (f : BufTy.Contents (Elt F) arg9.view.ty) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 k0_h2 X k0_t1_loop.trips).2.2.2)
      = outGs (arg11.view.read (Elt F) X) := by
  rw [trips0]
  exact read_writes_rows arg9.view f (fun k => (pb_k0_t1 (F := F) 𝒱 c bd i arg1 harg1 arg2 harg2 arg3 harg3 arg4 harg4 arg5 harg5 arg6 harg6 arg7 harg7 arg8 harg8 arg9 harg9 arg10 harg10 arg11 harg11 k0_h2 X k).2.2.2) rfl _ fun k hk =>
    ⟨_, k0_off3_inb i ⟨k, by rw [trips0]; exact hk⟩ k0_h2, k0_off3_eq _, by beta_reduce; rw [pb_succ 𝒱 c bd i arg1 harg1 arg2 harg2 arg3 harg3 arg4 harg4 arg5 harg5 arg6 harg6 arg7 harg7 arg8 harg8 arg9 harg9 arg10 harg10 arg11 harg11 k0_h2 X k hk, tripL_eq]; rfl⟩
end Loop

/-! ## The three triples -/

/-- The scratch `u` after point `t`'s store of its block of columns. -/
abbrev putU (t : ℕ) (w : Vec F S256x1024 .f32) (d : Vec F S256x15360 .f32) : Vec F S256x15360 .f32 :=
  putCols (r := 256) (b := 1024) (n := 15360) (by decide) t w d

set_option maxHeartbeats 2000000 in
/-- The first point: the codes become floats in the scratch, and the first block of columns of `u` is stored. -/
theorem run0_A (c : Dev nD) (i : grid0.Coords) (arg1 : Memref sig .tc .vmem S256x5760 .i8) (harg1 : arg1.IsWhole) (arg2 : Memref sig .tc .vmem S256x1 .f32) (harg2 : arg2.IsWhole) (arg3 : Memref sig .tc .vmem S5760x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x15360 .i8) (harg6 : arg6.IsWhole) (arg7 : Memref sig .tc .vmem S256x1 .f32) (harg7 : arg7.IsWhole) (arg8 : Memref sig .tc .vmem S256x15360 .i8) (harg8 : arg8.IsWhole) (arg9 : Memref sig .tc .vmem S256x1 .f32) (harg9 : arg9.IsWhole) (arg10 : Memref sig .tc .vmem S256x5760 .bf16) (harg10 : arg10.IsWhole) (arg11 : Memref sig .tc .vmem S256x15360 .f32) (harg11 : arg11.IsWhole) (hc0 : first0 i) (hc1 : ¬k0_cond2 i = 1#1)
    (x0 : Vec F S256x5760 .i8) (x1 : Vec F S256x1 .f32) (x2 : Vec F S5760x1024 .i8) (x3 : Vec F S1x1024 .f32) (x4 : Vec F S1x1024 .f32)
    (y0 : Vec F S256x15360 .i8) (y1 : Vec F S256x1 .f32) (y2 : Vec F S256x15360 .i8) (y3 : Vec F S256x1 .f32)
    (xs0 : Vec F S256x5760 .bf16) (xs1 : Vec F S256x15360 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare (k0_pay1 x0) ∗ owns (c : Thread nD τ) arg11 fullShare (putU (i 0).val (k0_pay2 (k0_pay1 x0) x2 x1 x3 x4) xs1)) -∗ K ⟨⟩))
      ⊢ wp frame (wpE (defs₀ (F := F)) Variants.none c none) E (cc0_fc1_gelu i arg1 harg1 arg2 harg2 arg3 harg3 arg4 harg4 arg5 harg5 arg6 harg6 arg7 harg7 arg8 harg8 arg9 harg9 arg10 harg10 arg11 harg11) K := by
  simp only [cc0_fc1_gelu_eq_skeleton]; unfold cc0_fc1_gelu_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs0
  sl_exec (disch := first | sl_exact hc0 | sl_exact hc1)
  sl_step
  have e0 := (readAt_whole arg1.view (harg1.unread x0) inb_S256x5760_S256x5760_0_0).trans (harg1.read_unread x0)
  have e1 := (readAt_whole arg2.view (harg2.unread x1) inb_S256x1_S256x1_0_0).trans (harg2.read_unread x1)
  have e2 := (readAt_whole arg3.view (harg3.unread x2) inb_S5760x1024_S5760x1024_0_0).trans (harg3.read_unread x2)
  have e3 := (readAt_whole arg4.view (harg4.unread x3) inb_S1x1024_S1x1024_0_0).trans (harg4.read_unread x3)
  have e4 := (readAt_whole arg5.view (harg5.unread x4) inb_S1x1024_S1x1024_0_0).trans (harg5.read_unread x4)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have e10 : run0_A.sl.v3 c arg1 harg1 arg10 x0 = k0_pay1 x0 := by
    unfold run0_A.sl.v3 run0_A.sl.HS0_1 View.readCov
    exact (readAt_whole arg10.view _ inb_S256x5760_S256x5760_0_0).trans ((read_writes_whole arg10.view _ inb_S256x5760_S256x5760_0_0 _ []).trans (congrArg k0_pay1 e0))
  have hW := congr (congr (congr (congr (congrArg (k0_pay2 (F := F)) e10) e2) e1) e3) e4
  have hU := (read_writes_cols (by decide) arg11.view fs1 (k0_off1_inb i) _ (k0_off1_eq i)).trans (congrArg₂ (putU (i 0).val) hW hfs1)
  isplitl [G0]
  · iexists _; isplitr; swap; · iexact G0
    ipureintro; exact hg0
  isplitl [G1]
  · iexists _; isplitr; swap; · iexact G1
    ipureintro; exact hg1
  isplitl [G2]
  · iexists _; isplitr; swap; · iexact G2
    ipureintro; exact hg2
  isplitl [G3]
  · iexists _; isplitr; swap; · iexact G3
    ipureintro; exact hg3
  isplitl [HS0]
  · iexists _; isplitr; swap; · iexact HS0
    ipureintro; unfold run0_A.sl.HS0_1
    exact (read_writes_whole arg10.view _ inb_S256x5760_S256x5760_0_0 _ []).trans (congrArg k0_pay1 e0)
  iexists _; isplitr; swap; · iexact HS1
  ipureintro; exact hU

set_option maxHeartbeats 2000000 in
/-- A point in between: one block of columns of `u` is stored. -/
theorem run0_B (c : Dev nD) (i : grid0.Coords) (arg1 : Memref sig .tc .vmem S256x5760 .i8) (harg1 : arg1.IsWhole) (arg2 : Memref sig .tc .vmem S256x1 .f32) (harg2 : arg2.IsWhole) (arg3 : Memref sig .tc .vmem S5760x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x15360 .i8) (harg6 : arg6.IsWhole) (arg7 : Memref sig .tc .vmem S256x1 .f32) (harg7 : arg7.IsWhole) (arg8 : Memref sig .tc .vmem S256x15360 .i8) (harg8 : arg8.IsWhole) (arg9 : Memref sig .tc .vmem S256x1 .f32) (harg9 : arg9.IsWhole) (arg10 : Memref sig .tc .vmem S256x5760 .bf16) (harg10 : arg10.IsWhole) (arg11 : Memref sig .tc .vmem S256x15360 .f32) (harg11 : arg11.IsWhole) (hc0 : ¬first0 i) (hc1 : ¬k0_cond2 i = 1#1)
    (x0 : Vec F S256x5760 .i8) (x1 : Vec F S256x1 .f32) (x2 : Vec F S5760x1024 .i8) (x3 : Vec F S1x1024 .f32) (x4 : Vec F S1x1024 .f32)
    (y0 : Vec F S256x15360 .i8) (y1 : Vec F S256x1 .f32) (y2 : Vec F S256x15360 .i8) (y3 : Vec F S256x1 .f32)
    (xs0 : Vec F S256x5760 .bf16) (xs1 : Vec F S256x15360 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare (putU (i 0).val (k0_pay2 xs0 x2 x1 x3 x4) xs1)) -∗ K ⟨⟩))
      ⊢ wp frame (wpE (defs₀ (F := F)) Variants.none c none) E (cc0_fc1_gelu i arg1 harg1 arg2 harg2 arg3 harg3 arg4 harg4 arg5 harg5 arg6 harg6 arg7 harg7 arg8 harg8 arg9 harg9 arg10 harg10 arg11 harg11) K := by
  simp only [cc0_fc1_gelu_eq_skeleton]; unfold cc0_fc1_gelu_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs0
  sl_exec (disch := first | sl_exact hc0 | sl_exact hc1)
  sl_step
  have e0 := (readAt_whole arg1.view (harg1.unread x0) inb_S256x5760_S256x5760_0_0).trans (harg1.read_unread x0)
  have e1 := (readAt_whole arg2.view (harg2.unread x1) inb_S256x1_S256x1_0_0).trans (harg2.read_unread x1)
  have e2 := (readAt_whole arg3.view (harg3.unread x2) inb_S5760x1024_S5760x1024_0_0).trans (harg3.read_unread x2)
  have e3 := (readAt_whole arg4.view (harg4.unread x3) inb_S1x1024_S1x1024_0_0).trans (harg4.read_unread x3)
  have e4 := (readAt_whole arg5.view (harg5.unread x4) inb_S1x1024_S1x1024_0_0).trans (harg5.read_unread x4)
  have e10 := (readAt_whole arg10.view (harg10.unread xs0) inb_S256x5760_S256x5760_0_0).trans (harg10.read_unread xs0)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have hW := congr (congr (congr (congr (congrArg (k0_pay2 (F := F)) e10) e2) e1) e3) e4
  have hU := (read_writes_cols (by decide) arg11.view fs1 (k0_off1_inb i) _ (k0_off1_eq i)).trans (congrArg₂ (putU (i 0).val) hW hfs1)
  isplitl [G0]
  · iexists _; isplitr; swap; · iexact G0
    ipureintro; exact hg0
  isplitl [G1]
  · iexists _; isplitr; swap; · iexact G1
    ipureintro; exact hg1
  isplitl [G2]
  · iexists _; isplitr; swap; · iexact G2
    ipureintro; exact hg2
  isplitl [G3]
  · iexists _; isplitr; swap; · iexact G3
    ipureintro; exact hg3
  isplitl [HS0]
  · iexists _; isplitr; swap; · iexact HS0
    ipureintro; exact harg10.read_unread _
  iexists _; isplitr; swap; · iexact HS1
  ipureintro; exact hU

set_option maxHeartbeats 2000000 in
/-- The last point: the last block of columns of `u` is stored, and the loop over blocks of rows fills the results. -/
theorem run0_C (c : Dev nD) (i : grid0.Coords) (arg1 : Memref sig .tc .vmem S256x5760 .i8) (harg1 : arg1.IsWhole) (arg2 : Memref sig .tc .vmem S256x1 .f32) (harg2 : arg2.IsWhole) (arg3 : Memref sig .tc .vmem S5760x1024 .i8) (harg3 : arg3.IsWhole) (arg4 : Memref sig .tc .vmem S1x1024 .f32) (harg4 : arg4.IsWhole) (arg5 : Memref sig .tc .vmem S1x1024 .f32) (harg5 : arg5.IsWhole) (arg6 : Memref sig .tc .vmem S256x15360 .i8) (harg6 : arg6.IsWhole) (arg7 : Memref sig .tc .vmem S256x1 .f32) (harg7 : arg7.IsWhole) (arg8 : Memref sig .tc .vmem S256x15360 .i8) (harg8 : arg8.IsWhole) (arg9 : Memref sig .tc .vmem S256x1 .f32) (harg9 : arg9.IsWhole) (arg10 : Memref sig .tc .vmem S256x5760 .bf16) (harg10 : arg10.IsWhole) (arg11 : Memref sig .tc .vmem S256x15360 .f32) (harg11 : arg11.IsWhole) (hc0 : ¬first0 i) (hc1 : k0_cond2 i = 1#1)
    (x0 : Vec F S256x5760 .i8) (x1 : Vec F S256x1 .f32) (x2 : Vec F S5760x1024 .i8) (x3 : Vec F S1x1024 .f32) (x4 : Vec F S1x1024 .f32)
    (y0 : Vec F S256x15360 .i8) (y1 : Vec F S256x1 .f32) (y2 : Vec F S256x15360 .i8) (y3 : Vec F S256x1 .f32)
    (xs0 : Vec F S256x5760 .bf16) (xs1 : Vec F S256x15360 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare y0 ∗ owns (c : Thread nD τ) arg7 fullShare y1 ∗ owns (c : Thread nD τ) arg8 fullShare y2 ∗ owns (c : Thread nD τ) arg9 fullShare y3 ∗ owns (c : Thread nD τ) arg10 fullShare xs0 ∗ owns (c : Thread nD τ) arg11 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outU (putU (i 0).val (k0_pay2 xs0 x2 x1 x3 x4) xs1)) ∗ owns (c : Thread nD τ) arg7 fullShare (outUs (putU (i 0).val (k0_pay2 xs0 x2 x1 x3 x4) xs1)) ∗ owns (c : Thread nD τ) arg8 fullShare (outG (putU (i 0).val (k0_pay2 xs0 x2 x1 x3 x4) xs1)) ∗ owns (c : Thread nD τ) arg9 fullShare (outGs (putU (i 0).val (k0_pay2 xs0 x2 x1 x3 x4) xs1)) ∗ owns (c : Thread nD τ) arg10 fullShare xs0 ∗ owns (c : Thread nD τ) arg11 fullShare (putU (i 0).val (k0_pay2 xs0 x2 x1 x3 x4) xs1)) -∗ K ⟨⟩))
      ⊢ wp frame (wpE (defs₀ (F := F)) Variants.none c none) E (cc0_fc1_gelu i arg1 harg1 arg2 harg2 arg3 harg3 arg4 harg4 arg5 harg5 arg6 harg6 arg7 harg7 arg8 harg8 arg9 harg9 arg10 harg10 arg11 harg11) K := by
  simp only [cc0_fc1_gelu_eq_skeleton]; unfold cc0_fc1_gelu_skel
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, ⟨%g3, %hg3, G3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg10.eq_unread hfs0
  sl_exec (disch := first | sl_exact hc0 | sl_exact hc1)
  sl_step
  have e0 := (readAt_whole arg1.view (harg1.unread x0) inb_S256x5760_S256x5760_0_0).trans (harg1.read_unread x0)
  have e1 := (readAt_whole arg2.view (harg2.unread x1) inb_S256x1_S256x1_0_0).trans (harg2.read_unread x1)
  have e2 := (readAt_whole arg3.view (harg3.unread x2) inb_S5760x1024_S5760x1024_0_0).trans (harg3.read_unread x2)
  have e3 := (readAt_whole arg4.view (harg4.unread x3) inb_S1x1024_S1x1024_0_0).trans (harg4.read_unread x3)
  have e4 := (readAt_whole arg5.view (harg5.unread x4) inb_S1x1024_S1x1024_0_0).trans (harg5.read_unread x4)
  have e10 := (readAt_whole arg10.view (harg10.unread xs0) inb_S256x5760_S256x5760_0_0).trans (harg10.read_unread xs0)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  have hW := congr (congr (congr (congr (congrArg (k0_pay2 (F := F)) e10) e2) e1) e3) e4
  have hU := (read_writes_cols (by decide) arg11.view fs1 (k0_off1_inb i) _ (k0_off1_eq i)).trans (congrArg₂ (putU (i 0).val) hW hfs1)
  isplitl [G0]
  · iexists _; isplitr; swap; · iexact G0
    ipureintro; exact (loop_outU Variants.none c none i arg1 harg1 arg2 harg2 arg3 harg3 arg4 harg4 arg5 harg5 arg6 harg6 arg7 harg7 arg8 harg8 arg9 harg9 arg10 harg10 arg11 harg11 hc1 _ _).trans (congrArg outU hU)
  isplitl [G1]
  · iexists _; isplitr; swap; · iexact G1
    ipureintro; exact (loop_outUs Variants.none c none i arg1 harg1 arg2 harg2 arg3 harg3 arg4 harg4 arg5 harg5 arg6 harg6 arg7 harg7 arg8 harg8 arg9 harg9 arg10 harg10 arg11 harg11 hc1 _ _).trans (congrArg outUs hU)
  isplitl [G2]
  · iexists _; isplitr; swap; · iexact G2
    ipureintro; exact (loop_outG Variants.none c none i arg1 harg1 arg2 harg2 arg3 harg3 arg4 harg4 arg5 harg5 arg6 harg6 arg7 harg7 arg8 harg8 arg9 harg9 arg10 harg10 arg11 harg11 hc1 _ _).trans (congrArg outG hU)
  isplitl [G3]
  · iexists _; isplitr; swap; · iexact G3
    ipureintro; exact (loop_outGs Variants.none c none i arg1 harg1 arg2 harg2 arg3 harg3 arg4 harg4 arg5 harg5 arg6 harg6 arg7 harg7 arg8 harg8 arg9 harg9 arg10 harg10 arg11 harg11 hc1 _ _).trans (congrArg outGs hU)
  isplitl [HS0]
  · iexists _; isplitr; swap; · iexact HS0
    ipureintro; exact harg10.read_unread _
  iexists _; isplitr; swap; · iexact HS1
  ipureintro; exact hU

end Cert.KernelIdeal.Gen

end
-- ==== Proof.KernelIdealRun.lean ====
/-
  The run of the first feed-forward kernel over its grid: what the scratch holds between points, the body's triple at every
  point, the launch, and the arrays' final contents.
-/
module

public import proofs.«01_k».proof.Proof.KernelIdealBody
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers, the scratch, the idle points -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev scM0_0 : Memref sig .tc .vmem S256x5760 .bf16 := Memref.whole cc0_scratch0
abbrev scM0_1 : Memref sig .tc .vmem S256x15360 .f32 := Memref.whole cc0_scratch1

/-- The region's invariant before its first point: each scratch at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem idleAt0_5 : ∀ t : Fin cfg0.N, t.val ≠ 14 → cfg0.idle 5 (grid0.coords t) = true := by decide +kernel
theorem lastAt0_5 : ∀ t : Fin cfg0.N, t.val = 14 → cfg0.idle 5 (grid0.coords t) = false := by decide +kernel
theorem noFlush0_5 : ∀ t : Fin cfg0.N, t.val ≠ 14 → (cfg0.win 5).flush t = false := by decide +kernel
theorem idleAt0_6 : ∀ t : Fin cfg0.N, t.val ≠ 14 → cfg0.idle 6 (grid0.coords t) = true := by decide +kernel
theorem lastAt0_6 : ∀ t : Fin cfg0.N, t.val = 14 → cfg0.idle 6 (grid0.coords t) = false := by decide +kernel
theorem noFlush0_6 : ∀ t : Fin cfg0.N, t.val ≠ 14 → (cfg0.win 6).flush t = false := by decide +kernel
theorem idleAt0_7 : ∀ t : Fin cfg0.N, t.val ≠ 14 → cfg0.idle 7 (grid0.coords t) = true := by decide +kernel
theorem lastAt0_7 : ∀ t : Fin cfg0.N, t.val = 14 → cfg0.idle 7 (grid0.coords t) = false := by decide +kernel
theorem noFlush0_7 : ∀ t : Fin cfg0.N, t.val ≠ 14 → (cfg0.win 7).flush t = false := by decide +kernel
theorem idleAt0_8 : ∀ t : Fin cfg0.N, t.val ≠ 14 → cfg0.idle 8 (grid0.coords t) = true := by decide +kernel
theorem lastAt0_8 : ∀ t : Fin cfg0.N, t.val = 14 → cfg0.idle 8 (grid0.coords t) = false := by decide +kernel
theorem noFlush0_8 : ∀ t : Fin cfg0.N, t.val ≠ 14 → (cfg0.win 8).flush t = false := by decide +kernel
theorem coord0 : ∀ t : Fin cfg0.N, (grid0.coords t 0).val = t.val := by decide +kernel

/-! ## The matrix `u` -/

/-- The grid point that computes a column of `u`. -/
def pt0 (y : S256x15360.Idx) : Fin cfg0.N := ⟨(y 1).val / 1024, by
  have h : (y 1).val < 15360 := (y 1).isLt
  exact lt_of_lt_of_eq (by omega) N_0.symm⟩

/-- Point 0. -/
abbrev p0 : Fin cfg0.N := ⟨0, lt_of_lt_of_eq (by decide) N_0.symm⟩

/-- `u`, every block of columns by the point that computes it. -/
def Umat (c : Dev nD) : Vec F S256x15360 .f32 := fun y =>
  k0_pay2 (k0_pay1 (iblk m c 0 p0)) (iblk m c 2 (pt0 y)) (iblk m c 1 (pt0 y)) (iblk m c 3 (pt0 y)) (iblk m c 4 (pt0 y))
    (ix2 (y 0) ⟨(y 1).val % 1024, Nat.mod_lt _ (by decide)⟩)

/-- The columns stored before point `n` are those of `u`. -/
def Upto (c : Dev nD) (n : ℕ) (d : Vec F S256x15360 .f32) : Prop :=
  ∀ y : S256x15360.Idx, (y 1).val / 1024 < n → d y = Umat m c y

theorem upto_step (c : Dev nD) (t : Fin cfg0.N) (d : Vec F S256x15360 .f32) (h : Upto m c t.val d) :
    Upto m c (t.val + 1) (putU (grid0.coords t 0).val (k0_pay2 (k0_pay1 (iblk m c 0 p0)) (iblk m c 2 t) (iblk m c 1 t) (iblk m c 3 t) (iblk m c 4 t)) d) := by
  intro y hy
  rw [coord0]
  unfold putU putCols
  by_cases e : (y 1).val / 1024 = t.val
  · rw [if_pos e]
    have ep : pt0 y = t := Fin.ext e
    unfold Umat
    rw [ep]
  · rw [if_neg e]
    exact h y (by omega)

theorem upto_zero (c : Dev nD) (d : Vec F S256x15360 .f32) : Upto m c 0 d := fun _ h => absurd h (Nat.not_lt_zero _)

theorem upto_all (c : Dev nD) (d : Vec F S256x15360 .f32) (h : Upto m c 15 d) : d = Umat m c :=
  funext fun y => h y (by
    have h : (y 1).val < 15360 := (y 1).isLt
    omega)

/-! ## The invariant and the proof data -/

/-- Before the first point, each scratch at anything; after point `n`, the first scratch at the input codes as floats and the
    second with the columns stored so far. -/
def PhiS (c : Dev nD) : (n : ℕ) → n ≤ cfg0.N → sProp 𝕄
  | 0, _ => Pipeline.ΦA spec0 c
  | n + 1, hn => iprop(iprop(owns (c : Thread nD τ) scM0_0 fullShare (k0_pay1 (iblk m c 0 p0))
      ∗ (∃ d, ⌜Upto m c (n + 1) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (k0_pay1 (iblk m c 0 p0))
      ∗ (∃ d, ⌜Upto m c (n + 1) d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (k0_pay1 (iblk m c 0 p0))
      ∗ (∃ d, ⌜Upto m c n d⌝ ∗ owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outU (Umat m c)
    | ⟨6, _⟩ => outUs (Umat m c)
    | ⟨7, _⟩ => outG (Umat m c)
    | ⟨8, _⟩ => outGs (Umat m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outU (Umat m c) := by dsimp only [dats]
theorem after0_6 (c : Dev nD) (t : Fin cfg0.N) : (dats m 0 c).after 6 t = outUs (Umat m c) := by dsimp only [dats]
theorem after0_7 (c : Dev nD) (t : Fin cfg0.N) : (dats m 0 c).after 7 t = outG (Umat m c) := by dsimp only [dats]
theorem after0_8 (c : Dev nD) (t : Fin cfg0.N) : (dats m 0 c).after 8 t = outGs (Umat m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 15 := lt_of_lt_of_eq t.isLt (show cfg0.N = 15 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  by_cases h0 : t.val = 0
  · have h1 : t.val ≠ 14 := by omega
    rw [Dat.leavesExact_idle (dats m 0 c) 5 t (idleAt0_5 t h1) (noFlush0_5 t h1)]
    rw [Dat.leavesExact_idle (dats m 0 c) 6 t (idleAt0_6 t h1) (noFlush0_6 t h1)]
    rw [Dat.leavesExact_idle (dats m 0 c) 7 t (idleAt0_7 t h1) (noFlush0_7 t h1)]
    rw [Dat.leavesExact_idle (dats m 0 c) 8 t (idleAt0_8 t h1) (noFlush0_8 t h1)]
    rw [PhiS_castSucc m c t, PhiS_zero m c _ _ h0, PhiA0_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (run0_A c (grid0.coords t) _ _ _ _ _ _ _ _ _ _ _ _ _ _ _ _ _ _ _ _ _ _ ((first0_iff t).mpr h0) (fun h => h1 ((last0_iff t).mp h)) (iblk m c 0 t) (iblk m c 1 t) (iblk m c 2 t) (iblk m c 3 t) (iblk m c 4 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    have ht : t = p0 := Fin.ext h0
    have hu : Upto m c t.val s1 := by rw [h0]; exact upto_zero m c s1
    have hn := upto_step m c t s1 hu
    isplitl [HS0 HS1 Hg]
    · isplitl [HS0 HS1]
      · isplitl [HS0]
        · rw [← ht]; iexact HS0
        iexists _; isplitr; swap; · iexact HS1
        ipureintro; rw [← ht] at hn; exact hn
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iexists _; iexact H8
  · by_cases h1 : t.val = 14
    · rw [show (dats m 0 c).leavesExact 5 t = owns (c : Thread nD τ) (ms0_5 t) fullShare ((dats m 0 c).after 5 t) from by
        unfold Dat.leavesExact; rw [lastAt0_5 t h1], after0_5]
      rw [show (dats m 0 c).leavesExact 6 t = owns (c : Thread nD τ) (ms0_6 t) fullShare ((dats m 0 c).after 6 t) from by
        unfold Dat.leavesExact; rw [lastAt0_6 t h1], after0_6]
      rw [show (dats m 0 c).leavesExact 7 t = owns (c : Thread nD τ) (ms0_7 t) fullShare ((dats m 0 c).after 7 t) from by
        unfold Dat.leavesExact; rw [lastAt0_7 t h1], after0_7]
      rw [show (dats m 0 c).leavesExact 8 t = owns (c : Thread nD τ) (ms0_8 t) fullShare ((dats m 0 c).after 8 t) from by
        unfold Dat.leavesExact; rw [lastAt0_8 t h1], after0_8]
      rw [PhiS_castSucc m c t, PhiS_pos m c _ _ h0]
      iintro ⟨⟨⟨HS0, ⟨%s1, %hu, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_C c (grid0.coords t) _ _ _ _ _ _ _ _ _ _ _ _ _ _ _ _ _ _ _ _ _ _ (fun h => h0 ((first0_iff t).mp h)) ((last0_iff t).mpr h1) (iblk m c 0 t) (iblk m c 1 t) (iblk m c 2 t) (iblk m c 3 t) (iblk m c 4 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      have hn := upto_step m c t s1 hu
      have hU := upto_all m c _ (by rw [show t.val + 1 = 15 by omega] at hn; exact hn)
      rw [hU] at hn ⊢
      isplitl [HS0 HS1 Hg]
      · isplitl [HS0 HS1]
        · isplitl [HS0]
          · iexact HS0
          iexists _; isplitr; swap; · iexact HS1
          ipureintro; exact hn
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · rw [Dat.leavesExact_idle (dats m 0 c) 5 t (idleAt0_5 t h1) (noFlush0_5 t h1)]
      rw [Dat.leavesExact_idle (dats m 0 c) 6 t (idleAt0_6 t h1) (noFlush0_6 t h1)]
      rw [Dat.leavesExact_idle (dats m 0 c) 7 t (idleAt0_7 t h1) (noFlush0_7 t h1)]
      rw [Dat.leavesExact_idle (dats m 0 c) 8 t (idleAt0_8 t h1) (noFlush0_8 t h1)]
      rw [PhiS_castSucc m c t, PhiS_pos m c _ _ h0]
      iintro ⟨⟨⟨HS0, ⟨%s1, %hu, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (run0_B c (grid0.coords t) _ _ _ _ _ _ _ _ _ _ _ _ _ _ _ _ _ _ _ _ _ _ (fun h => h0 ((first0_iff t).mp h)) (fun h => h1 ((last0_iff t).mp h)) (iblk m c 0 t) (iblk m c 1 t) (iblk m c 2 t) (iblk m c 3 t) (iblk m c 4 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      have hn := upto_step m c t s1 hu
      isplitl [HS0 HS1 Hg]
      · isplitl [HS0 HS1]
        · isplitl [HS0]
          · iexact HS0
          iexists _; isplitr; swap; · iexact HS1
          ipureintro; exact hn
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      iexists _; iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 15 := N_0; omega), PhiA0_eq]
  iintro ⟨⟨HS0, ⟨%s1, %hu, HS1⟩⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.SecondIdealBody.lean ====
/-
  The body of the second feed-forward kernel at one grid point, as three triples: the first point, a point in between, the last
  point. Every buffer is named by what it reads before and after.
-/
module

public import proofs.«01_k».proof.Proof.Gen.SecondIdeal.Frame
public import proofs.«01_k».proof.Proof.Gen.SecondIdeal.Loops
public import proofs.«01_k».proof.Proof.Rows
public import Idealize.ShloMosaic.Lib.WordCmp

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rows

variable {F : FTy → Type} [FloatOps F]

local notation "𝕄" => MT nD τ sig Unit (Elt F) ℕ (UR sig nD τ) ℕ

/-! ## The branch conditions in closed form -/

/-- The condition of the first point's branch. -/
abbrev first0 (i : grid0.Coords) : Prop := (Scalar.cmpi .ne (Scalar.extui (Scalar.cmpi .eq (BitVec.ofNat 32 (i 0).val) 0#32)) 0#32) = 1#1
theorem first0_iff : ∀ t : Fin cfg0.N, first0 (grid0.coords t) ↔ t.val = 0 :=
  (fun t => by
    have ht : t.val < 15 := Nat.lt_of_lt_of_eq t.isLt N_0
    have e0 : (grid0.coords t 0).val = t.val / 1 % 15 := Pipeline.Grid.coords_val t 0 (by decide) rfl
    simp only [first0, e0]
    word_cmp
   : ∀ t : Fin grid0.N, first0 (grid0.coords t) ↔ t.val = 0)

/-- The condition of the last point's branch. -/
theorem last0_iff : ∀ t : Fin cfg0.N, k0_cond2 (grid0.coords t) = 1#1 ↔ t.val = 14 :=
  (fun t => by
    have ht : t.val < 15 := Nat.lt_of_lt_of_eq t.isLt N_0
    have e0 : (grid0.coords t 0).val = t.val / 1 % 15 := Pipeline.Grid.coords_val t 0 (by decide) rfl
    simp only [k0_cond2, e0]
    word_cmp
   : ∀ t : Fin grid0.N, k0_cond2 (grid0.coords t) = 1#1 ↔ t.val = 14)

/-! ## The last point's loop over blocks of rows

The Newton loop inside one trip has no effects: a run meets it as the fold of its step. -/

set_option maxRecDepth 8192
set_option maxHeartbeats 4000000

section Newton
variable (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v58 : FVec F S32x5760 .f32) (v66 : IVec S32x1 32) (v68 : IVec S32x1 32) (v75 : IVec S32x1 32) (c5760 v77 : BitVec 32) (v78 : BitVec 1)

/-- One Newton step returns its value. -/
theorem t2_body_eq (k : Fin k0_t2_loop.trips) (r : IVec S32x1 32) :
    k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v58 v66 c5760 v68 v75 v77 v78 k r
      = .ret (k0_pay19 r (k0_pay7 (k0_pay17 v58 v66 c5760 v68 v75 v77 v78) r) (k0_pay8 (k0_pay17 v58 v66 c5760 v68 v75 v77 v78) r) k0_pay9) := by
  unfold k0_t2_body; simp only [k0_part1_eq_skeleton]; unfold k0_part1_skel; rfl

/-- The Newton loop returns the fold of its step. -/
theorem part3_eq :
    k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v58 v66 c5760 v68 v75 v77 v78
      = pure ⟨k0_pay16 v58 v66 c5760 v68 v75 v77 v78,
          k0_pay20 (Scf.fold (fun (_ : Fin k0_t2_loop.trips) r => k0_pay19 r (k0_pay7 (k0_pay17 v58 v66 c5760 v68 v75 v77 v78) r) (k0_pay8 (k0_pay17 v58 v66 c5760 v68 v75 v77 v78) r) k0_pay9) k0_pay18),
          k0_pay21 (Scf.fold (fun (_ : Fin k0_t2_loop.trips) r => k0_pay19 r (k0_pay7 (k0_pay17 v58 v66 c5760 v68 v75 v77 v78) r) (k0_pay8 (k0_pay17 v58 v66 c5760 v68 v75 v77 v78) r) k0_pay9) k0_pay18), 1#32⟩ := by
  rw [k0_part3_eq_skeleton]; unfold k0_part3_skel
  unfold Scf.Loop.for
  rw [Scf.for_pure _ _ _ _ _ _ _ (fun k r => t2_body_eq i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v58 v66 v68 v75 c5760 v77 v78 k r)]
  rfl
end Newton

/-- What one trip of the loop over blocks of rows reads and writes. -/
abbrev Trip_k0_t1 (c : Dev nD) (arg15 : Memref sig .tc .vmem S256x5760 .f32) (arg10 : Memref sig .tc .vmem S256x5760 .i8) (arg11 : Memref sig .tc .vmem S256x1 .f32) (arg12 : Memref sig .tc .vmem S256x5760 .i8) (arg13 : Memref sig .tc .vmem S256x1 .f32) (X_arg15 : BufTy.Contents (Elt F) arg15.view.ty) (f_arg10 : BufTy.Contents (Elt F) arg10.view.ty) (f_arg11 : BufTy.Contents (Elt F) arg11.view.ty) (f_arg12 : BufTy.Contents (Elt F) arg12.view.ty) (f_arg13 : BufTy.Contents (Elt F) arg13.view.ty) : sProp 𝕄 :=
  iprop((arg15.view.loc (c : Thread nD τ) ↦[arg15.view.set]{fullShare} X_arg15) ∗ (arg10.view.loc (c : Thread nD τ) ↦[arg10.view.set]{fullShare} f_arg10) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13))

/-- One trip: the pieces it stores into the four results, found by running it. -/
@[irreducible] def trip_k0_t1 (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) (k : Fin k0_t1_loop.trips) :
    Σ' (L_arg10 : List (View.Piece (Elt F) S256x5760 .i8)) (L_arg11 : List (View.Piece (Elt F) S256x1 .f32)) (L_arg12 : List (View.Piece (Elt F) S256x5760 .i8)) , { L_arg13 : List (View.Piece (Elt F) S256x1 .f32) // ∀ (E : Set ℕ) (f_arg10 : BufTy.Contents (Elt F) arg10.view.ty) (f_arg11 : BufTy.Contents (Elt F) arg11.view.ty) (f_arg12 : BufTy.Contents (Elt F) arg12.view.ty) (f_arg13 : BufTy.Contents (Elt F) arg13.view.ty),
      Trip_k0_t1 (F := F) c arg15 arg10 arg11 arg12 arg13 X_arg15 f_arg10 f_arg11 f_arg12 f_arg13
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 k PUnit.unit)
          (fun _ => Trip_k0_t1 (F := F) c arg15 arg10 arg11 arg12 arg13 X_arg15 (arg10.view.writes (Elt F) f_arg10 L_arg10) (arg11.view.writes (Elt F) f_arg11 L_arg11) (arg12.view.writes (Elt F) f_arg12 L_arg12) (arg13.view.writes (Elt F) f_arg13 L_arg13)) } := by
  have hk : k.val < 8 := Nat.lt_of_lt_of_le k.isLt k0_t1_abs.2.1
  refine ⟨?_, ?_, ?_, ?_, fun E f_arg10 f_arg11 f_arg12 f_arg13 => ?run⟩
  case run =>
    unfold k0_t1_body
    simp only [part3_eq]
    iintro ⟨HR_arg15, HW_arg10, HW_arg11, HW_arg12, HW_arg13⟩
    sl_exec
    sl_step
    sl_close

/-- One trip's pieces. -/
abbrev tripL_k0_t1 (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) (k : Fin k0_t1_loop.trips) : List (View.Piece (Elt F) S256x5760 .i8) × List (View.Piece (Elt F) S256x1 .f32) × List (View.Piece (Elt F) S256x5760 .i8) × List (View.Piece (Elt F) S256x1 .f32) :=
  ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.1, (trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.2.1)

/-- The pieces after one more trip. -/
@[irreducible] def pb_k0_t1Step (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) (k : ℕ) (prev : List (View.Piece (Elt F) S256x5760 .i8) × List (View.Piece (Elt F) S256x1 .f32) × List (View.Piece (Elt F) S256x5760 .i8) × List (View.Piece (Elt F) S256x1 .f32)) : List (View.Piece (Elt F) S256x5760 .i8) × List (View.Piece (Elt F) S256x1 .f32) × List (View.Piece (Elt F) S256x5760 .i8) × List (View.Piece (Elt F) S256x1 .f32) :=
  if h : k < k0_t1_loop.trips then
    ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 ⟨k, h⟩).1 ++ prev.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 ⟨k, h⟩).2.1 ++ prev.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 ⟨k, h⟩).2.2.1 ++ prev.2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 ⟨k, h⟩).2.2.2 ++ prev.2.2.2)
  else prev

/-- The pieces of the trips before `k`. -/
def pb_k0_t1 (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) : ℕ → List (View.Piece (Elt F) S256x5760 .i8) × List (View.Piece (Elt F) S256x1 .f32) × List (View.Piece (Elt F) S256x5760 .i8) × List (View.Piece (Elt F) S256x1 .f32)
  | 0 => ([], [], [], [])
  | k + 1 => pb_k0_t1Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k (pb_k0_t1 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k)

theorem pb_k0_t1_succ (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) (k : Fin k0_t1_loop.trips) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 (k.val + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k.val).1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k.val).2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k.val).2.2.1, (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k.val).2.2.2) := by
  rw [pb_k0_t1.eq_2]; unfold pb_k0_t1Step; exact dif_pos k.isLt

/-- The invariant before trip `k`: the pieces of the trips before `k` are written. -/
abbrev inv_k0_t1 (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) (k : ℕ) (_u : PUnit) : sProp 𝕄 :=
  iprop((arg15.view.loc (c : Thread nD τ) ↦[arg15.view.set]{fullShare} X_arg15) ∗ (∃ f, (arg10.view.loc (c : Thread nD τ) ↦[arg10.view.set]{fullShare} f) ∗ ⌜f = arg10.view.writes (Elt F) G_arg10 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).1⌝) ∗ (∃ f, (arg11.view.loc (c : Thread nD τ) ↦[arg11.view.set]{fullShare} f) ∗ ⌜f = arg11.view.writes (Elt F) G_arg11 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.1⌝) ∗ (∃ f, (arg12.view.loc (c : Thread nD τ) ↦[arg12.view.set]{fullShare} f) ∗ ⌜f = arg12.view.writes (Elt F) G_arg12 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.1⌝) ∗ (∃ f, (arg13.view.loc (c : Thread nD τ) ↦[arg13.view.set]{fullShare} f) ∗ ⌜f = arg13.view.writes (Elt F) G_arg13 (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.2⌝))

set_option warn.classDefReducibility false in
/-- The loop by its invariant. -/
@[sl_loop] def loopInv_k0_t1 (𝒱 : Variants) (c : Dev nD) (bd : Option 𝒱.V) (E : Set ℕ) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 : Vec F S1x5760 .f32) (v35 : Vec F S1x5760 .f32) (X_arg15 : BufTy.Contents (Elt F) arg15.view.ty) (G_arg10 : BufTy.Contents (Elt F) arg10.view.ty) (G_arg11 : BufTy.Contents (Elt F) arg11.view.ty) (G_arg12 : BufTy.Contents (Elt F) arg12.view.ty) (G_arg13 : BufTy.Contents (Elt F) arg13.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 where
  inv := inv_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 G_arg10 G_arg11 G_arg12 G_arg13
  step k acc := by
    iintro ⟨HR_arg15, ⟨%f_arg10, HW_arg10, %h_arg10⟩, ⟨%f_arg11, HW_arg11, %h_arg11⟩, ⟨%f_arg12, HW_arg12, %h_arg12⟩, ⟨%f_arg13, HW_arg13, %h_arg13⟩⟩
    iapply (wp_wand_r Idealize.ShloMosaic.frame (wpE (defs₀ (F := F)) 𝒱 (c : Thread nD τ) bd) E)
    isplitl [HR_arg15 HW_arg10 HW_arg11 HW_arg12 HW_arg13]
    · iapply ((trip_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X_arg15 k).2.2.2.2 E f_arg10 f_arg11 f_arg12 f_arg13)
      isplitl [HR_arg15]; · iexact HR_arg15
      isplitl [HW_arg10]; · iexact HW_arg10
      isplitl [HW_arg11]; · iexact HW_arg11
      isplitl [HW_arg12]; · iexact HW_arg12
      iexact HW_arg13
    · iintro %_ ⟨HR_arg15, HW_arg10, HW_arg11, HW_arg12, HW_arg13⟩
      isplitl [HR_arg15]; · iexact HR_arg15
      rw [pb_k0_t1_succ]
      isplitl [HW_arg10]
      · iexists _; isplitl [HW_arg10]; · iexact HW_arg10
        ipureintro; rw [h_arg10, ← View.writes_append]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      iexists _; isplitl [HW_arg13]; · iexact HW_arg13
      ipureintro; rw [h_arg13, ← View.writes_append]

set_option maxHeartbeats 400000

/-! ## What the last point's loop leaves -/

section Blocks
variable (b : Vec F S32x5760 .f32)
/-- The codes of the rows less their means; the variances; the standard deviations by 24 Newton steps. -/
def y32 : FVec F S32x5760 .f32 :=
  k0_pay16 (k0_pay11 b) (k0_pay13 b) 5760#32 (k0_pay14 b) (k0_pay15 b) (Scalar.extui (Scalar.cmpi .sgt 5760#32 0#32)) (Scalar.cmpi .slt 5760#32 0#32)
def n32 : IVec S32x1 32 :=
  k0_pay17 (k0_pay11 b) (k0_pay13 b) 5760#32 (k0_pay14 b) (k0_pay15 b) (Scalar.extui (Scalar.cmpi .sgt 5760#32 0#32)) (Scalar.cmpi .slt 5760#32 0#32)
def r32 : IVec S32x1 32 :=
  Scf.fold (fun (_ : Fin k0_t2_loop.trips) r => k0_pay19 r (k0_pay7 (n32 b) r) (k0_pay8 (n32 b) r) k0_pay9) k0_pay18
end Blocks

/-- The codes of the rows of `h`, and their scales; the codes of the normalised rows, and their scales: by blocks of 32 rows. -/
def outH (H : Vec F S256x5760 .f32) : Vec F S256x5760 .i8 := glue32 fun k => k0_pay12 (blk32 H k)
def outHs (H : Vec F S256x5760 .f32) : Vec F S256x1 .f32 := glue32 fun k => k0_pay10 (blk32 H k)
def outO (v33 v35 : Vec F S1x5760 .f32) (H : Vec F S256x5760 .f32) : Vec F S256x5760 .i8 :=
  glue32 fun k => k0_pay5 v33 v35 (y32 (blk32 H k)) (k0_pay20 (r32 (blk32 H k))) (k0_pay21 (r32 (blk32 H k))) 1#32
def outOs (v33 v35 : Vec F S1x5760 .f32) (H : Vec F S256x5760 .f32) : Vec F S256x1 .f32 :=
  glue32 fun k => k0_pay4 v33 v35 (y32 (blk32 H k)) (k0_pay20 (r32 (blk32 H k))) (k0_pay21 (r32 (blk32 H k))) 1#32

section Loop
variable (𝒱 : Variants) (c : Dev nD) (bd : Option 𝒱.V) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (k0_h2 : k0_cond2 i = 1#1) (v33 v35 : Vec F S1x5760 .f32) (X : BufTy.Contents (Elt F) arg15.view.ty)

theorem trips0 : k0_t1_loop.trips = 8 := by decide +kernel

set_option maxHeartbeats 1000000 in
/-- One trip's stores. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k
      = ([⟨Rect.unit (s := S256x5760) (k0_off2 k) S32x5760.size (k0_off2_inb i k k0_h2), k0_pay12 (blk32 (arg15.view.read (Elt F) X) k.val)⟩],
         [⟨Rect.unit (s := S256x1) (k0_off3 k) S32x1.size (k0_off3_inb i k k0_h2), k0_pay10 (blk32 (arg15.view.read (Elt F) X) k.val)⟩],
         [⟨Rect.unit (s := S256x5760) (k0_off2 k) S32x5760.size (k0_off2_inb i k k0_h2),
            k0_pay5 v33 v35 (y32 (blk32 (arg15.view.read (Elt F) X) k.val)) (k0_pay20 (r32 (blk32 (arg15.view.read (Elt F) X) k.val))) (k0_pay21 (r32 (blk32 (arg15.view.read (Elt F) X) k.val))) 1#32⟩],
         [⟨Rect.unit (s := S256x1) (k0_off3 k) S32x1.size (k0_off3_inb i k k0_h2),
            k0_pay4 v33 v35 (y32 (blk32 (arg15.view.read (Elt F) X) k.val)) (k0_pay20 (r32 (blk32 (arg15.view.read (Elt F) X) k.val))) (k0_pay21 (r32 (blk32 (arg15.view.read (Elt F) X) k.val))) 1#32⟩]) := by
  rw [← readAt_rows arg15.view X (k0_off2_inb i k k0_h2) (k0_off2_eq k)]
  unfold tripL_k0_t1 trip_k0_t1
  rfl

theorem pb_succ (k : ℕ) (hk : k < 8) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X (k + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X ⟨k, by rw [trips0]; exact hk⟩).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).1,
         (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X ⟨k, by rw [trips0]; exact hk⟩).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).2.1,
         (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X ⟨k, by rw [trips0]; exact hk⟩).2.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).2.2.1,
         (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X ⟨k, by rw [trips0]; exact hk⟩).2.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).2.2.2) :=
  pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X ⟨k, by rw [trips0]; exact hk⟩

theorem loop_outH (f : BufTy.Contents (Elt F) arg10.view.ty) :
    arg10.view.read (Elt F) (arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k0_t1_loop.trips).1)
      = outH (arg15.view.read (Elt F) X) := by
  rw [trips0]
  exact read_writes_rows arg10.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).1) rfl _ fun k hk =>
    ⟨_, k0_off2_inb i ⟨k, by rw [trips0]; exact hk⟩ k0_h2, k0_off2_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k hk, tripL_eq]; rfl⟩
theorem loop_outHs (f : BufTy.Contents (Elt F) arg11.view.ty) :
    arg11.view.read (Elt F) (arg11.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k0_t1_loop.trips).2.1)
      = outHs (arg15.view.read (Elt F) X) := by
  rw [trips0]
  exact read_writes_rows arg11.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).2.1) rfl _ fun k hk =>
    ⟨_, k0_off3_inb i ⟨k, by rw [trips0]; exact hk⟩ k0_h2, k0_off3_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k hk, tripL_eq]; rfl⟩
theorem loop_outO (f : BufTy.Contents (Elt F) arg12.view.ty) :
    arg12.view.read (Elt F) (arg12.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k0_t1_loop.trips).2.2.1)
      = outO v33 v35 (arg15.view.read (Elt F) X) := by
  rw [trips0]
  exact read_writes_rows arg12.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).2.2.1) rfl _ fun k hk =>
    ⟨_, k0_off2_inb i ⟨k, by rw [trips0]; exact hk⟩ k0_h2, k0_off2_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k hk, tripL_eq]; rfl⟩
theorem loop_outOs (f : BufTy.Contents (Elt F) arg13.view.ty) :
    arg13.view.read (Elt F) (arg13.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k0_t1_loop.trips).2.2.2)
      = outOs v33 v35 (arg15.view.read (Elt F) X) := by
  rw [trips0]
  exact read_writes_rows arg13.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k).2.2.2) rfl _ fun k hk =>
    ⟨_, k0_off3_inb i ⟨k, by rw [trips0]; exact hk⟩ k0_h2, k0_off3_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 k0_h2 v33 v35 X k hk, tripL_eq]; rfl⟩
end Loop

/-! ## The three triples -/

/-- The scratch `h` after point `t`'s store of its block of columns. -/
abbrev putH (t : ℕ) (w : Vec F S256x384 .f32) (d : Vec F S256x5760 .f32) : Vec F S256x5760 .f32 :=
  putCols (r := 256) (b := 384) (n := 5760) (by decide) t w d

set_option maxHeartbeats 2000000 in
/-- The first point: the codes become floats in the scratch, and the first block of columns of `h` is stored. -/
theorem run0_A (c : Dev nD) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (hc0 : first0 i) (hc1 : ¬k0_cond2 i = 1#1)
    (x0 : Vec F S256x15360 .i8) (x1 : Vec F S256x1 .f32) (x2 : Vec F S15360x384 .i8) (x3 : Vec F S1x384 .f32) (x4 : Vec F S1x384 .f32) (x5 : Vec F S256x384 .i8) (x6 : Vec F S256x1 .f32) (x7 : Vec F S1x5760 .f32) (x8 : Vec F S1x5760 .f32)
    (y0 : Vec F S256x5760 .i8) (y1 : Vec F S256x1 .f32) (y2 : Vec F S256x5760 .i8) (y3 : Vec F S256x1 .f32)
    (xs0 : Vec F S256x15360 .bf16) (xs1 : Vec F S256x5760 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare (k0_pay1 x0) ∗ owns (c : Thread nD τ) arg15 fullShare (putH (i 0).val (k0_pay2 (k0_pay1 x0) x2 x1 x3 x4 x5 x6) xs1)) -∗ K ⟨⟩))
      ⊢ wp frame (wpE (defs₀ (F := F)) Variants.none c none) E (cc0_fc2_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fc2_ln_eq_skeleton]; unfold cc0_fc2_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, ⟨%g2, %hg2, G2⟩, ⟨%g3, %hg3, G3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hfs0
  sl_exec (disch := first | sl_exact hc0 | sl_exact hc1)
  sl_step
  have e0 := (readAt_whole arg1.view (harg1.unread x0) inb_S256x15360_S256x15360_0_0).trans (harg1.read_unread x0)
  have e1 := (readAt_whole arg2.view (harg2.unread x1) inb_S256x1_S256x1_0_0).trans (harg2.read_unread x1)
  have e2 := (readAt_whole arg3.view (harg3.unread x2) inb_S15360x384_S15360x384_0_0).trans (harg3.read_unread x2)
  have e3 := (readAt_whole arg4.view (harg4.unread x3) inb_S1x384_S1x384_0_0).trans (harg4.read_unread x3)
  have e4 := (readAt_whole arg5.view (harg5.unread x4) inb_S1x384_S1x384_0_0).trans (harg5.read_unread x4)
  have e5 := (readAt_whole arg6.view (harg6.unread x5) inb_S256x384_S256x384_0_0).trans (harg6.read_unread x5)
  have e6 := (readAt_whole arg7.view (harg7.unread x6) inb_S256x1_S256x1_0_0).trans (harg7.read_unread x6)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  have e10 : run0_A.sl.v3 c arg1 harg1 arg14 x0 = k0_pay1 x0 := by
    unfold run0_A.sl.v3 run0_A.sl.HS0_1 View.readCov
    exact (readAt_whole arg14.view _ inb_S256x15360_S256x15360_0_0).trans ((read_writes_whole arg14.view _ inb_S256x15360_S256x15360_0_0 _ []).trans (congrArg k0_pay1 e0))
  have hW := congr (congr (congr (congr (congr (congr (congrArg (k0_pay2 (F := F)) e10) e2) e1) e3) e4) e5) e6
  have hU := (read_writes_cols (by decide) arg15.view fs1 (k0_off1_inb i) _ (k0_off1_eq i)).trans (congrArg₂ (putH (i 0).val) hW hfs1)
  isplitl [G0]
  · iexists _; isplitr; swap; · iexact G0
    ipureintro; exact hg0
  isplitl [G1]
  · iexists _; isplitr; swap; · iexact G1
    ipureintro; exact hg1
  isplitl [G2]
  · iexists _; isplitr; swap; · iexact G2
    ipureintro; exact hg2
  isplitl [G3]
  · iexists _; isplitr; swap; · iexact G3
    ipureintro; exact hg3
  isplitl [HS0]
  · iexists _; isplitr; swap; · iexact HS0
    ipureintro; unfold run0_A.sl.HS0_1
    exact (read_writes_whole arg14.view _ inb_S256x15360_S256x15360_0_0 _ []).trans (congrArg k0_pay1 e0)
  iexists _; isplitr; swap; · iexact HS1
  ipureintro; exact hU

set_option maxHeartbeats 2000000 in
/-- A point in between: one block of columns of `h` is stored. -/
theorem run0_B (c : Dev nD) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (hc0 : ¬first0 i) (hc1 : ¬k0_cond2 i = 1#1)
    (x0 : Vec F S256x15360 .i8) (x1 : Vec F S256x1 .f32) (x2 : Vec F S15360x384 .i8) (x3 : Vec F S1x384 .f32) (x4 : Vec F S1x384 .f32) (x5 : Vec F S256x384 .i8) (x6 : Vec F S256x1 .f32) (x7 : Vec F S1x5760 .f32) (x8 : Vec F S1x5760 .f32)
    (y0 : Vec F S256x5760 .i8) (y1 : Vec F S256x1 .f32) (y2 : Vec F S256x5760 .i8) (y3 : Vec F S256x1 .f32)
    (xs0 : Vec F S256x15360 .bf16) (xs1 : Vec F S256x5760 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare xs0 ∗ owns (c : Thread nD τ) arg15 fullShare (putH (i 0).val (k0_pay2 xs0 x2 x1 x3 x4 x5 x6) xs1)) -∗ K ⟨⟩))
      ⊢ wp frame (wpE (defs₀ (F := F)) Variants.none c none) E (cc0_fc2_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fc2_ln_eq_skeleton]; unfold cc0_fc2_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, ⟨%g2, %hg2, G2⟩, ⟨%g3, %hg3, G3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hfs0
  sl_exec (disch := first | sl_exact hc0 | sl_exact hc1)
  sl_step
  have e0 := (readAt_whole arg1.view (harg1.unread x0) inb_S256x15360_S256x15360_0_0).trans (harg1.read_unread x0)
  have e1 := (readAt_whole arg2.view (harg2.unread x1) inb_S256x1_S256x1_0_0).trans (harg2.read_unread x1)
  have e2 := (readAt_whole arg3.view (harg3.unread x2) inb_S15360x384_S15360x384_0_0).trans (harg3.read_unread x2)
  have e3 := (readAt_whole arg4.view (harg4.unread x3) inb_S1x384_S1x384_0_0).trans (harg4.read_unread x3)
  have e4 := (readAt_whole arg5.view (harg5.unread x4) inb_S1x384_S1x384_0_0).trans (harg5.read_unread x4)
  have e5 := (readAt_whole arg6.view (harg6.unread x5) inb_S256x384_S256x384_0_0).trans (harg6.read_unread x5)
  have e6 := (readAt_whole arg7.view (harg7.unread x6) inb_S256x1_S256x1_0_0).trans (harg7.read_unread x6)
  have e10 := (readAt_whole arg14.view (harg14.unread xs0) inb_S256x15360_S256x15360_0_0).trans (harg14.read_unread xs0)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  have hW := congr (congr (congr (congr (congr (congr (congrArg (k0_pay2 (F := F)) e10) e2) e1) e3) e4) e5) e6
  have hU := (read_writes_cols (by decide) arg15.view fs1 (k0_off1_inb i) _ (k0_off1_eq i)).trans (congrArg₂ (putH (i 0).val) hW hfs1)
  isplitl [G0]
  · iexists _; isplitr; swap; · iexact G0
    ipureintro; exact hg0
  isplitl [G1]
  · iexists _; isplitr; swap; · iexact G1
    ipureintro; exact hg1
  isplitl [G2]
  · iexists _; isplitr; swap; · iexact G2
    ipureintro; exact hg2
  isplitl [G3]
  · iexists _; isplitr; swap; · iexact G3
    ipureintro; exact hg3
  isplitl [HS0]
  · iexists _; isplitr; swap; · iexact HS0
    ipureintro; exact harg14.read_unread _
  iexists _; isplitr; swap; · iexact HS1
  ipureintro; exact hU

set_option maxHeartbeats 2000000 in
/-- The last point: the last block of columns of `h` is stored, and the loop over blocks of rows fills the results. -/
theorem run0_C (c : Dev nD) (i : grid0.Coords) (arg1 : Memref sig .tc .vmem S256x15360 .i8) (harg1 : arg1.IsWhole) (arg2 : Memref sig .tc .vmem S256x1 .f32) (harg2 : arg2.IsWhole) (arg3 : Memref sig .tc .vmem S15360x384 .i8) (harg3 : arg3.IsWhole) (arg4 : Memref sig .tc .vmem S1x384 .f32) (harg4 : arg4.IsWhole) (arg5 : Memref sig .tc .vmem S1x384 .f32) (harg5 : arg5.IsWhole) (arg6 : Memref sig .tc .vmem S256x384 .i8) (harg6 : arg6.IsWhole) (arg7 : Memref sig .tc .vmem S256x1 .f32) (harg7 : arg7.IsWhole) (arg8 : Memref sig .tc .vmem S1x5760 .f32) (harg8 : arg8.IsWhole) (arg9 : Memref sig .tc .vmem S1x5760 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (arg14 : Memref sig .tc .vmem S256x15360 .bf16) (harg14 : arg14.IsWhole) (arg15 : Memref sig .tc .vmem S256x5760 .f32) (harg15 : arg15.IsWhole) (hc0 : ¬first0 i) (hc1 : k0_cond2 i = 1#1)
    (x0 : Vec F S256x15360 .i8) (x1 : Vec F S256x1 .f32) (x2 : Vec F S15360x384 .i8) (x3 : Vec F S1x384 .f32) (x4 : Vec F S1x384 .f32) (x5 : Vec F S256x384 .i8) (x6 : Vec F S256x1 .f32) (x7 : Vec F S1x5760 .f32) (x8 : Vec F S1x5760 .f32)
    (y0 : Vec F S256x5760 .i8) (y1 : Vec F S256x1 .f32) (y2 : Vec F S256x5760 .i8) (y3 : Vec F S256x1 .f32)
    (xs0 : Vec F S256x15360 .bf16) (xs1 : Vec F S256x5760 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y0 ∗ owns (c : Thread nD τ) arg11 fullShare y1 ∗ owns (c : Thread nD τ) arg12 fullShare y2 ∗ owns (c : Thread nD τ) arg13 fullShare y3 ∗ owns (c : Thread nD τ) arg14 fullShare xs0 ∗ owns (c : Thread nD τ) arg15 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (outH (putH (i 0).val (k0_pay2 xs0 x2 x1 x3 x4 x5 x6) xs1)) ∗ owns (c : Thread nD τ) arg11 fullShare (outHs (putH (i 0).val (k0_pay2 xs0 x2 x1 x3 x4 x5 x6) xs1)) ∗ owns (c : Thread nD τ) arg12 fullShare (outO x7 x8 (putH (i 0).val (k0_pay2 xs0 x2 x1 x3 x4 x5 x6) xs1)) ∗ owns (c : Thread nD τ) arg13 fullShare (outOs x7 x8 (putH (i 0).val (k0_pay2 xs0 x2 x1 x3 x4 x5 x6) xs1)) ∗ owns (c : Thread nD τ) arg14 fullShare xs0 ∗ owns (c : Thread nD τ) arg15 fullShare (putH (i 0).val (k0_pay2 xs0 x2 x1 x3 x4 x5 x6) xs1)) -∗ K ⟨⟩))
      ⊢ wp frame (wpE (defs₀ (F := F)) Variants.none c none) E (cc0_fc2_ln i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fc2_ln_eq_skeleton]; unfold cc0_fc2_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, ⟨%g2, %hg2, G2⟩, ⟨%g3, %hg3, G3⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg14.eq_unread hfs0
  sl_exec (disch := first | sl_exact hc0 | sl_exact hc1)
  sl_step
  have e0 := (readAt_whole arg1.view (harg1.unread x0) inb_S256x15360_S256x15360_0_0).trans (harg1.read_unread x0)
  have e1 := (readAt_whole arg2.view (harg2.unread x1) inb_S256x1_S256x1_0_0).trans (harg2.read_unread x1)
  have e2 := (readAt_whole arg3.view (harg3.unread x2) inb_S15360x384_S15360x384_0_0).trans (harg3.read_unread x2)
  have e3 := (readAt_whole arg4.view (harg4.unread x3) inb_S1x384_S1x384_0_0).trans (harg4.read_unread x3)
  have e4 := (readAt_whole arg5.view (harg5.unread x4) inb_S1x384_S1x384_0_0).trans (harg5.read_unread x4)
  have e5 := (readAt_whole arg6.view (harg6.unread x5) inb_S256x384_S256x384_0_0).trans (harg6.read_unread x5)
  have e6 := (readAt_whole arg7.view (harg7.unread x6) inb_S256x1_S256x1_0_0).trans (harg7.read_unread x6)
  have e7 := (readAt_whole arg8.view (harg8.unread x7) inb_S1x5760_S1x5760_0_0).trans (harg8.read_unread x7)
  have e8 := (readAt_whole arg9.view (harg9.unread x8) inb_S1x5760_S1x5760_0_0).trans (harg9.read_unread x8)
  have e10 := (readAt_whole arg14.view (harg14.unread xs0) inb_S256x15360_S256x15360_0_0).trans (harg14.read_unread xs0)
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  have hW := congr (congr (congr (congr (congr (congr (congrArg (k0_pay2 (F := F)) e10) e2) e1) e3) e4) e5) e6
  have hU := (read_writes_cols (by decide) arg15.view fs1 (k0_off1_inb i) _ (k0_off1_eq i)).trans (congrArg₂ (putH (i 0).val) hW hfs1)
  isplitl [G0]
  · iexists _; isplitr; swap; · iexact G0
    ipureintro; exact (loop_outH Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _).trans (congrArg outH hU)
  isplitl [G1]
  · iexists _; isplitr; swap; · iexact G1
    ipureintro; exact (loop_outHs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _).trans (congrArg outHs hU)
  isplitl [G2]
  · iexists _; isplitr; swap; · iexact G2
    ipureintro; exact (loop_outO Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _).trans (congr (congr (congrArg outO e7) e8) hU)
  isplitl [G3]
  · iexists _; isplitr; swap; · iexact G3
    ipureintro; exact (loop_outOs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 hc1 _ _ _ _).trans (congr (congr (congrArg outOs e7) e8) hU)
  isplitl [HS0]
  · iexists _; isplitr; swap; · iexact HS0
    ipureintro; exact harg14.read_unread _
  iexists _; isplitr; swap; · iexact HS1
  ipureintro; exact hU

end Cert.SecondIdeal.Gen

end
-- ==== Proof.SecondIdealRun.lean ====
/-
  The run of the second feed-forward kernel over its grid: what the scratch holds between points, the body's triple at every
  point, the launch, and the arrays' final contents.
-/
module

public import proofs.«01_k».proof.Proof.SecondIdealBody
public import Idealize.ShloMosaic.Lib.Claim

@[expose] public section

set_option maxRecDepth 16384

noncomputable section

namespace Cert.SecondIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers, the scratch, the idle points -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev scM0_0 : Memref sig .tc .vmem S256x15360 .bf16 := Memref.whole cc0_scratch0
abbrev scM0_1 : Memref sig .tc .vmem S256x5760 .f32 := Memref.whole cc0_scratch1

/-- The region's invariant before its first point: each scratch at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem idleAt0_9 : ∀ t : Fin cfg0.N, t.val ≠ 14 → cfg0.idle 9 (grid0.coords t) = true := by decide +kernel
theorem lastAt0_9 : ∀ t : Fin cfg0.N, t.val = 14 → cfg0.idle 9 (grid0.coords t) = false := by decide +kernel
theorem noFlush0_9 : ∀ t : Fin cfg0.N, t.val ≠ 14 → (cfg0.win 9).flush t = false := by decide +kernel
theorem idleAt0_10 : ∀ t : Fin cfg0.N, t.val ≠ 14 → cfg0.idle 10 (grid0.coords t) = true := by decide +kernel
theorem lastAt0_10 : ∀ t : Fin cfg0.N, t.val = 14 → cfg0.idle 10 (grid0.coords t) = false := by decide +kernel
theorem noFlush0_10 : ∀ t : Fin cfg0.N, t.val ≠ 14 → (cfg0.win 10).flush t = false := by decide +kernel
theorem idleAt0_11 : ∀ t : Fin cfg0.N, t.val ≠ 14 → cfg0.idle 11 (grid0.coords t) = true := by decide +kernel
theorem lastAt0_11 : ∀ t : Fin cfg0.N, t.val = 14 → cfg0.idle 11 (grid0.coords t) = false := by decide +kernel
theorem noFlush0_11 : ∀ t : Fin cfg0.N, t.val ≠ 14 → (cfg0.win 11).flush t = false := by decide +kernel
theorem idleAt0_12 : ∀ t : Fin cfg0.N, t.val ≠ 14 → cfg0.idle 12 (grid0.coords t) = true := by decide +kernel
theorem lastAt0_12 : ∀ t : Fin cfg0.N, t.val = 14 → cfg0.idle 12 (grid0.coords t) = false := by decide +kernel
theorem noFlush0_12 : ∀ t : Fin cfg0.N, t.val ≠ 14 → (cfg0.win 12).flush t = false := by decide +kernel
theorem coord0 : ∀ t : Fin cfg0.N, (grid0.coords t 0).val = t.val := by decide +kernel

/-! ## The matrix `h` -/

/-- The grid point that computes a column of `h`. -/
def pt0 (y : S256x5760.Idx) : Fin cfg0.N := ⟨(y 1).val / 384, by
  have h : (y 1).val < 5760 := (y 1).isLt
  exact lt_of_lt_of_eq (by omega) N_0.symm⟩

/-- Point 0. -/
abbrev p0 : Fin cfg0.N := ⟨0, lt_of_lt_of_eq (by decide) N_0.symm⟩

/-- `h`, every block of columns by the point that computes it. -/
def Hmat (c : Dev nD) : Vec F S256x5760 .f32 := fun y =>
  k0_pay2 (k0_pay1 (iblk m c 0 p0)) (iblk m c 2 (pt0 y)) (iblk m c 1 (pt0 y)) (iblk m c 3 (pt0 y)) (iblk m c 4 (pt0 y)) (iblk m c 5 (pt0 y)) (iblk m c 6 (pt0 y))
    (ix2 (y 0) ⟨(y 1).val % 384, Nat.mod_lt _ (by decide)⟩)

/-- The columns stored before point `n` are those of `h`. -/
def Upto (c : Dev nD) (n : ℕ) (d : Vec F S256x5760 .f32) : Prop :=
  ∀ y : S256x5760.Idx, (y 1).val / 384 < n → d y = Hmat m c y

theorem upto_step (c : Dev nD) (t : Fin cfg0.N) (d : Vec F S256x5760 .f32) (h : Upto m c t.val d) :
    Upto m c (t.val + 1) (putH (grid0.coords t 0).val (k0_pay2 (k0_pay1 (iblk m c 0 p0)) (iblk m c 2 t) (iblk m c 1 t) (iblk m c 3 t) (iblk m c 4 t) (iblk m c 5 t) (iblk m c 6 t)) d) := by
  intro y hy
  rw [coord0]
  unfold putH putCols
  by_cases e : (y 1).val / 384 = t.val
  · rw [if_pos e]
    have ep : pt0 y = t := Fin.ext e
    unfold Hmat
    rw [ep]
  · rw [if_neg e]
    exact h y (by omega)

theorem upto_zero (c : Dev nD) (d : Vec F S256x5760 .f32) : Upto m c 0 d := fun _ h => absurd h (Nat.not_lt_zero _)

theorem upto_all (c : Dev nD) (d : Vec F S256x5760 .f32) (h : Upto m c 15 d) : d = Hmat m c :=
  funext fun y => h y (by
    have h : (y 1).val < 5760 := (y 1).isLt
    omega)

/-! ## The invariant and the proof data -/

/-- Before the first point, each scratch at anything; after point `n`, the first scratch at the input codes as floats and the
    second with the columns stored so far. -/
def PhiS (c : Dev nD) : (n : ℕ) → n ≤ cfg0.N → sProp 𝕄
  | 0, _ => Pipeline.ΦA spec0 c
  | n + 1, hn => iprop(iprop(owns (c : Thread nD τ) scM0_0 fullShare (k0_pay1 (iblk m c 0 p0))
      ∗ (∃ d, ⌜Upto m c (n + 1) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (k0_pay1 (iblk m c 0 p0))
      ∗ (∃ d, ⌜Upto m c (n + 1) d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (k0_pay1 (iblk m c 0 p0))
      ∗ (∃ d, ⌜Upto m c n d⌝ ∗ owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outH (Hmat m c)
    | ⟨10, _⟩ => outHs (Hmat m c)
    | ⟨11, _⟩ => outO (iblk m c 7 t) (iblk m c 8 t) (Hmat m c)
    | ⟨12, _⟩ => outOs (iblk m c 7 t) (iblk m c 8 t) (Hmat m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outH (Hmat m c) := by dsimp only [dats]
theorem after0_10 (c : Dev nD) (t : Fin cfg0.N) : (dats m 0 c).after 10 t = outHs (Hmat m c) := by dsimp only [dats]
theorem after0_11 (c : Dev nD) (t : Fin cfg0.N) : (dats m 0 c).after 11 t = outO (iblk m c 7 t) (iblk m c 8 t) (Hmat m c) := by dsimp only [dats]
theorem after0_12 (c : Dev nD) (t : Fin cfg0.N) : (dats m 0 c).after 12 t = outOs (iblk m c 7 t) (iblk m c 8 t) (Hmat m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  have hN : t.val < 15 := lt_of_lt_of_eq t.isLt (show cfg0.N = 15 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  by_cases h0 : t.val = 0
  · have h1 : t.val ≠ 14 := by omega
    rw [Dat.leavesExact_idle (dats m 0 c) 9 t (idleAt0_9 t h1) (noFlush0_9 t h1)]
    rw [Dat.leavesExact_idle (dats m 0 c) 10 t (idleAt0_10 t h1) (noFlush0_10 t h1)]
    rw [Dat.leavesExact_idle (dats m 0 c) 11 t (idleAt0_11 t h1) (noFlush0_11 t h1)]
    rw [Dat.leavesExact_idle (dats m 0 c) 12 t (idleAt0_12 t h1) (noFlush0_12 t h1)]
    rw [PhiS_castSucc m c t, PhiS_zero m c _ _ h0, PhiA0_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (run0_A c (grid0.coords t) _ _ _ _ _ _ _ _ _ _ _ _ _ _ _ _ _ _ _ _ _ _ _ _ _ _ _ _ _ _ ((first0_iff t).mpr h0) (fun h => h1 ((last0_iff t).mp h)) (iblk m c 0 t) (iblk m c 1 t) (iblk m c 2 t) (iblk m c 3 t) (iblk m c 4 t) (iblk m c 5 t) (iblk m c 6 t) (iblk m c 7 t) (iblk m c 8 t) _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HS0]; · iexact HS0
    isplitl [HS1]; · iexact HS1
    iintro ⟨H0, H1, H2, H3, H4, H5, H6, H7, H8, H9, H10, H11, H12, HS0, HS1⟩
    have ht : t = p0 := Fin.ext h0
    have hu : Upto m c t.val s1 := by rw [h0]; exact upto_zero m c s1
    have hn := upto_step m c t s1 hu
    isplitl [HS0 HS1 Hg]
    · isplitl [HS0 HS1]
      · isplitl [HS0]
        · rw [← ht]; iexact HS0
        iexists _; isplitr; swap; · iexact HS1
        ipureintro; rw [← ht] at hn; exact hn
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iexists _; iexact H12
  · by_cases h1 : t.val = 14
    · rw [show (dats m 0 c).leavesExact 9 t = owns (c : Thread nD τ) (ms0_9 t) fullShare ((dats m 0 c).after 9 t) from by
        unfold Dat.leavesExact; rw [lastAt0_9 t h1], after0_9]
      rw [show (dats m 0 c).leavesExact 10 t = owns (c : Thread nD τ) (ms0_10 t) fullShare ((dats m 0 c).after 10 t) from by
        unfold Dat.leavesExact; rw [lastAt0_10 t h1], after0_10]
      rw [show (dats m 0 c).leavesExact 11 t = owns (c : Thread nD τ) (ms0_11 t) fullShare ((dats m 0 c).after 11 t) from by
        unfold Dat.leavesExact; rw [lastAt0_11 t h1], after0_11]
      rw [show (dats m 0 c).leavesExact 12 t = owns (c : Thread nD τ) (ms0_12 t) fullShare ((dats m 0 c).after 12 t) from by
        unfold Dat.leavesExact; rw [lastAt0_12 t h1], after0_12]
      rw [PhiS_castSucc m c t, PhiS_pos m c _ _ h0]
      iintro ⟨⟨⟨HS0, ⟨%s1, %hu, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run0_C c (grid0.coords t) _ _ _ _ _ _ _ _ _ _ _ _ _ _ _ _ _ _ _ _ _ _ _ _ _ _ _ _ _ _ (fun h => h0 ((first0_iff t).mp h)) ((last0_iff t).mpr h1) (iblk m c 0 t) (iblk m c 1 t) (iblk m c 2 t) (iblk m c 3 t) (iblk m c 4 t) (iblk m c 5 t) (iblk m c 6 t) (iblk m c 7 t) (iblk m c 8 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      have hn := upto_step m c t s1 hu
      have hU := upto_all m c _ (by rw [show t.val + 1 = 15 by omega] at hn; exact hn)
      rw [hU] at hn ⊢
      isplitl [HS0 HS1 Hg]
      · isplitl [HS0 HS1]
        · isplitl [HS0]
          · iexact HS0
          iexists _; isplitr; swap; · iexact HS1
          ipureintro; exact hn
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dats m 0 c) 9 t (idleAt0_9 t h1) (noFlush0_9 t h1)]
      rw [Dat.leavesExact_idle (dats m 0 c) 10 t (idleAt0_10 t h1) (noFlush0_10 t h1)]
      rw [Dat.leavesExact_idle (dats m 0 c) 11 t (idleAt0_11 t h1) (noFlush0_11 t h1)]
      rw [Dat.leavesExact_idle (dats m 0 c) 12 t (idleAt0_12 t h1) (noFlush0_12 t h1)]
      rw [PhiS_castSucc m c t, PhiS_pos m c _ _ h0]
      iintro ⟨⟨⟨HS0, ⟨%s1, %hu, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (run0_B c (grid0.coords t) _ _ _ _ _ _ _ _ _ _ _ _ _ _ _ _ _ _ _ _ _ _ _ _ _ _ _ _ _ _ (fun h => h0 ((first0_iff t).mp h)) (fun h => h1 ((last0_iff t).mp h)) (iblk m c 0 t) (iblk m c 1 t) (iblk m c 2 t) (iblk m c 3 t) (iblk m c 4 t) (iblk m c 5 t) (iblk m c 6 t) (iblk m c 7 t) (iblk m c 8 t) _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HS0]; · iexact HS0
      isplitl [HS1]; · iexact HS1
      iintro ⟨H0, H1, H2, H3, H4, H5, H6, H7, H8, H9, H10, H11, H12, HS0, HS1⟩
      have hn := upto_step m c t s1 hu
      isplitl [HS0 HS1 Hg]
      · isplitl [HS0 HS1]
        · isplitl [HS0]
          · iexact HS0
          iexists _; isplitr; swap; · iexact HS1
          ipureintro; exact hn
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [H11]; · iexists _; iexact H11
      iexists _; iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 15 := N_0; omega), PhiA0_eq]
  iintro ⟨⟨HS0, ⟨%s1, %hu, HS1⟩⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.SecondIdeal.Gen

end
-- ==== Proof.ThirdIdealBody.lean ====
/-
  The body of the output projection kernel at one grid point, as three triples: the first point, a point in between, the last
  point. Every buffer is named by what it reads before and after.
-/
module

public import proofs.«01_k».proof.Proof.Gen.ThirdIdeal.Frame
public import proofs.«01_k».proof.Proof.Gen.ThirdIdeal.Loops
public import proofs.«01_k».proof.Proof.Rows
public import Idealize.ShloMosaic.Lib.WordCmp

@[expose] public section

set_option maxRecDepth 16384

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Proof.Rows

variable {F : FTy → Type} [FloatOps F]

local notation "𝕄" => MT nD τ sig Unit (Elt F) ℕ (UR sig nD τ) ℕ

/-! ## The branch conditions in closed form -/

/-- The condition of the first point's branch. -/
theorem first0_iff : ∀ t : Fin cfg0.N, k0_cond1 (grid0.coords t) = 1#1 ↔ t.val = 0 :=
  (fun t => by
    have ht : t.val < 9 := Nat.lt_of_lt_of_eq t.isLt N_0
    have e0 : (grid0.coords t 0).val = t.val / 1 % 9 := Pipeline.Grid.coords_val t 0 (by decide) rfl
    simp only [k0_cond1, e0]
    word_cmp
   : ∀ t : Fin grid0.N, k0_cond1 (grid0.coords t) = 1#1 ↔ t.val = 0)

/-- The condition of the last point's branch. -/
theorem last0_iff : ∀ t : Fin cfg0.N, k0_cond2 (grid0.coords t) = 1#1 ↔ t.val = 8 :=
  (fun t => by
    have ht : t.val < 9 := Nat.lt_of_lt_of_eq t.isLt N_0
    have e0 : (grid0.coords t 0).val = t.val / 1 % 9 := Pipeline.Grid.coords_val t 0 (by decide) rfl
    simp only [k0_cond2, e0]
    word_cmp
   : ∀ t : Fin grid0.N, k0_cond2 (grid0.coords t) = 1#1 ↔ t.val = 8)

/-! ## The last point's loop over blocks of rows

The Newton loop inside one trip has no effects: a run meets it as the fold of its step. -/

set_option maxRecDepth 8192
set_option maxHeartbeats 4000000

section Newton
variable (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v58 : FVec F S32x5760 .f32) (v66 : IVec S32x1 32) (v68 : IVec S32x1 32) (v75 : IVec S32x1 32) (c5760 v77 : BitVec 32) (v78 : BitVec 1)

/-- One Newton step returns its value. -/
theorem t3_body_eq (k : Fin k0_t3_loop.trips) (r : IVec S32x1 32) :
    k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v58 v66 c5760 v68 v75 v77 v78 k r
      = .ret (k0_pay22 r (k0_pay10 (k0_pay20 v58 v66 c5760 v68 v75 v77 v78) r) (k0_pay11 (k0_pay20 v58 v66 c5760 v68 v75 v77 v78) r) k0_pay12) := by
  unfold k0_t3_body; simp only [k0_part1_eq_skeleton]; unfold k0_part1_skel; rfl

/-- The Newton loop returns the fold of its step. -/
theorem part3_eq :
    k0_part3 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v58 v66 c5760 v68 v75 v77 v78
      = pure ⟨k0_pay19 v58 v66 c5760 v68 v75 v77 v78,
          k0_pay23 (Scf.fold (fun (_ : Fin k0_t3_loop.trips) r => k0_pay22 r (k0_pay10 (k0_pay20 v58 v66 c5760 v68 v75 v77 v78) r) (k0_pay11 (k0_pay20 v58 v66 c5760 v68 v75 v77 v78) r) k0_pay12) k0_pay21),
          k0_pay24 (Scf.fold (fun (_ : Fin k0_t3_loop.trips) r => k0_pay22 r (k0_pay10 (k0_pay20 v58 v66 c5760 v68 v75 v77 v78) r) (k0_pay11 (k0_pay20 v58 v66 c5760 v68 v75 v77 v78) r) k0_pay12) k0_pay21), 1#32⟩ := by
  rw [k0_part3_eq_skeleton]; unfold k0_part3_skel
  unfold Scf.Loop.for
  rw [Scf.for_pure _ _ _ _ _ _ _ (fun k r => t3_body_eq i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v58 v66 v68 v75 c5760 v77 v78 k r)]
  rfl
end Newton

/-- What one trip of the loop over blocks of rows reads and writes. -/
abbrev Trip_k0_t2 (c : Dev nD) (arg16 : Memref sig .tc .vmem S256x5760 .f32) (arg11 : Memref sig .tc .vmem S256x5760 .i8) (arg12 : Memref sig .tc .vmem S256x1 .f32) (arg13 : Memref sig .tc .vmem S256x5760 .i8) (arg14 : Memref sig .tc .vmem S256x1 .f32) (X_arg16 : BufTy.Contents (Elt F) arg16.view.ty) (f_arg11 : BufTy.Contents (Elt F) arg11.view.ty) (f_arg12 : BufTy.Contents (Elt F) arg12.view.ty) (f_arg13 : BufTy.Contents (Elt F) arg13.view.ty) (f_arg14 : BufTy.Contents (Elt F) arg14.view.ty) : sProp 𝕄 :=
  iprop((arg16.view.loc (c : Thread nD τ) ↦[arg16.view.set]{fullShare} X_arg16) ∗ (arg11.view.loc (c : Thread nD τ) ↦[arg11.view.set]{fullShare} f_arg11) ∗ (arg12.view.loc (c : Thread nD τ) ↦[arg12.view.set]{fullShare} f_arg12) ∗ (arg13.view.loc (c : Thread nD τ) ↦[arg13.view.set]{fullShare} f_arg13) ∗ (arg14.view.loc (c : Thread nD τ) ↦[arg14.view.set]{fullShare} f_arg14))

/-- One trip: the pieces it stores into the four results, found by running it. -/
@[irreducible] def trip_k0_t2 (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) (k : Fin k0_t2_loop.trips) :
    Σ' (L_arg11 : List (View.Piece (Elt F) S256x5760 .i8)) (L_arg12 : List (View.Piece (Elt F) S256x1 .f32)) (L_arg13 : List (View.Piece (Elt F) S256x5760 .i8)) , { L_arg14 : List (View.Piece (Elt F) S256x1 .f32) // ∀ (E : Set ℕ) (f_arg11 : BufTy.Contents (Elt F) arg11.view.ty) (f_arg12 : BufTy.Contents (Elt F) arg12.view.ty) (f_arg13 : BufTy.Contents (Elt F) arg13.view.ty) (f_arg14 : BufTy.Contents (Elt F) arg14.view.ty),
      Trip_k0_t2 (F := F) c arg16 arg11 arg12 arg13 arg14 X_arg16 f_arg11 f_arg12 f_arg13 f_arg14
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 k PUnit.unit)
          (fun _ => Trip_k0_t2 (F := F) c arg16 arg11 arg12 arg13 arg14 X_arg16 (arg11.view.writes (Elt F) f_arg11 L_arg11) (arg12.view.writes (Elt F) f_arg12 L_arg12) (arg13.view.writes (Elt F) f_arg13 L_arg13) (arg14.view.writes (Elt F) f_arg14 L_arg14)) } := by
  have hk : k.val < 8 := Nat.lt_of_lt_of_le k.isLt k0_t2_abs.2.1
  refine ⟨?_, ?_, ?_, ?_, fun E f_arg11 f_arg12 f_arg13 f_arg14 => ?run⟩
  case run =>
    unfold k0_t2_body
    simp only [part3_eq]
    iintro ⟨HR_arg16, HW_arg11, HW_arg12, HW_arg13, HW_arg14⟩
    sl_exec
    sl_step
    sl_close

/-- One trip's pieces. -/
abbrev tripL_k0_t2 (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) (k : Fin k0_t2_loop.trips) : List (View.Piece (Elt F) S256x5760 .i8) × List (View.Piece (Elt F) S256x1 .f32) × List (View.Piece (Elt F) S256x5760 .i8) × List (View.Piece (Elt F) S256x1 .f32) :=
  ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).1, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.1, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.1, (trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.2.1)

/-- The pieces after one more trip. -/
@[irreducible] def pb_k0_t2Step (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) (k : ℕ) (prev : List (View.Piece (Elt F) S256x5760 .i8) × List (View.Piece (Elt F) S256x1 .f32) × List (View.Piece (Elt F) S256x5760 .i8) × List (View.Piece (Elt F) S256x1 .f32)) : List (View.Piece (Elt F) S256x5760 .i8) × List (View.Piece (Elt F) S256x1 .f32) × List (View.Piece (Elt F) S256x5760 .i8) × List (View.Piece (Elt F) S256x1 .f32) :=
  if h : k < k0_t2_loop.trips then
    ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 ⟨k, h⟩).1 ++ prev.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 ⟨k, h⟩).2.1 ++ prev.2.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 ⟨k, h⟩).2.2.1 ++ prev.2.2.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 ⟨k, h⟩).2.2.2 ++ prev.2.2.2)
  else prev

/-- The pieces of the trips before `k`. -/
def pb_k0_t2 (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) : ℕ → List (View.Piece (Elt F) S256x5760 .i8) × List (View.Piece (Elt F) S256x1 .f32) × List (View.Piece (Elt F) S256x5760 .i8) × List (View.Piece (Elt F) S256x1 .f32)
  | 0 => ([], [], [], [])
  | k + 1 => pb_k0_t2Step 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k (pb_k0_t2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k)

theorem pb_k0_t2_succ (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) (k : Fin k0_t2_loop.trips) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 (k.val + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k.val).1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k.val).2.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k.val).2.2.1, (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k.val).2.2.2) := by
  rw [pb_k0_t2.eq_2]; unfold pb_k0_t2Step; exact dif_pos k.isLt

/-- The invariant before trip `k`: the pieces of the trips before `k` are written. -/
abbrev inv_k0_t2 (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) (k : ℕ) (_u : PUnit) : sProp 𝕄 :=
  iprop((arg16.view.loc (c : Thread nD τ) ↦[arg16.view.set]{fullShare} X_arg16) ∗ (∃ f, (arg11.view.loc (c : Thread nD τ) ↦[arg11.view.set]{fullShare} f) ∗ ⌜f = arg11.view.writes (Elt F) G_arg11 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).1⌝) ∗ (∃ f, (arg12.view.loc (c : Thread nD τ) ↦[arg12.view.set]{fullShare} f) ∗ ⌜f = arg12.view.writes (Elt F) G_arg12 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.1⌝) ∗ (∃ f, (arg13.view.loc (c : Thread nD τ) ↦[arg13.view.set]{fullShare} f) ∗ ⌜f = arg13.view.writes (Elt F) G_arg13 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.1⌝) ∗ (∃ f, (arg14.view.loc (c : Thread nD τ) ↦[arg14.view.set]{fullShare} f) ∗ ⌜f = arg14.view.writes (Elt F) G_arg14 (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.2⌝))

set_option warn.classDefReducibility false in
/-- The loop by its invariant. -/
@[sl_loop] def loopInv_k0_t2 (𝒱 : Variants) (c : Dev nD) (bd : Option 𝒱.V) (E : Set ℕ) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 : Vec F S1x5760 .f32) (v35 : Vec F S1x5760 .f32) (X_arg16 : BufTy.Contents (Elt F) arg16.view.ty) (G_arg11 : BufTy.Contents (Elt F) arg11.view.ty) (G_arg12 : BufTy.Contents (Elt F) arg12.view.ty) (G_arg13 : BufTy.Contents (Elt F) arg13.view.ty) (G_arg14 : BufTy.Contents (Elt F) arg14.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 where
  inv := inv_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 G_arg11 G_arg12 G_arg13 G_arg14
  step k acc := by
    iintro ⟨HR_arg16, ⟨%f_arg11, HW_arg11, %h_arg11⟩, ⟨%f_arg12, HW_arg12, %h_arg12⟩, ⟨%f_arg13, HW_arg13, %h_arg13⟩, ⟨%f_arg14, HW_arg14, %h_arg14⟩⟩
    iapply (wp_wand_r Idealize.ShloMosaic.frame (wpE (defs₀ (F := F)) 𝒱 (c : Thread nD τ) bd) E)
    isplitl [HR_arg16 HW_arg11 HW_arg12 HW_arg13 HW_arg14]
    · iapply ((trip_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X_arg16 k).2.2.2.2 E f_arg11 f_arg12 f_arg13 f_arg14)
      isplitl [HR_arg16]; · iexact HR_arg16
      isplitl [HW_arg11]; · iexact HW_arg11
      isplitl [HW_arg12]; · iexact HW_arg12
      isplitl [HW_arg13]; · iexact HW_arg13
      iexact HW_arg14
    · iintro %_ ⟨HR_arg16, HW_arg11, HW_arg12, HW_arg13, HW_arg14⟩
      isplitl [HR_arg16]; · iexact HR_arg16
      rw [pb_k0_t2_succ]
      isplitl [HW_arg11]
      · iexists _; isplitl [HW_arg11]; · iexact HW_arg11
        ipureintro; rw [h_arg11, ← View.writes_append]
      isplitl [HW_arg12]
      · iexists _; isplitl [HW_arg12]; · iexact HW_arg12
        ipureintro; rw [h_arg12, ← View.writes_append]
      isplitl [HW_arg13]
      · iexists _; isplitl [HW_arg13]; · iexact HW_arg13
        ipureintro; rw [h_arg13, ← View.writes_append]
      iexists _; isplitl [HW_arg14]; · iexact HW_arg14
      ipureintro; rw [h_arg14, ← View.writes_append]

set_option maxHeartbeats 400000

/-! ## What the last point's loop leaves -/

section Blocks
variable (b : Vec F S32x5760 .f32)
/-- The codes of the rows less their means; the variances; the standard deviations by 24 Newton steps. -/
def y32 : FVec F S32x5760 .f32 :=
  k0_pay19 (k0_pay14 b) (k0_pay16 b) 5760#32 (k0_pay17 b) (k0_pay18 b) (Scalar.extui (Scalar.cmpi .sgt 5760#32 0#32)) (Scalar.cmpi .slt 5760#32 0#32)
def n32 : IVec S32x1 32 :=
  k0_pay20 (k0_pay14 b) (k0_pay16 b) 5760#32 (k0_pay17 b) (k0_pay18 b) (Scalar.extui (Scalar.cmpi .sgt 5760#32 0#32)) (Scalar.cmpi .slt 5760#32 0#32)
def r32 : IVec S32x1 32 :=
  Scf.fold (fun (_ : Fin k0_t3_loop.trips) r => k0_pay22 r (k0_pay10 (n32 b) r) (k0_pay11 (n32 b) r) k0_pay12) k0_pay21
end Blocks

/-- The codes of the rows of `h`, and their scales; the codes of the normalised rows, and their scales: by blocks of 32 rows. -/
def outH (H : Vec F S256x5760 .f32) : Vec F S256x5760 .i8 := glue32 fun k => k0_pay15 (blk32 H k)
def outHs (H : Vec F S256x5760 .f32) : Vec F S256x1 .f32 := glue32 fun k => k0_pay13 (blk32 H k)
def outO (v33 v35 : Vec F S1x5760 .f32) (H : Vec F S256x5760 .f32) : Vec F S256x5760 .i8 :=
  glue32 fun k => k0_pay8 v33 v35 (y32 (blk32 H k)) (k0_pay23 (r32 (blk32 H k))) (k0_pay24 (r32 (blk32 H k))) 1#32
def outOs (v33 v35 : Vec F S1x5760 .f32) (H : Vec F S256x5760 .f32) : Vec F S256x1 .f32 :=
  glue32 fun k => k0_pay7 v33 v35 (y32 (blk32 H k)) (k0_pay23 (r32 (blk32 H k))) (k0_pay24 (r32 (blk32 H k))) 1#32

section Loop
variable (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h2 : k0_cond2 i = 1#1) (v33 v35 : Vec F S1x5760 .f32) (X : BufTy.Contents (Elt F) arg16.view.ty)

theorem trips0 : k0_t2_loop.trips = 8 := by decide +kernel

set_option maxHeartbeats 1000000 in
/-- One trip's stores. -/
theorem tripL_eq (k : Fin k0_t2_loop.trips) :
    tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k
      = ([⟨Rect.unit (s := S256x5760) (k0_off4 k) S32x5760.size (k0_off4_inb i k k0_h2), k0_pay15 (blk32 (arg16.view.read (Elt F) X) k.val)⟩],
         [⟨Rect.unit (s := S256x1) (k0_off5 k) S32x1.size (k0_off5_inb i k k0_h2), k0_pay13 (blk32 (arg16.view.read (Elt F) X) k.val)⟩],
         [⟨Rect.unit (s := S256x5760) (k0_off4 k) S32x5760.size (k0_off4_inb i k k0_h2),
            k0_pay8 v33 v35 (y32 (blk32 (arg16.view.read (Elt F) X) k.val)) (k0_pay23 (r32 (blk32 (arg16.view.read (Elt F) X) k.val))) (k0_pay24 (r32 (blk32 (arg16.view.read (Elt F) X) k.val))) 1#32⟩],
         [⟨Rect.unit (s := S256x1) (k0_off5 k) S32x1.size (k0_off5_inb i k k0_h2),
            k0_pay7 v33 v35 (y32 (blk32 (arg16.view.read (Elt F) X) k.val)) (k0_pay23 (r32 (blk32 (arg16.view.read (Elt F) X) k.val))) (k0_pay24 (r32 (blk32 (arg16.view.read (Elt F) X) k.val))) 1#32⟩]) := by
  rw [← readAt_rows arg16.view X (k0_off4_inb i k k0_h2) (k0_off4_eq k)]
  unfold tripL_k0_t2 trip_k0_t2
  rfl

theorem pb_succ (k : ℕ) (hk : k < 8) :
    pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X (k + 1)
      = ((tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X ⟨k, by rw [trips0]; exact hk⟩).1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).1,
         (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X ⟨k, by rw [trips0]; exact hk⟩).2.1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).2.1,
         (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X ⟨k, by rw [trips0]; exact hk⟩).2.2.1 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).2.2.1,
         (tripL_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X ⟨k, by rw [trips0]; exact hk⟩).2.2.2 ++ (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).2.2.2) :=
  pb_k0_t2_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X ⟨k, by rw [trips0]; exact hk⟩

theorem loop_outH (f : BufTy.Contents (Elt F) arg11.view.ty) :
    arg11.view.read (Elt F) (arg11.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k0_t2_loop.trips).1)
      = outH (arg16.view.read (Elt F) X) := by
  rw [trips0]
  exact read_writes_rows arg11.view f (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).1) rfl _ fun k hk =>
    ⟨_, k0_off4_inb i ⟨k, by rw [trips0]; exact hk⟩ k0_h2, k0_off4_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k hk, tripL_eq]; rfl⟩
theorem loop_outHs (f : BufTy.Contents (Elt F) arg12.view.ty) :
    arg12.view.read (Elt F) (arg12.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k0_t2_loop.trips).2.1)
      = outHs (arg16.view.read (Elt F) X) := by
  rw [trips0]
  exact read_writes_rows arg12.view f (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).2.1) rfl _ fun k hk =>
    ⟨_, k0_off5_inb i ⟨k, by rw [trips0]; exact hk⟩ k0_h2, k0_off5_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k hk, tripL_eq]; rfl⟩
theorem loop_outO (f : BufTy.Contents (Elt F) arg13.view.ty) :
    arg13.view.read (Elt F) (arg13.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k0_t2_loop.trips).2.2.1)
      = outO v33 v35 (arg16.view.read (Elt F) X) := by
  rw [trips0]
  exact read_writes_rows arg13.view f (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).2.2.1) rfl _ fun k hk =>
    ⟨_, k0_off4_inb i ⟨k, by rw [trips0]; exact hk⟩ k0_h2, k0_off4_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k hk, tripL_eq]; rfl⟩
theorem loop_outOs (f : BufTy.Contents (Elt F) arg14.view.ty) :
    arg14.view.read (Elt F) (arg14.view.writes (Elt F) f (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k0_t2_loop.trips).2.2.2)
      = outOs v33 v35 (arg16.view.read (Elt F) X) := by
  rw [trips0]
  exact read_writes_rows arg14.view f (fun k => (pb_k0_t2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k).2.2.2) rfl _ fun k hk =>
    ⟨_, k0_off5_inb i ⟨k, by rw [trips0]; exact hk⟩ k0_h2, k0_off5_eq _, by beta_reduce; rw [pb_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h2 v33 v35 X k hk, tripL_eq]; rfl⟩
end Loop

/-! ## What the first point's loop leaves -/

/-- The codes of the rows of the first input, as bytes and as floats, and their scales: by blocks of 32 rows. -/
def outC (X : Vec F S256x5760 .f32) : Vec F S256x5760 .i8 := glue32 fun k => k0_pay3 (blk32 X k)
def outCb (X : Vec F S256x5760 .f32) : Vec F S256x5760 .bf16 := glue32 fun k => k0_pay4 (blk32 X k)
def outCs (X : Vec F S256x5760 .f32) : Vec F S256x1 .f32 := glue32 fun k => k0_pay1 (blk32 X k)

section First
variable (𝒱 : Variants) (c : Dev nD) (bd : Option 𝒱.V) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (k0_h1 : k0_cond1 i = 1#1) (X : BufTy.Contents (Elt F) arg1.view.ty)

theorem trips1 : k0_t1_loop.trips = 8 := by decide +kernel

set_option maxHeartbeats 1000000 in
/-- One trip's stores. -/
theorem tripC_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k
      = ([⟨Rect.unit (s := S256x5760) (k0_off1 k) S32x5760.size (k0_off1_inb i k k0_h1), k0_pay3 (blk32 (arg1.view.read (Elt F) X) k.val)⟩],
         [⟨Rect.unit (s := S256x1) (k0_off2 k) S32x1.size (k0_off2_inb i k k0_h1), k0_pay1 (blk32 (arg1.view.read (Elt F) X) k.val)⟩],
         [⟨Rect.unit (s := S256x5760) (k0_off1 k) S32x5760.size (k0_off1_inb i k k0_h1), k0_pay4 (blk32 (arg1.view.read (Elt F) X) k.val)⟩]) := by
  rw [← readAt_rows arg1.view X (k0_off1_inb i k k0_h1) (k0_off1_eq k)]
  unfold tripL_k0_t1 trip_k0_t1
  rfl

theorem pbC_succ (k : ℕ) (hk : k < 8) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X (k + 1)
      = ((tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X ⟨k, by rw [trips1]; exact hk⟩).1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k).1,
         (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X ⟨k, by rw [trips1]; exact hk⟩).2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k).2.1,
         (tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X ⟨k, by rw [trips1]; exact hk⟩).2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k).2.2) :=
  pb_k0_t1_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X ⟨k, by rw [trips1]; exact hk⟩

theorem loop_outC (f : BufTy.Contents (Elt F) arg9.view.ty) :
    arg9.view.read (Elt F) (arg9.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k0_t1_loop.trips).1)
      = outC (arg1.view.read (Elt F) X) := by
  rw [trips1]
  exact read_writes_rows arg9.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k).1) rfl _ fun k hk =>
    ⟨_, k0_off1_inb i ⟨k, by rw [trips1]; exact hk⟩ k0_h1, k0_off1_eq _, by beta_reduce; rw [pbC_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k hk, tripC_eq]; rfl⟩
theorem loop_outCs (f : BufTy.Contents (Elt F) arg10.view.ty) :
    arg10.view.read (Elt F) (arg10.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k0_t1_loop.trips).2.1)
      = outCs (arg1.view.read (Elt F) X) := by
  rw [trips1]
  exact read_writes_rows arg10.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k).2.1) rfl _ fun k hk =>
    ⟨_, k0_off2_inb i ⟨k, by rw [trips1]; exact hk⟩ k0_h1, k0_off2_eq _, by beta_reduce; rw [pbC_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k hk, tripC_eq]; rfl⟩
theorem loop_outCb (f : BufTy.Contents (Elt F) arg15.view.ty) :
    arg15.view.read (Elt F) (arg15.view.writes (Elt F) f (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k0_t1_loop.trips).2.2)
      = outCb (arg1.view.read (Elt F) X) := by
  rw [trips1]
  exact read_writes_rows arg15.view f (fun k => (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k).2.2) rfl _ fun k hk =>
    ⟨_, k0_off1_inb i ⟨k, by rw [trips1]; exact hk⟩ k0_h1, k0_off1_eq _, by beta_reduce; rw [pbC_succ 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 k0_h1 X k hk, tripC_eq]; rfl⟩
end First

/-! ## The three triples -/

/-- The scratch `h` after point `t`'s store of its block of columns. -/
abbrev putH (t : ℕ) (w : Vec F S256x640 .f32) (d : Vec F S256x5760 .f32) : Vec F S256x5760 .f32 :=
  putCols (r := 256) (b := 640) (n := 5760) (by decide) t w d

set_option maxHeartbeats 2000000 in
/-- The first point: a loop over blocks of rows fills the first input's codes and scales, and the first block of columns of `h` is stored. -/
theorem run0_A (c : Dev nD) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (hc0 : k0_cond1 i = 1#1) (hc1 : ¬k0_cond2 i = 1#1)
    (x0 : Vec F S256x5760 .f32) (x1 : Vec F S256x640 .i8) (x2 : Vec F S256x1 .f32) (x3 : Vec F S5760x640 .i8) (x4 : Vec F S1x640 .f32) (x5 : Vec F S1x640 .f32) (x6 : Vec F S1x5760 .f32) (x7 : Vec F S1x5760 .f32)
    (y0 : Vec F S256x5760 .i8) (y1 : Vec F S256x1 .f32) (y2 : Vec F S256x5760 .i8) (y3 : Vec F S256x1 .f32) (y4 : Vec F S256x5760 .i8) (y5 : Vec F S256x1 .f32)
    (xs0 : Vec F S256x5760 .bf16) (xs1 : Vec F S256x5760 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y0 ∗ owns (c : Thread nD τ) arg10 fullShare y1 ∗ owns (c : Thread nD τ) arg11 fullShare y2 ∗ owns (c : Thread nD τ) arg12 fullShare y3 ∗ owns (c : Thread nD τ) arg13 fullShare y4 ∗ owns (c : Thread nD τ) arg14 fullShare y5 ∗ owns (c : Thread nD τ) arg15 fullShare xs0 ∗ owns (c : Thread nD τ) arg16 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (outC x0) ∗ owns (c : Thread nD τ) arg10 fullShare (outCs x0) ∗ owns (c : Thread nD τ) arg11 fullShare y2 ∗ owns (c : Thread nD τ) arg12 fullShare y3 ∗ owns (c : Thread nD τ) arg13 fullShare y4 ∗ owns (c : Thread nD τ) arg14 fullShare y5 ∗ owns (c : Thread nD τ) arg15 fullShare (outCb x0) ∗ owns (c : Thread nD τ) arg16 fullShare (putH (i 0).val (k0_pay5 (outCb x0) x3 (outCs x0) x4 x5 x1 x2) xs1)) -∗ K ⟨⟩))
      ⊢ wp frame (wpE (defs₀ (F := F)) Variants.none c none) E (cc0_out_proj_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_proj_ln_eq_skeleton]; unfold cc0_out_proj_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g2, %hg2, G2⟩, ⟨%g3, %hg3, G3⟩, ⟨%g4, %hg4, G4⟩, ⟨%g5, %hg5, G5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
  sl_exec (disch := first | sl_exact hc0 | sl_exact hc1)
  sl_step
  iapply Hk
  have e1 := (readAt_whole arg2.view (harg2.unread x1) inb_S256x640_S256x640_0_0).trans (harg2.read_unread x1)
  have e2 := (readAt_whole arg3.view (harg3.unread x2) inb_S256x1_S256x1_0_0).trans (harg3.read_unread x2)
  have e3 := (readAt_whole arg4.view (harg4.unread x3) inb_S5760x640_S5760x640_0_0).trans (harg4.read_unread x3)
  have e4 := (readAt_whole arg5.view (harg5.unread x4) inb_S1x640_S1x640_0_0).trans (harg5.read_unread x4)
  have e5 := (readAt_whole arg6.view (harg6.unread x5) inb_S1x640_S1x640_0_0).trans (harg6.read_unread x5)
  have lC := (loop_outC Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) g0).trans (congrArg outC (harg1.read_unread x0))
  have lS := (loop_outCs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) g1).trans (congrArg outCs (harg1.read_unread x0))
  have lB := (loop_outCb Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 (harg1.unread x0) fs0).trans (congrArg outCb (harg1.read_unread x0))
  have e10 := (readAt_whole arg15.view _ inb_S256x5760_S256x5760_0_0).trans lB
  have e11 := (readAt_whole arg10.view _ inb_S256x1_S256x1_0_0).trans lS
  have hW := congr (congr (congr (congr (congr (congr (congrArg (k0_pay5 (F := F)) e10) e3) e11) e4) e5) e1) e2
  have hU := (read_writes_cols (by decide) arg16.view fs1 (k0_off3_inb i) _ (k0_off3_eq i)).trans (congrArg₂ (putH (i 0).val) hW hfs1)
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [G0]
  · iexists _; isplitr; swap; · iexact G0
    ipureintro; exact lC
  isplitl [G1]
  · iexists _; isplitr; swap; · iexact G1
    ipureintro; exact lS
  isplitl [G2]
  · iexists _; isplitr; swap; · iexact G2
    ipureintro; exact hg2
  isplitl [G3]
  · iexists _; isplitr; swap; · iexact G3
    ipureintro; exact hg3
  isplitl [G4]
  · iexists _; isplitr; swap; · iexact G4
    ipureintro; exact hg4
  isplitl [G5]
  · iexists _; isplitr; swap; · iexact G5
    ipureintro; exact hg5
  isplitl [HS0]
  · iexists _; isplitr; swap; · iexact HS0
    ipureintro; exact lB
  iexists _; isplitr; swap; · iexact HS1
  ipureintro; exact hU

set_option maxHeartbeats 2000000 in
/-- A point in between: one block of columns of `h` is stored. -/
theorem run0_B (c : Dev nD) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (hc0 : ¬k0_cond1 i = 1#1) (hc1 : ¬k0_cond2 i = 1#1)
    (x0 : Vec F S256x5760 .f32) (x1 : Vec F S256x640 .i8) (x2 : Vec F S256x1 .f32) (x3 : Vec F S5760x640 .i8) (x4 : Vec F S1x640 .f32) (x5 : Vec F S1x640 .f32) (x6 : Vec F S1x5760 .f32) (x7 : Vec F S1x5760 .f32)
    (y0 : Vec F S256x5760 .i8) (y1 : Vec F S256x1 .f32) (y2 : Vec F S256x5760 .i8) (y3 : Vec F S256x1 .f32) (y4 : Vec F S256x5760 .i8) (y5 : Vec F S256x1 .f32)
    (xs0 : Vec F S256x5760 .bf16) (xs1 : Vec F S256x5760 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y0 ∗ owns (c : Thread nD τ) arg10 fullShare y1 ∗ owns (c : Thread nD τ) arg11 fullShare y2 ∗ owns (c : Thread nD τ) arg12 fullShare y3 ∗ owns (c : Thread nD τ) arg13 fullShare y4 ∗ owns (c : Thread nD τ) arg14 fullShare y5 ∗ owns (c : Thread nD τ) arg15 fullShare xs0 ∗ owns (c : Thread nD τ) arg16 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y0 ∗ owns (c : Thread nD τ) arg10 fullShare y1 ∗ owns (c : Thread nD τ) arg11 fullShare y2 ∗ owns (c : Thread nD τ) arg12 fullShare y3 ∗ owns (c : Thread nD τ) arg13 fullShare y4 ∗ owns (c : Thread nD τ) arg14 fullShare y5 ∗ owns (c : Thread nD τ) arg15 fullShare xs0 ∗ owns (c : Thread nD τ) arg16 fullShare (putH (i 0).val (k0_pay5 xs0 x3 y1 x4 x5 x1 x2) xs1)) -∗ K ⟨⟩))
      ⊢ wp frame (wpE (defs₀ (F := F)) Variants.none c none) E (cc0_out_proj_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_proj_ln_eq_skeleton]; unfold cc0_out_proj_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g2, %hg2, G2⟩, ⟨%g3, %hg3, G3⟩, ⟨%g4, %hg4, G4⟩, ⟨%g5, %hg5, G5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0; obtain rfl := harg10.eq_unread hg1
  sl_exec (disch := first | sl_exact hc0 | sl_exact hc1)
  sl_step
  iapply Hk
  have e1 := (readAt_whole arg2.view (harg2.unread x1) inb_S256x640_S256x640_0_0).trans (harg2.read_unread x1)
  have e2 := (readAt_whole arg3.view (harg3.unread x2) inb_S256x1_S256x1_0_0).trans (harg3.read_unread x2)
  have e3 := (readAt_whole arg4.view (harg4.unread x3) inb_S5760x640_S5760x640_0_0).trans (harg4.read_unread x3)
  have e4 := (readAt_whole arg5.view (harg5.unread x4) inb_S1x640_S1x640_0_0).trans (harg5.read_unread x4)
  have e5 := (readAt_whole arg6.view (harg6.unread x5) inb_S1x640_S1x640_0_0).trans (harg6.read_unread x5)
  have e10 := (readAt_whole arg15.view (harg15.unread xs0) inb_S256x5760_S256x5760_0_0).trans (harg15.read_unread xs0)
  have e11 := (readAt_whole arg10.view (harg10.unread y1) inb_S256x1_S256x1_0_0).trans (harg10.read_unread y1)
  have hW := congr (congr (congr (congr (congr (congr (congrArg (k0_pay5 (F := F)) e10) e3) e11) e4) e5) e1) e2
  have hU := (read_writes_cols (by decide) arg16.view fs1 (k0_off3_inb i) _ (k0_off3_eq i)).trans (congrArg₂ (putH (i 0).val) hW hfs1)
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [G0]
  · iexists _; isplitr; swap; · iexact G0
    ipureintro; exact hg0
  isplitl [G1]
  · iexists _; isplitr; swap; · iexact G1
    ipureintro; exact harg10.read_unread _
  isplitl [G2]
  · iexists _; isplitr; swap; · iexact G2
    ipureintro; exact hg2
  isplitl [G3]
  · iexists _; isplitr; swap; · iexact G3
    ipureintro; exact hg3
  isplitl [G4]
  · iexists _; isplitr; swap; · iexact G4
    ipureintro; exact hg4
  isplitl [G5]
  · iexists _; isplitr; swap; · iexact G5
    ipureintro; exact hg5
  isplitl [HS0]
  · iexists _; isplitr; swap; · iexact HS0
    ipureintro; exact harg15.read_unread _
  iexists _; isplitr; swap; · iexact HS1
  ipureintro; exact hU

set_option maxHeartbeats 2000000 in
/-- The last point: the last block of columns of `h` is stored, and the loop over blocks of rows fills the results. -/
theorem run0_C (c : Dev nD) (i : grid0.Coords) (arg1 : Memref sig .tc .vmem S256x5760 .f32) (harg1 : arg1.IsWhole) (arg2 : Memref sig .tc .vmem S256x640 .i8) (harg2 : arg2.IsWhole) (arg3 : Memref sig .tc .vmem S256x1 .f32) (harg3 : arg3.IsWhole) (arg4 : Memref sig .tc .vmem S5760x640 .i8) (harg4 : arg4.IsWhole) (arg5 : Memref sig .tc .vmem S1x640 .f32) (harg5 : arg5.IsWhole) (arg6 : Memref sig .tc .vmem S1x640 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (arg13 : Memref sig .tc .vmem S256x5760 .i8) (harg13 : arg13.IsWhole) (arg14 : Memref sig .tc .vmem S256x1 .f32) (harg14 : arg14.IsWhole) (arg15 : Memref sig .tc .vmem S256x5760 .bf16) (harg15 : arg15.IsWhole) (arg16 : Memref sig .tc .vmem S256x5760 .f32) (harg16 : arg16.IsWhole) (hc0 : ¬k0_cond1 i = 1#1) (hc1 : k0_cond2 i = 1#1)
    (x0 : Vec F S256x5760 .f32) (x1 : Vec F S256x640 .i8) (x2 : Vec F S256x1 .f32) (x3 : Vec F S5760x640 .i8) (x4 : Vec F S1x640 .f32) (x5 : Vec F S1x640 .f32) (x6 : Vec F S1x5760 .f32) (x7 : Vec F S1x5760 .f32)
    (y0 : Vec F S256x5760 .i8) (y1 : Vec F S256x1 .f32) (y2 : Vec F S256x5760 .i8) (y3 : Vec F S256x1 .f32) (y4 : Vec F S256x5760 .i8) (y5 : Vec F S256x1 .f32)
    (xs0 : Vec F S256x5760 .bf16) (xs1 : Vec F S256x5760 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y0 ∗ owns (c : Thread nD τ) arg10 fullShare y1 ∗ owns (c : Thread nD τ) arg11 fullShare y2 ∗ owns (c : Thread nD τ) arg12 fullShare y3 ∗ owns (c : Thread nD τ) arg13 fullShare y4 ∗ owns (c : Thread nD τ) arg14 fullShare y5 ∗ owns (c : Thread nD τ) arg15 fullShare xs0 ∗ owns (c : Thread nD τ) arg16 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare y0 ∗ owns (c : Thread nD τ) arg10 fullShare y1 ∗ owns (c : Thread nD τ) arg11 fullShare (outH (putH (i 0).val (k0_pay5 xs0 x3 y1 x4 x5 x1 x2) xs1)) ∗ owns (c : Thread nD τ) arg12 fullShare (outHs (putH (i 0).val (k0_pay5 xs0 x3 y1 x4 x5 x1 x2) xs1)) ∗ owns (c : Thread nD τ) arg13 fullShare (outO x6 x7 (putH (i 0).val (k0_pay5 xs0 x3 y1 x4 x5 x1 x2) xs1)) ∗ owns (c : Thread nD τ) arg14 fullShare (outOs x6 x7 (putH (i 0).val (k0_pay5 xs0 x3 y1 x4 x5 x1 x2) xs1)) ∗ owns (c : Thread nD τ) arg15 fullShare xs0 ∗ owns (c : Thread nD τ) arg16 fullShare (putH (i 0).val (k0_pay5 xs0 x3 y1 x4 x5 x1 x2) xs1)) -∗ K ⟨⟩))
      ⊢ wp frame (wpE (defs₀ (F := F)) Variants.none c none) E (cc0_out_proj_ln i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_out_proj_ln_eq_skeleton]; unfold cc0_out_proj_ln_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g2, %hg2, G2⟩, ⟨%g3, %hg3, G3⟩, ⟨%g4, %hg4, G4⟩, ⟨%g5, %hg5, G5⟩, ⟨%fs0, %hfs0, HS0⟩, ⟨%fs1, %hfs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg15.eq_unread hfs0; obtain rfl := harg10.eq_unread hg1
  sl_exec (disch := first | sl_exact hc0 | sl_exact hc1)
  sl_step
  iapply Hk
  have e1 := (readAt_whole arg2.view (harg2.unread x1) inb_S256x640_S256x640_0_0).trans (harg2.read_unread x1)
  have e2 := (readAt_whole arg3.view (harg3.unread x2) inb_S256x1_S256x1_0_0).trans (harg3.read_unread x2)
  have e3 := (readAt_whole arg4.view (harg4.unread x3) inb_S5760x640_S5760x640_0_0).trans (harg4.read_unread x3)
  have e4 := (readAt_whole arg5.view (harg5.unread x4) inb_S1x640_S1x640_0_0).trans (harg5.read_unread x4)
  have e5 := (readAt_whole arg6.view (harg6.unread x5) inb_S1x640_S1x640_0_0).trans (harg6.read_unread x5)
  have e6 := (readAt_whole arg7.view (harg7.unread x6) inb_S1x5760_S1x5760_0_0).trans (harg7.read_unread x6)
  have e7 := (readAt_whole arg8.view (harg8.unread x7) inb_S1x5760_S1x5760_0_0).trans (harg8.read_unread x7)
  have e10 := (readAt_whole arg15.view (harg15.unread xs0) inb_S256x5760_S256x5760_0_0).trans (harg15.read_unread xs0)
  have e11 := (readAt_whole arg10.view (harg10.unread y1) inb_S256x1_S256x1_0_0).trans (harg10.read_unread y1)
  have hW := congr (congr (congr (congr (congr (congr (congrArg (k0_pay5 (F := F)) e10) e3) e11) e4) e5) e1) e2
  have hU := (read_writes_cols (by decide) arg16.view fs1 (k0_off3_inb i) _ (k0_off3_eq i)).trans (congrArg₂ (putH (i 0).val) hW hfs1)
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [G0]
  · iexists _; isplitr; swap; · iexact G0
    ipureintro; exact hg0
  isplitl [G1]
  · iexists _; isplitr; swap; · iexact G1
    ipureintro; exact harg10.read_unread _
  isplitl [G2]
  · iexists _; isplitr; swap; · iexact G2
    ipureintro; exact (loop_outH Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _).trans (congrArg outH hU)
  isplitl [G3]
  · iexists _; isplitr; swap; · iexact G3
    ipureintro; exact (loop_outHs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _).trans (congrArg outHs hU)
  isplitl [G4]
  · iexists _; isplitr; swap; · iexact G4
    ipureintro; exact (loop_outO Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _).trans (congr (congr (congrArg outO e6) e7) hU)
  isplitl [G5]
  · iexists _; isplitr; swap; · iexact G5
    ipureintro; exact (loop_outOs Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc1 _ _ _ _).trans (congr (congr (congrArg outOs e6) e7) hU)
  isplitl [HS0]
  · iexists _; isplitr; swap; · iexact HS0
    ipureintro; exact harg15.read_unread _
  iexists _; isplitr; swap; · iexact HS1
  ipureintro; exact hU

end Cert.ThirdIdeal.Gen

end
-- ==== Proof.ThirdIdealRun.lean ====
/-
  The run of the output projection kernel over its grid: what the scratch holds between points, the body's triple at every
  point, the launch, and the arrays' final contents.
-/
module

public import proofs.«01_k».proof.Proof.ThirdIdealBody
public import Idealize.ShloMosaic.Lib.Pipeline.TableIdle
public import Idealize.ShloMosaic.Lib.Claim

@[expose] public section

set_option maxRecDepth 16640

noncomputable section

namespace Cert.ThirdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers, the scratch, the idle points -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
abbrev scM0_0 : Memref sig .tc .vmem S256x5760 .bf16 := Memref.whole cc0_scratch0
abbrev scM0_1 : Memref sig .tc .vmem S256x5760 .f32 := Memref.whole cc0_scratch1

/-- The region's invariant before its first point: each scratch at anything. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem idleAt0_8 : ∀ t : Fin cfg0.N, t.val ≠ 0 → cfg0.idle 8 (grid0.coords t) = true := by decide +kernel
theorem firstAt0_8 : ∀ t : Fin cfg0.N, t.val = 0 → cfg0.idle 8 (grid0.coords t) = false := by decide +kernel
theorem noFlush0_8 : ∀ t : Fin cfg0.N, t.val ≠ 8 → (cfg0.win 8).flush t = false := by decide +kernel
theorem lastFlush0_8 : ∀ t : Fin cfg0.N, t.val = 8 → (cfg0.win 8).flush t = true := by decide +kernel
theorem notFresh0_8 : ∀ t : Fin cfg0.N, t.val ≠ 0 → cfg0.fresh 8 t.val = false := by decide +kernel
theorem idleAt0_9 : ∀ t : Fin cfg0.N, t.val ≠ 0 → cfg0.idle 9 (grid0.coords t) = true := by decide +kernel
theorem firstAt0_9 : ∀ t : Fin cfg0.N, t.val = 0 → cfg0.idle 9 (grid0.coords t) = false := by decide +kernel
theorem noFlush0_9 : ∀ t : Fin cfg0.N, t.val ≠ 8 → (cfg0.win 9).flush t = false := by decide +kernel
theorem lastFlush0_9 : ∀ t : Fin cfg0.N, t.val = 8 → (cfg0.win 9).flush t = true := by decide +kernel
theorem notFresh0_9 : ∀ t : Fin cfg0.N, t.val ≠ 0 → cfg0.fresh 9 t.val = false := by decide +kernel
theorem idleAt0_10 : ∀ t : Fin cfg0.N, t.val ≠ 8 → cfg0.idle 10 (grid0.coords t) = true := by decide +kernel
theorem lastAt0_10 : ∀ t : Fin cfg0.N, t.val = 8 → cfg0.idle 10 (grid0.coords t) = false := by decide +kernel
theorem noFlush0_10 : ∀ t : Fin cfg0.N, t.val ≠ 8 → (cfg0.win 10).flush t = false := by decide +kernel
theorem idleAt0_11 : ∀ t : Fin cfg0.N, t.val ≠ 8 → cfg0.idle 11 (grid0.coords t) = true := by decide +kernel
theorem lastAt0_11 : ∀ t : Fin cfg0.N, t.val = 8 → cfg0.idle 11 (grid0.coords t) = false := by decide +kernel
theorem noFlush0_11 : ∀ t : Fin cfg0.N, t.val ≠ 8 → (cfg0.win 11).flush t = false := by decide +kernel
theorem idleAt0_12 : ∀ t : Fin cfg0.N, t.val ≠ 8 → cfg0.idle 12 (grid0.coords t) = true := by decide +kernel
theorem lastAt0_12 : ∀ t : Fin cfg0.N, t.val = 8 → cfg0.idle 12 (grid0.coords t) = false := by decide +kernel
theorem noFlush0_12 : ∀ t : Fin cfg0.N, t.val ≠ 8 → (cfg0.win 12).flush t = false := by decide +kernel
theorem idleAt0_13 : ∀ t : Fin cfg0.N, t.val ≠ 8 → cfg0.idle 13 (grid0.coords t) = true := by decide +kernel
theorem lastAt0_13 : ∀ t : Fin cfg0.N, t.val = 8 → cfg0.idle 13 (grid0.coords t) = false := by decide +kernel
theorem noFlush0_13 : ∀ t : Fin cfg0.N, t.val ≠ 8 → (cfg0.win 13).flush t = false := by decide +kernel
theorem coord0 : ∀ t : Fin cfg0.N, (grid0.coords t 0).val = t.val := by decide +kernel

/-! ## The matrix `h` -/

/-- The grid point that computes a column of `h`. -/
def pt0 (y : S256x5760.Idx) : Fin cfg0.N := ⟨(y 1).val / 640, by
  have h : (y 1).val < 5760 := (y 1).isLt
  exact lt_of_lt_of_eq (by omega) N_0.symm⟩

/-- Point 0. -/
abbrev p0 : Fin cfg0.N := ⟨0, lt_of_lt_of_eq (by decide) N_0.symm⟩

/-- `h`, every block of columns by the point that computes it. -/
def Hmat (c : Dev nD) : Vec F S256x5760 .f32 := fun y =>
  k0_pay5 (outCb (iblk m c 0 p0)) (iblk m c 3 (pt0 y)) (outCs (iblk m c 0 p0)) (iblk m c 4 (pt0 y)) (iblk m c 5 (pt0 y)) (iblk m c 1 (pt0 y)) (iblk m c 2 (pt0 y))
    (ix2 (y 0) ⟨(y 1).val % 640, Nat.mod_lt _ (by decide)⟩)

/-- The columns stored before point `n` are those of `h`. -/
def Upto (c : Dev nD) (n : ℕ) (d : Vec F S256x5760 .f32) : Prop :=
  ∀ y : S256x5760.Idx, (y 1).val / 640 < n → d y = Hmat m c y

theorem upto_step (c : Dev nD) (t : Fin cfg0.N) (d : Vec F S256x5760 .f32) (h : Upto m c t.val d) :
    Upto m c (t.val + 1) (putH (grid0.coords t 0).val (k0_pay5 (outCb (iblk m c 0 p0)) (iblk m c 3 t) (outCs (iblk m c 0 p0)) (iblk m c 4 t) (iblk m c 5 t) (iblk m c 1 t) (iblk m c 2 t)) d) := by
  intro y hy
  rw [coord0]
  unfold putH putCols
  by_cases e : (y 1).val / 640 = t.val
  · rw [if_pos e]
    have ep : pt0 y = t := Fin.ext e
    unfold Hmat
    rw [ep]
  · rw [if_neg e]
    exact h y (by omega)

theorem upto_zero (c : Dev nD) (d : Vec F S256x5760 .f32) : Upto m c 0 d := fun _ h => absurd h (Nat.not_lt_zero _)

theorem upto_all (c : Dev nD) (d : Vec F S256x5760 .f32) (h : Upto m c 9 d) : d = Hmat m c :=
  funext fun y => h y (by
    have h : (y 1).val < 5760 := (y 1).isLt
    omega)

/-! ## The invariant and the proof data -/

/-- Before the first point, each scratch at anything; after point `n`, the first scratch at the codes of the first input as floats and the
    second with the columns stored so far. -/
def PhiS (c : Dev nD) : (n : ℕ) → n ≤ cfg0.N → sProp 𝕄
  | 0, _ => Pipeline.ΦA spec0 c
  | n + 1, hn => iprop(iprop(owns (c : Thread nD τ) scM0_0 fullShare (outCb (iblk m c 0 p0))
      ∗ (∃ d, ⌜Upto m c (n + 1) d⌝ ∗ owns (c : Thread nD τ) scM0_1 fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare (outCb (iblk m c 0 p0))
      ∗ (∃ d, ⌜Upto m c (n + 1) d⌝ ∗ owns (c : Thread nD τ) scM0_1 fullShare d)) ∗ (∃ r, prngReg c r)) := rfl

theorem PhiS_pos (c : Dev nD) (n : ℕ) (h : n ≤ cfg0.N) (hz : n ≠ 0) :
    PhiS m c n h = iprop(iprop(owns (c : Thread nD τ) scM0_0 fullShare (outCb (iblk m c 0 p0))
      ∗ (∃ d, ⌜Upto m c n d⌝ ∗ owns (c : Thread nD τ) scM0_1 fullShare d)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outC (iblk m c 0 p0)
    | ⟨9, _⟩ => outCs (iblk m c 0 p0)
    | ⟨10, _⟩ => outH (Hmat m c)
    | ⟨11, _⟩ => outHs (Hmat m c)
    | ⟨12, _⟩ => outO (iblk m c 6 t) (iblk m c 7 t) (Hmat m c)
    | ⟨13, _⟩ => outOs (iblk m c 6 t) (iblk m c 7 t) (Hmat m c)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = outC (iblk m c 0 p0) := by dsimp only [dats]
theorem after0_9 (c : Dev nD) (t : Fin cfg0.N) : (dats m 0 c).after 9 t = outCs (iblk m c 0 p0) := by dsimp only [dats]
theorem after0_10 (c : Dev nD) (t : Fin cfg0.N) : (dats m 0 c).after 10 t = outH (Hmat m c) := by dsimp only [dats]
theorem after0_11 (c : Dev nD) (t : Fin cfg0.N) : (dats m 0 c).after 11 t = outHs (Hmat m c) := by dsimp only [dats]
theorem after0_12 (c : Dev nD) (t : Fin cfg0.N) : (dats m 0 c).after 12 t = outO (iblk m c 6 t) (iblk m c 7 t) (Hmat m c) := by dsimp only [dats]
theorem after0_13 (c : Dev nD) (t : Fin cfg0.N) : (dats m 0 c).after 13 t = outOs (iblk m c 6 t) (iblk m c 7 t) (Hmat m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
/-- From the second point on, the body finds what the first point left. -/
theorem before0_8 (c : Dev nD) (t : Fin cfg0.N) (h : t.val ≠ 0) (d) : (dats m 0 c).before 8 t d = outC (iblk m c 0 p0) := by
  rw [Dat.before_out_traj (dats m 0 c) 8 rfl (fun _ _ => rfl) (fun t _ _ _ => (after0_8 m c t).trans (after0_8 m c _).symm) t.val t rfl d,
    notFresh0_8 t h, if_neg Bool.false_ne_true, after0_8]
/-- From the second point on, the body finds what the first point left. -/
theorem before0_9 (c : Dev nD) (t : Fin cfg0.N) (h : t.val ≠ 0) (d) : (dats m 0 c).before 9 t d = outCs (iblk m c 0 p0) := by
  rw [Dat.before_out_traj (dats m 0 c) 9 rfl (fun _ _ => rfl) (fun t _ _ _ => (after0_9 m c t).trans (after0_9 m c _).symm) t.val t rfl d,
    notFresh0_9 t h, if_neg Bool.false_ne_true, after0_9]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = PhiS m c (t.val + 1) t.isLt from rfl, PhiS_succ]
  have hN : t.val < 9 := lt_of_lt_of_eq t.isLt (show cfg0.N = 9 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  by_cases h0 : t.val = 0
  · have h1 : t.val ≠ 8 := by omega
    rw [show (dats m 0 c).leavesExact 8 t = owns (c : Thread nD τ) (ms0_8 t) fullShare ((dats m 0 c).after 8 t) from by
      unfold Dat.leavesExact; rw [firstAt0_8 t h0], after0_8]
    rw [show (dats m 0 c).leavesExact 9 t = owns (c : Thread nD τ) (ms0_9 t) fullShare ((dats m 0 c).after 9 t) from by
      unfold Dat.leavesExact; rw [firstAt0_9 t h0], after0_9]
    rw [Dat.leavesExact_idle (dats m 0 c) 10 t (idleAt0_10 t h1) (noFlush0_10 t h1)]
    rw [Dat.leavesExact_idle (dats m 0 c) 11 t (idleAt0_11 t h1) (noFlush0_11 t h1)]
    rw [Dat.leavesExact_idle (dats m 0 c) 12 t (idleAt0_12 t h1) (noFlush0_12 t h1)]
    rw [Dat.leavesExact_idle (dats m 0 c) 13 t (idleAt0_13 t h1) (noFlush0_13 t h1)]
    rw [PhiS_castSucc m c t, PhiS_zero m c _ _ h0, PhiA0_eq]
    iintro ⟨⟨⟨⟨%s0, HS0⟩, ⟨%s1, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (run0_A c (grid0.coords t) _ _ _ _ _ _ _ _ _ _ _ _ _ _ _ _ _ _ _ _ _ _ _ _ _ _ _ _ _ _ _ _ ((first0_iff t).mpr h0) (fun h => h1 ((last0_iff t).mp h)) (iblk m c 0 t) (iblk m c 1 t) (iblk m c 2 t) (iblk m c 3 t) (iblk m c 4 t) (iblk m c 5 t) (iblk m c 6 t) (iblk m c 7 t) _ _ _ _ _ _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, H9, H10, H11, H12, H13, HS0, HS1⟩
    have ht : t = p0 := Fin.ext h0
    have hu : Upto m c t.val s1 := by rw [h0]; exact upto_zero m c s1
    have hn := upto_step m c t s1 hu
    isplitl [HS0 HS1 Hg]
    · isplitl [HS0 HS1]
      · isplitl [HS0]
        · rw [← ht]; iexact HS0
        iexists _; isplitr; swap; · iexact HS1
        ipureintro; rw [← ht] at hn; exact hn
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · rw [← ht]; iexact H8
    isplitl [H9]; · rw [← ht]; iexact H9
    isplitl [H10]; · iexists _; iexact H10
    isplitl [H11]; · iexists _; iexact H11
    isplitl [H12]; · iexists _; iexact H12
    iexists _; iexact H13
  · by_cases h1 : t.val = 8
    · rw [show (dats m 0 c).leavesExact 8 t = owns (c : Thread nD τ) (ms0_8 t) fullShare ((dats m 0 c).after 8 t) from by
        unfold Dat.leavesExact; rw [idleAt0_8 t h0, lastFlush0_8 t h1], after0_8]
      rw [show (dats m 0 c).leavesExact 9 t = owns (c : Thread nD τ) (ms0_9 t) fullShare ((dats m 0 c).after 9 t) from by
        unfold Dat.leavesExact; rw [idleAt0_9 t h0, lastFlush0_9 t h1], after0_9]
      simp only [before0_8 m c t h0, before0_9 m c t h0]
      rw [show (dats m 0 c).leavesExact 10 t = owns (c : Thread nD τ) (ms0_10 t) fullShare ((dats m 0 c).after 10 t) from by
        unfold Dat.leavesExact; rw [lastAt0_10 t h1], after0_10]
      rw [show (dats m 0 c).leavesExact 11 t = owns (c : Thread nD τ) (ms0_11 t) fullShare ((dats m 0 c).after 11 t) from by
        unfold Dat.leavesExact; rw [lastAt0_11 t h1], after0_11]
      rw [show (dats m 0 c).leavesExact 12 t = owns (c : Thread nD τ) (ms0_12 t) fullShare ((dats m 0 c).after 12 t) from by
        unfold Dat.leavesExact; rw [lastAt0_12 t h1], after0_12]
      rw [show (dats m 0 c).leavesExact 13 t = owns (c : Thread nD τ) (ms0_13 t) fullShare ((dats m 0 c).after 13 t) from by
        unfold Dat.leavesExact; rw [lastAt0_13 t h1], after0_13]
      rw [PhiS_castSucc m c t, PhiS_pos m c _ _ h0]
      iintro ⟨⟨⟨HS0, ⟨%s1, %hu, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_C c (grid0.coords t) _ _ _ _ _ _ _ _ _ _ _ _ _ _ _ _ _ _ _ _ _ _ _ _ _ _ _ _ _ _ _ _ (fun h => h0 ((first0_iff t).mp h)) ((last0_iff t).mpr h1) (iblk m c 0 t) (iblk m c 1 t) (iblk m c 2 t) (iblk m c 3 t) (iblk m c 4 t) (iblk m c 5 t) (iblk m c 6 t) (iblk m c 7 t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      have hn := upto_step m c t s1 hu
      have hU := upto_all m c _ (by rw [show t.val + 1 = 9 by omega] at hn; exact hn)
      rw [hU] at hn ⊢
      isplitl [HS0 HS1 Hg]
      · isplitl [HS0 HS1]
        · isplitl [HS0]
          · iexact HS0
          iexists _; isplitr; swap; · iexact HS1
          ipureintro; exact hn
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · rw [Dat.leavesExact_idle (dats m 0 c) 8 t (idleAt0_8 t h0) (noFlush0_8 t h1)]
      rw [Dat.leavesExact_idle (dats m 0 c) 9 t (idleAt0_9 t h0) (noFlush0_9 t h1)]
      simp only [before0_8 m c t h0, before0_9 m c t h0]
      rw [Dat.leavesExact_idle (dats m 0 c) 10 t (idleAt0_10 t h1) (noFlush0_10 t h1)]
      rw [Dat.leavesExact_idle (dats m 0 c) 11 t (idleAt0_11 t h1) (noFlush0_11 t h1)]
      rw [Dat.leavesExact_idle (dats m 0 c) 12 t (idleAt0_12 t h1) (noFlush0_12 t h1)]
      rw [Dat.leavesExact_idle (dats m 0 c) 13 t (idleAt0_13 t h1) (noFlush0_13 t h1)]
      rw [PhiS_castSucc m c t, PhiS_pos m c _ _ h0]
      iintro ⟨⟨⟨HS0, ⟨%s1, %hu, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply (run0_B c (grid0.coords t) _ _ _ _ _ _ _ _ _ _ _ _ _ _ _ _ _ _ _ _ _ _ _ _ _ _ _ _ _ _ _ _ (fun h => h0 ((first0_iff t).mp h)) (fun h => h1 ((last0_iff t).mp h)) (iblk m c 0 t) (iblk m c 1 t) (iblk m c 2 t) (iblk m c 3 t) (iblk m c 4 t) (iblk m c 5 t) (iblk m c 6 t) (iblk m c 7 t) _ _ _ _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [HS0]; · iexact HS0
      isplitl [HS1]; · iexact HS1
      iintro ⟨H0, H1, H2, H3, H4, H5, H6, H7, H8, H9, H10, H11, H12, H13, HS0, HS1⟩
      have hn := upto_step m c t s1 hu
      isplitl [HS0 HS1 Hg]
      · isplitl [HS0 HS1]
        · isplitl [HS0]
          · iexact HS0
          iexists _; isplitr; swap; · iexact HS1
          ipureintro; exact hn
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      isplitl [H10]; · iexists _; iexact H10
      isplitl [H11]; · iexists _; iexact H11
      isplitl [H12]; · iexists _; iexact H12
      iexists _; iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 9 := N_0; omega), PhiA0_eq]
  iintro ⟨⟨HS0, ⟨%s1, %hu, HS1⟩⟩, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ThirdIdeal.Gen

end
-- ==== Proof.Same.lean ====
/-
  Each kernel and its ideal counterpart are the same program, printed twice: their body tables are equal. What is proved of the ideal
  program at every float interpretation is therefore true of the kernel.
-/
module

public import proofs.«01_k».proof.Proof.Gen.Kernel.Frame
public import proofs.«01_k».proof.Proof.Gen.Second.Frame
public import proofs.«01_k».proof.Proof.Gen.Third.Frame
public import proofs.«01_k».proof.Proof.KernelIdealRun
public import proofs.«01_k».proof.Proof.SecondIdealRun
public import proofs.«01_k».proof.Proof.ThirdIdealRun
public import proofs.«01_k».proof.Defs

@[expose] public section

noncomputable section

namespace Cert.Proof.Same

open Idealize.ShloMosaic Idealize.SL.Sem

attribute [local instance] Cert.Kernel.Gen.facts Cert.KernelIdeal.Gen.facts Cert.Second.Gen.facts Cert.SecondIdeal.Gen.facts
  Cert.Third.Gen.facts Cert.ThirdIdeal.Gen.facts

variable {F : FTy → Type} [FloatOps F]

/-- The first kernel's body is its ideal counterpart's. -/
theorem fc1_body : Cert.Kernel.cc0_fc1_gelu (F := F) = Cert.KernelIdeal.cc0_fc1_gelu := rfl

/-- So are the body tables. -/
theorem fc1_defs : Cert.Kernel.defs (F := F) = Cert.KernelIdeal.defs := by
  refine congrArg (Pipeline.defs (Cert.Kernel.pcfgs (F := F))) ?_
  unfold Cert.Kernel.defs₀ Cert.KernelIdeal.defs₀
  refine congrArg (Defs.onTc (nD := Cert.Kernel.nD) (τ := Cert.Kernel.τ) (sig := Cert.Kernel.sig) (Λ := Cert.Kernel.Λ₀)) ?_
  funext l a
  match l, a with
  | 0, (t, s) => rfl

/-- The first kernel leaves its arguments and its semaphores as they were. -/
theorem fc1_frame : Cert.quiescent_Kernel := fun m g _ => by
  have h := Cert.KernelIdeal.Gen.frame (F := Bits) m g
  rw [← fc1_defs] at h
  exact h

/-- The second kernel's body is its ideal counterpart's. -/
theorem fc2_body : Cert.Second.cc0_fc2_ln (F := F) = Cert.SecondIdeal.cc0_fc2_ln := rfl

/-- So are the body tables. -/
theorem fc2_defs : Cert.Second.defs (F := F) = Cert.SecondIdeal.defs := by
  refine congrArg (Pipeline.defs (Cert.Second.pcfgs (F := F))) ?_
  unfold Cert.Second.defs₀ Cert.SecondIdeal.defs₀
  refine congrArg (Defs.onTc (nD := Cert.Second.nD) (τ := Cert.Second.τ) (sig := Cert.Second.sig) (Λ := Cert.Second.Λ₀)) ?_
  funext l a
  match l, a with
  | 0, (t, s) => rfl

/-- The second kernel leaves its arguments and its semaphores as they were. -/
theorem fc2_frame : Cert.quiescent_Second := fun m g _ => by
  have h := Cert.SecondIdeal.Gen.frame (F := Bits) m g
  rw [← fc2_defs] at h
  exact h

/-- The third kernel's body is its ideal counterpart's. -/
theorem wo_body : Cert.Third.cc0_out_proj_ln (F := F) = Cert.ThirdIdeal.cc0_out_proj_ln := rfl

/-- So are the body tables. -/
theorem wo_defs : Cert.Third.defs (F := F) = Cert.ThirdIdeal.defs := by
  refine congrArg (Pipeline.defs (Cert.Third.pcfgs (F := F))) ?_
  unfold Cert.Third.defs₀ Cert.ThirdIdeal.defs₀
  refine congrArg (Defs.onTc (nD := Cert.Third.nD) (τ := Cert.Third.τ) (sig := Cert.Third.sig) (Λ := Cert.Third.Λ₀)) ?_
  funext l a
  match l, a with
  | 0, (t, s) => rfl

/-- The third kernel leaves its arguments and its semaphores as they were. -/
theorem wo_frame : Cert.quiescent_Third := fun m g _ => by
  have h := Cert.ThirdIdeal.Gen.frame (F := Bits) m g
  rw [← wo_defs] at h
  exact h

end Cert.Proof.Same

end
-- ==== Proof.Quant.lean ====
/-
  The arithmetic of symmetric quantisation by rows, at the ideal values: the scale and the codes of one row, read off the
  vector operations that compute them for a block of rows at once, whatever the number of rows in the block.
-/
module

public import Idealize.ShloMosaic.Lib.Pipeline.Value
public import Idealize.ShloMosaic.Lib.ValueLayout
public import Idealize.ShloMosaic.Lib.ValueLayoutCasts
public import Idealize.ShloMosaic.Lib.MatmulPlain

@[expose] public section

set_option maxRecDepth 16384

noncomputable section

namespace Cert.Proof.Quant

open Idealize.ShloMosaic Idealize.ShloMosaic.ValueIdx

/-- The shape of a matrix, and of a vector. -/
abbrev M (a b : Nat) : Shape := ⟨2, ![a, b]⟩
abbrev V (a : Nat) : Shape := ⟨1, ![a]⟩

variable {r n : Nat}

/-- Row `i` of a matrix. -/
def row {α : Type} (X : (M r n).Idx → α) (i : Fin r) : Fin n → α := fun j => X (ix2 i j)

/-- The largest magnitude in a row (`-∞` of no entries). -/
def amax (v : Fin n → Ideal .f32) : Ideal .f32 :=
  (Finset.univ : Finset (Fin n)).fold max (FloatOps.ofBits .f32 0xFF800000#32) (fun j => FloatOps.absf (v j))

/-- The scale of a row: its largest magnitude over 127, or 1 for a row of zeros. -/
def qscale (v : Fin n → Ideal .f32) : Ideal .f32 :=
  Scalar.select (FloatOps.cmpf .oeq (amax v) (Scalar.ofBits .f32 0x00000000#32)) (Scalar.ofBits .f32 0x3F800000#32)
    (FloatOps.divf (amax v) (Scalar.ofBits .f32 0x42FE0000#32))

/-- The code of a value at a scale, as a float: the quotient rounded to even and clipped to [-127, 127]. -/
def qcode (s x : Ideal .f32) : Ideal .f32 :=
  FloatOps.minimumf (Scalar.sitofp .f32 127#32) (FloatOps.maximumf (Scalar.sitofp .f32 4294967169#32) (FloatOps.roundeven (FloatOps.divf x s)))

theorem bcol_apply {α : Type} (x : (M r 1).Idx → α) (h : (M r 1).Broadcasts (M r n)) (i : Fin r) (j : Fin n) :
    broadcastTo (M r n) x h (ix2 i j) = x (ix2 i 0) := by
  refine broadcastTo_apply x h (ix2 i j) (ix2 i 0) fun ax => ?_
  match ax with
  | ⟨0, _⟩ =>
    show i.val = if r = 1 then 0 else i.val
    split
    · have := i.isLt
      omega
    · rfl
  | ⟨1, _⟩ => rfl

theorem brow_apply {α : Type} (x : (M 1 n).Idx → α) (h : (M 1 n).Broadcasts (M r n)) (i : Fin r) (j : Fin n) :
    broadcastTo (M r n) x h (ix2 i j) = x (ix2 0 j) :=
  broadcastTo_1b_ab_apply x h i j

theorem scale_apply (X : FVec Ideal (M r n) .f32) (h : (M r n).Reduces [1] (V r)) (hφ : FKind.Formats .f32)
    (hacc : (0xFF800000#32 : BitVec 32) = FKind.maximumf.neutral .f32 hφ) (hs : (V r).ShapeCasts (M r 1)) (i : Fin r) (u : Fin 1) :
    select (cmpf .oeq (shapeCast (M r 1) (multiReduction .maximumf [1] (V r) (absf X) 0xFF800000#32 h hφ hacc) hs)
        (broadcast (M r 1) (Scalar.ofBits .f32 0x00000000#32)))
      (broadcast (M r 1) (Scalar.ofBits .f32 0x3F800000#32))
      (divf (shapeCast (M r 1) (multiReduction .maximumf [1] (V r) (absf X) 0xFF800000#32 h hφ hacc) hs)
        (broadcast (M r 1) (Scalar.ofBits .f32 0x42FE0000#32))) (ix2 i u)
      = qscale (row X i) := by
  have e : shapeCast (M r 1) (multiReduction .maximumf [1] (V r) (absf X) 0xFF800000#32 h hφ hacc) hs (ix2 i u) = amax (row X i) := by
    refine (shapeCast_a_a1_apply _ hs i u).trans ?_
    refine (Ideal.multiReduction_maximumf_single _ _ h hφ hacc _).trans ?_
    refine congrArg (Finset.fold max _ · Finset.univ) (funext fun k => ?_)
    show FloatOps.absf (X _) = FloatOps.absf (X _)
    refine congrArg (fun z => FloatOps.absf (X z)) ?_
    funext a; fin_cases a <;> rfl
  show Scalar.select (FloatOps.cmpf .oeq _ _) _ (FloatOps.divf _ _) = _
  rw [e]; rfl

theorem code_apply (X : FVec Ideal (M r n) .f32) (S : FVec Ideal (M r 1) .f32) (h : (M r 1).Broadcasts (M r n)) (i : Fin r) (j : Fin n) :
    minimumf (broadcast (M r n) (Scalar.sitofp .f32 127#32)) (maximumf (broadcast (M r n) (Scalar.sitofp .f32 4294967169#32))
      (roundeven (divf X (broadcastTo (M r n) S h)))) (ix2 i j) = qcode (S (ix2 i 0)) (X (ix2 i j)) := by
  show FloatOps.minimumf _ (FloatOps.maximumf _ (FloatOps.roundeven (FloatOps.divf _ (broadcastTo (M r n) S h (ix2 i j))))) = _
  rw [bcol_apply]; rfl

/-- The clipped quotient is an integer in [-127, 127], whatever the two values are. -/
theorem qcode_int (s x : Ideal .f32) : ∃ z : ℤ, -127 ≤ z ∧ z ≤ 127 ∧ (qcode s x : EReal) = ((z : ℝ) : EReal) := by
  have e : (qcode s x : EReal) = min (((127 : ℤ) : ℝ) : EReal) (max (((-127 : ℤ) : ℝ) : EReal)
      (Ideal.liftRound Ideal.roundHalfEven (FloatOps.divf x s))) := rfl
  rw [e]
  generalize (FloatOps.divf x s : EReal) = d
  induction d using EReal.rec with
  | bot => exact ⟨-127, by omega, by omega, by
      show min _ (max _ ⊥) = _
      rw [max_bot_right, min_eq_right (by exact_mod_cast (by norm_num : (-127 : ℝ) ≤ 127))]⟩
  | top => exact ⟨127, by omega, by omega, by
      show min _ (max _ ⊤) = _
      rw [max_top_right, min_top_right]⟩
  | coe a =>
    refine ⟨min 127 (max (-127) (Ideal.roundHalfEven a)), by omega, by omega, ?_⟩
    show min _ (max _ (((Ideal.roundHalfEven a : ℤ) : ℝ) : EReal)) = _
    rw [← EReal.coe_strictMono.monotone.map_max, ← EReal.coe_strictMono.monotone.map_min, ← Int.cast_max, ← Int.cast_min]

/-- The conversion to `w` bits of an integer in range. -/
theorem fptosi_int (w : Nat) (z : ℤ) (h1 : -((2 ^ (w - 1) : Nat) : ℤ) ≤ z) (h2 : z ≤ ((2 ^ (w - 1) : Nat) : ℤ) - 1) :
    (Ideal.fptosi w ((z : ℝ) : EReal)) = BitVec.ofInt w z := by
  unfold Ideal.fptosi
  rw [Ideal.toIntClamped_coe, Int.floor_intCast, Int.ceil_intCast, ite_self, min_eq_right h2, max_eq_right h1]

/-- Converting a code to 8 bits and widening is converting it to 32 bits. -/
theorem extsi_qcode (s x : Ideal .f32) :
    BitVec.signExtend 32 (FloatOps.fptosi 8 (qcode s x)) = FloatOps.fptosi 32 (qcode s x) := by
  obtain ⟨z, h1, h2, e⟩ := qcode_int s x
  show BitVec.signExtend 32 (Ideal.fptosi 8 (qcode s x : EReal)) = Ideal.fptosi 32 (qcode s x : EReal)
  rw [e, fptosi_int 8 z (by norm_num; omega) (by norm_num; omega), fptosi_int 32 z (by norm_num; omega) (by norm_num; omega)]
  apply BitVec.eq_of_toInt_eq
  rw [BitVec.toInt_signExtend_of_le (by decide), BitVec.toInt_ofInt, BitVec.toInt_ofInt]
  rw [Int.bmod_eq_of_le (by norm_num; omega) (by norm_num; omega), Int.bmod_eq_of_le (by norm_num; omega) (by norm_num; omega)]

/-- The sign of `q` times `m`, written with comparisons and selections. -/
theorem sign_mul (q m : BitVec 32) :
    Scalar.select (IntOp.cmpi .slt q 0#32) (IntOp.subi 0#32 m) (Scalar.select (IntOp.cmpi .eq q 0#32) 0#32 m)
      = IntOp.muli (IntOp.subi (BitVec.zeroExtend 32 (IntOp.cmpi .sgt q 0#32)) (BitVec.zeroExtend 32 (IntOp.cmpi .slt q 0#32))) m := by
  have h : q.slt 0#32 = true ∧ (0#32).slt q = false ∧ (q == 0#32) = false
      ∨ q.slt 0#32 = false ∧ (0#32).slt q = false ∧ (q == 0#32) = true
      ∨ q.slt 0#32 = false ∧ (0#32).slt q = true ∧ (q == 0#32) = false := by
    have h0 : (0#32).toInt = 0 := rfl
    have hne : q.toInt ≠ 0 → (q == 0#32) = false := fun h => beq_eq_false_iff_ne.mpr fun e => h (by rw [e]; rfl)
    rcases lt_trichotomy q.toInt 0 with h | h | h
    · exact .inl ⟨decide_eq_true (by rw [h0]; exact h), decide_eq_false (by rw [h0]; omega), hne (by omega)⟩
    · have : q = 0#32 := BitVec.eq_of_toInt_eq (h.trans h0.symm)
      subst this
      exact .inr (.inl ⟨rfl, rfl, rfl⟩)
    · exact .inr (.inr ⟨decide_eq_false (by rw [h0]; omega), decide_eq_true (by rw [h0]; exact h), hne (by omega)⟩)
  unfold IntOp.cmpi
  have hm : -m = 4294967295#32 * m := by
    rw [show 4294967295#32 = -1#32 from rfl, BitVec.neg_mul, BitVec.one_mul]
  rcases h with ⟨a, b, c⟩ | ⟨a, b, c⟩ | ⟨a, b, c⟩ <;> simp only [a, b, c] <;>
    simp [Scalar.select, IntOp.subi, IntOp.muli, BitVec.ofBool, ← hm]

section Act
variable {F : FTy → Type} [FloatOps F]

/-- The integer activation of a row given by its scale and its 32-bit codes: a clipped quadratic in place of the error function,
    with the sign of the code put on it, times the scale the polynomial carries. -/
def gsl (s : F .f32) : F .f32 :=
  FloatOps.mulf (Scalar.ofBits .f32 0xBE93DD98#32)
    (FloatOps.mulf (FloatOps.mulf s (Scalar.ofBits .f32 0x3F3504F3#32)) (FloatOps.mulf s (Scalar.ofBits .f32 0x3F3504F3#32)))
def gbint (s : F .f32) : BitVec 32 :=
  FloatOps.fptosi 32 (FloatOps.floor (FloatOps.divf (Scalar.ofBits .f32 0x3FE26E98#32) (FloatOps.mulf s (Scalar.ofBits .f32 0x3F3504F3#32))) : F .f32)
def gqc (s : F .f32) : BitVec 32 :=
  FloatOps.fptosi 32 (FloatOps.floor (FloatOps.divf (Scalar.ofBits .f32 0x3F800000#32) (gsl s)) : F .f32)
def gpoly (s : F .f32) (q : BitVec 32) : BitVec 32 :=
  IntOp.addi (IntOp.muli (IntOp.subi (IntOp.minsi (IntOp.absi q) (gbint s)) (gbint s)) (IntOp.subi (IntOp.minsi (IntOp.absi q) (gbint s)) (gbint s))) (gqc s)
def gval (s : F .f32) (q : BitVec 32) : F .f32 :=
  FloatOps.mulf (FloatOps.sitofp .f32 (IntOp.muli q (IntOp.addi
      (IntOp.muli (IntOp.subi (BitVec.zeroExtend 32 (IntOp.cmpi .sgt q 0#32)) (BitVec.zeroExtend 32 (IntOp.cmpi .slt q 0#32))) (gpoly s q)) (gqc s))))
    (FloatOps.mulf (FloatOps.mulf s (gsl s)) (Scalar.ofBits .f32 0x3F000000#32))

end Act

/-- The activation of a row of values. -/
def grow (v : Fin n → Ideal .f32) : Fin n → Ideal .f32 := fun j => gval (qscale v) (FloatOps.fptosi 32 (qcode (qscale v) (v j)))

/-- An entry of the product of a matrix of activation codes and a matrix of weight codes, scaled by the row's scale times the
    column's, plus the column's bias. -/
def linAt {K : Nat} (a : Fin K → BitVec 8) (w : Fin K → BitVec 8) (s ws b : Ideal .f32) : Ideal .f32 :=
  FloatOps.addf (FloatOps.mulf ((∑ k : Fin K, (FloatOps.sitofp .bf16 (a k) : Ideal .bf16) * (FloatOps.sitofp .bf16 (w k) : Ideal .bf16) : EReal) : Ideal .f32)
    (FloatOps.mulf s ws)) b

/-- The vector operations that compute such a matrix, read at an index. -/
theorem linear_apply {K : Nat} (X : IVec (M r K) 8) (W : IVec (M K n) 8) (S : FVec Ideal (M r 1) .f32) (ws b : FVec Ideal (M 1 n) .f32)
    (h1 : (M r 1).Broadcasts (M r n)) (h2 : (M 1 n).Broadcasts (M r n)) (h3 : (M 1 n).ShapeCasts (M 1 n)) (i : Fin r) (j : Fin n) :
    addf (mulf (matmul (DotDims.plain r K n) none (sitofp .bf16 X) (sitofp .bf16 W) (constant (M r n) .f32 0x00000000#32))
        (mulf (broadcastTo (M r n) S h1) (broadcastTo (M r n) (shapeCast (M 1 n) ws h3) h2)))
      (broadcastTo (M r n) (shapeCast (M 1 n) b h3) h2) (ix2 i j)
      = linAt (fun k => X (ix2 i k)) (fun k => W (ix2 k j)) (S (ix2 i 0)) (ws (ix2 0 j)) (b (ix2 0 j)) := by
  have e1 : (matmul (DotDims.plain r K n) none (sitofp .bf16 X) (sitofp .bf16 W) (constant (M r n) .f32 0x00000000#32) : FVec Ideal (M r n) .f32) (ix2 i j)
      = ((∑ k : Fin K, (FloatOps.sitofp .bf16 (X (ix2 i k)) : Ideal .bf16) * (FloatOps.sitofp .bf16 (W (ix2 k j)) : Ideal .bf16) : EReal) : Ideal .f32) := by
    refine (Ideal.matmul_plain_apply none (sitofp (F := Ideal) .bf16 X) (sitofp .bf16 W) (constant (M r n) .f32 0x00000000#32) i j).trans ?_
    have e0 : (constant (M r n) .f32 0x00000000#32 : FVec Ideal (M r n) .f32) (ix2 i j) = (0 : EReal) := Ideal.ofBits_zero_f32
    rw [e0]
    exact zero_add _
  have e2 := bcol_apply S h1 i j
  have e3 := brow_apply (shapeCast (M 1 n) ws h3) h2 i j
  have e4 := brow_apply (shapeCast (M 1 n) b h3) h2 i j
  rw [show shapeCast (M 1 n) ws h3 = ws from shapeCast_self ws h3] at e3
  rw [show shapeCast (M 1 n) b h3 = b from shapeCast_self b h3] at e4
  rw [linAt, ← e1, ← e2, ← e3, ← e4, shapeCast_self, shapeCast_self]
  rfl

/-- The codes of a matrix given by its rows, in 8 bits, and the scales of its rows, as a column. -/
def codes (v : Fin r → Fin n → Ideal .f32) : IVec (M r n) 8 := fun y => FloatOps.fptosi 8 (qcode (qscale (v (y 0))) (v (y 0) (y 1)))
def scales (v : Fin r → Fin n → Ideal .f32) : FVec Ideal (M r 1) .f32 := fun y => qscale (v (y 0))

theorem row_ext {α : Type} {X : (M r n).Idx → α} {i : Fin r} {v : Fin n → α} (h : ∀ j, X (ix2 i j) = v j) : row X i = v := funext h
theorem codes_ext {X : IVec (M r n) 8} {v : Fin r → Fin n → Ideal .f32}
    (h : ∀ i j, X (ix2 i j) = FloatOps.fptosi 8 (qcode (qscale (v i)) (v i j))) : X = codes v :=
  funext fun y => (congrArg X (eq_ix2 y)).trans (h (y 0) (y 1))
theorem scales_ext {X : FVec Ideal (M r 1) .f32} {v : Fin r → Fin n → Ideal .f32} (h : ∀ i u, X (ix2 i u) = qscale (v i)) : X = scales v :=
  funext fun y => (congrArg X (eq_ix2 y)).trans (h (y 0) (y 1))

/-- The matrix of `linAt`, by rows. -/
def lin {K : Nat} (X : IVec (M r K) 8) (S : FVec Ideal (M r 1) .f32) (W : IVec (M K n) 8) (ws b : FVec Ideal (M 1 n) .f32)
    (i : Fin r) (j : Fin n) : Ideal .f32 :=
  linAt (fun k => X (ix2 i k)) (fun k => W (ix2 k j)) (S (ix2 i 0)) (ws (ix2 0 j)) (b (ix2 0 j))

end Cert.Proof.Quant

end
-- ==== Proof.KernelIdealValue.lean ====
/-
  What the first feed-forward kernel leaves in its four results, index by index, at the ideal values.
-/
module

public import proofs.«01_k».proof.Proof.KernelIdealRun
public import proofs.«01_k».proof.Proof.Quant

@[expose] public section

set_option maxRecDepth 16384

noncomputable section

namespace Cert.KernelIdeal.Gen

open Idealize.ShloMosaic Idealize.ShloMosaic.TcCoe
open Idealize.SL.Sem
open Idealize.ShloMosaic.Pipeline (Dat Cfg Window cellOf)
open Idealize.ShloMosaic.ValueIdx
open Cert.Proof.Rows Cert.Proof.Quant

/-! The payloads of a block, entry by entry, in terms of one another. -/

section Entries
variable {F : FTy → Type} [FloatOps F] (V : Vec F S32x15360 .f32) (i : Fin 32) (u : Fin 1) (j : Fin 15360)

theorem pay5_at : k0_pay5 V (ix2 i j) = FloatOps.fptosi 8 (k0_pay4 V (ix2 i j)) := rfl
theorem pay6_at : k0_pay6 V (ix2 i u) = FloatOps.mulf (k0_pay3 V (ix2 i u)) (Scalar.ofBits .f32 0x3F3504F3#32) := rfl
theorem pay7_at : k0_pay7 V (ix2 i u) = FloatOps.mulf (Scalar.ofBits .f32 0xBE93DD98#32) (FloatOps.mulf (k0_pay6 V (ix2 i u)) (k0_pay6 V (ix2 i u))) := rfl
theorem pay8_at : k0_pay8 V (ix2 i u) = FloatOps.fptosi 32 (FloatOps.floor (FloatOps.divf (Scalar.ofBits .f32 0x3FE26E98#32) (k0_pay6 V (ix2 i u)))) := rfl
theorem pay9_at : k0_pay9 V (ix2 i u) = FloatOps.fptosi 32 (FloatOps.floor (FloatOps.divf (Scalar.ofBits .f32 0x3F800000#32) (k0_pay7 V (ix2 i u)))) := rfl
theorem pay10_at : k0_pay10 V (ix2 i j) = FloatOps.fptosi 32 (k0_pay4 V (ix2 i j)) := rfl
theorem pay11_at : k0_pay11 V (ix2 i j) = IntOp.minsi (IntOp.absi (k0_pay10 V (ix2 i j))) (k0_pay8 V (ix2 i 0)) :=
  congrArg (IntOp.minsi (IntOp.absi (k0_pay10 V (ix2 i j)))) (bcol_apply (k0_pay8 V) _ i j)

/-- The activation of one entry from its scale, the scale the polynomial carries, the clip point, the constant, the code and its
    clipped magnitude. -/
def actAt (s sl : F .f32) (b c q p : BitVec 32) : F .f32 :=
  FloatOps.mulf (FloatOps.sitofp .f32 (IntOp.muli q (IntOp.addi
      (Scalar.select (IntOp.cmpi .slt q 0#32)
        (IntOp.subi 0#32 (IntOp.addi (IntOp.muli (IntOp.subi p b) (IntOp.subi p b)) c))
        (Scalar.select (IntOp.cmpi .eq q 0#32) 0#32 (IntOp.addi (IntOp.muli (IntOp.subi p b) (IntOp.subi p b)) c))) c)))
    (FloatOps.mulf (FloatOps.mulf s sl) (Scalar.ofBits .f32 0x3F000000#32))
theorem actAt_eq (s : F .f32) (q : BitVec 32) :
    actAt s (gsl s) (gbint s) (gqc s) q (IntOp.minsi (IntOp.absi q) (gbint s)) = gval s q := by
  unfold actAt
  rw [sign_mul]
  rfl
theorem pay12_at (v39 v58 : FVec F S32x1 .f32) (v62 v66 : IVec S32x1 32) (v67 v70 : IVec S32x15360 32) :
    k0_pay12 v39 v58 v62 v66 v67 v70 (ix2 i j)
      = actAt (v39 (ix2 i 0)) (v58 (ix2 i 0)) (v62 (ix2 i 0)) (v66 (ix2 i 0)) (v67 (ix2 i j)) (v70 (ix2 i j)) := by
  have e1 := bcol_apply v62 broadcasts_S32x1_S32x15360 i j
  have e2 := bcol_apply v66 broadcasts_S32x1_S32x15360 i j
  have e3 := bcol_apply (mulf (mulf v39 v58) (broadcast S32x1 (Scalar.ofBits .f32 0x3F000000#32))) broadcasts_S32x1_S32x15360 i j
  rw [← e1, ← e2]
  exact congrArg (FloatOps.mulf _) e3
end Entries

/-! The same at the ideal values, in terms of the row alone. -/

section Payloads
variable (V : Vec Ideal S32x15360 .f32) (i : Fin 32) (u : Fin 1) (j : Fin 15360)

theorem pay3_eq : k0_pay3 V (ix2 i u) = qscale (row V i) := by
  unfold k0_pay3
  exact scale_apply V _ _ _ _ i u
theorem pay4_eq : k0_pay4 V (ix2 i j) = qcode (qscale (row V i)) (row V i j) := by
  unfold k0_pay4
  refine (code_apply V (k0_pay3 V) _ i j).trans ?_
  rw [pay3_eq, row]
theorem pay5_eq : k0_pay5 V (ix2 i j) = FloatOps.fptosi 8 (qcode (qscale (row V i)) (row V i j)) := by
  rw [pay5_at, pay4_eq]
theorem pay7_eq : k0_pay7 V (ix2 i u) = gsl (qscale (row V i)) := by
  rw [pay7_at, pay6_at, pay3_eq, gsl]
theorem pay8_eq : k0_pay8 V (ix2 i u) = gbint (qscale (row V i)) := by
  rw [pay8_at, pay6_at, pay3_eq, gbint]
theorem pay9_eq : k0_pay9 V (ix2 i u) = gqc (qscale (row V i)) := by
  rw [pay9_at, pay7_eq, gqc]
theorem pay10_eq : k0_pay10 V (ix2 i j) = FloatOps.fptosi 32 (qcode (qscale (row V i)) (row V i j)) := by
  rw [pay10_at, pay4_eq]
theorem pay11_eq :
    k0_pay11 V (ix2 i j) = IntOp.minsi (IntOp.absi (FloatOps.fptosi 32 (qcode (qscale (row V i)) (row V i j)))) (gbint (qscale (row V i))) := by
  rw [pay11_at, pay10_eq, pay8_eq]

/-- The activation of a block of rows. -/
abbrev act : Vec Ideal S32x15360 .f32 := k0_pay12 (k0_pay3 V) (k0_pay7 V) (k0_pay8 V) (k0_pay9 V) (k0_pay10 V) (k0_pay11 V)

theorem pay12_eq : act V (ix2 i j) = grow (row V i) j := by
  rw [act, pay12_at, pay3_eq, pay7_eq, pay8_eq, pay9_eq, pay10_eq, pay11_eq, actAt_eq, grow]
theorem row_act : row (act V) i = grow (row V i) := funext fun j => pay12_eq V i j
theorem pay13_eq :
    k0_pay13 (k0_pay3 V) (k0_pay7 V) (k0_pay8 V) (k0_pay9 V) (k0_pay10 V) (k0_pay11 V) (ix2 i u) = qscale (grow (row V i)) := by
  unfold k0_pay13
  exact (scale_apply (act V) _ _ _ _ i u).trans (congrArg qscale (row_act V i))
theorem pay14_eq :
    k0_pay14 (k0_pay3 V) (k0_pay7 V) (k0_pay8 V) (k0_pay9 V) (k0_pay10 V) (k0_pay11 V) (ix2 i j)
      = FloatOps.fptosi 8 (qcode (qscale (grow (row V i))) (grow (row V i) j)) := by
  unfold k0_pay14
  refine congrArg (FloatOps.fptosi 8) ((code_apply (act V) (k0_pay13 (k0_pay3 V) (k0_pay7 V) (k0_pay8 V) (k0_pay9 V) (k0_pay10 V) (k0_pay11 V)) _ i j).trans ?_)
  rw [pay13_eq, pay12_eq]
end Payloads

section Whole
variable (U : Vec Ideal S256x15360 .f32) (i : Fin 256) (u : Fin 1) (j : Fin 15360)

/-- Row `i` in its block of 32 rows. -/
abbrev inBlk : Fin 32 := ⟨i.val % 32, Nat.mod_lt _ (by decide)⟩
/-- A row of the block of 32 rows that holds row `i` is row `i`. -/
theorem row_blk32 : row (blk32 U (i.val / 32)) (inBlk i) = row U i := by
  funext j
  show U (ix2 ⟨(32 * (i.val / 32) + i.val % 32) % 256, _⟩ j) = U (ix2 i j)
  refine congrArg (fun a => U (ix2 a j)) (Fin.ext ?_)
  show (32 * (i.val / 32) + i.val % 32) % 256 = i.val
  have := i.isLt
  omega
theorem outU_eq : outU U (ix2 i j) = FloatOps.fptosi 8 (qcode (qscale (row U i)) (row U i j)) := by
  have e : outU U (ix2 i j) = k0_pay5 (blk32 U (i.val / 32)) (ix2 (inBlk i) j) := rfl
  rw [e, pay5_eq, row_blk32]
theorem outUs_eq : outUs U (ix2 i u) = qscale (row U i) := by
  have e : outUs U (ix2 i u) = k0_pay3 (blk32 U (i.val / 32)) (ix2 (inBlk i) u) := rfl
  rw [e, pay3_eq, row_blk32]
theorem outG_eq : outG U (ix2 i j) = FloatOps.fptosi 8 (qcode (qscale (grow (row U i))) (grow (row U i) j)) := by
  have e : outG U (ix2 i j) = (fun V : Vec Ideal S32x15360 .f32 => k0_pay14 (k0_pay3 V) (k0_pay7 V) (k0_pay8 V) (k0_pay9 V) (k0_pay10 V) (k0_pay11 V)) (blk32 U (i.val / 32)) (ix2 (inBlk i) j) := rfl
  rw [e]
  beta_reduce
  rw [pay14_eq, row_blk32]
theorem outGs_eq : outGs U (ix2 i u) = qscale (grow (row U i)) := by
  have e : outGs U (ix2 i u) = (fun V : Vec Ideal S32x15360 .f32 => k0_pay13 (k0_pay3 V) (k0_pay7 V) (k0_pay8 V) (k0_pay9 V) (k0_pay10 V) (k0_pay11 V)) (blk32 U (i.val / 32)) (ix2 (inBlk i) u) := rfl
  rw [e]
  beta_reduce
  rw [pay13_eq, row_blk32]
end Whole

section Arrays
variable {F : FTy → Type} [FloatOps F] (m : (ℓ : Loc nD τ sig) → Buf (Elt F) ℓ)

/-- The column scales and the bias as the kernel finds them: rows of one row. -/
theorem V_main_v0 (c : Dev nD) : V m c main_v0 = shapeCast S1x15360 (m ((c : Thread nD τ).loc main_arg3)) shapeCasts_S15360_S1x15360 := by
  show StableHlo.after hostOps0 _ (Proc.devRef .tc main_v0) = _
  after_results
  rfl
theorem V_main_v1 (c : Dev nD) : V m c main_v1 = shapeCast S1x15360 (m ((c : Thread nD τ).loc main_arg4)) shapeCasts_S15360_S1x15360 := by
  show StableHlo.after hostOps0 _ (Proc.devRef .tc main_v1) = _
  after_results
  rfl

theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel

/-- An entry of the block of weight codes at a grid point. -/
theorem iblk2_at (c : Dev nD) (t : Fin cfg0.N) (k : Fin 5760) (j : Fin 1024) (J : Fin 15360) (hJ : J.val = 1024 * t.val + j.val) :
    iblk m c 2 t (ix2 k j) = m ((c : Thread nD τ).loc main_arg2) (ix2 k J) := by
  rw [← V_main_arg2 m c]
  unfold iblk
  refine (View.read_apply ..).trans ?_
  refine congrArg (V m c main_arg2) (funext fun a => Fin.ext ?_)
  have h := idx2 t
  match a with
  | ⟨0, _⟩ =>
    show win0_2.index t 0 * 5760 + 1 * k.val = k.val
    rw [h]
    show 0 * 5760 + 1 * k.val = k.val
    omega
  | ⟨1, _⟩ =>
    show win0_2.index t 1 * 1024 + 1 * j.val = J.val
    rw [h]
    show t.val * 1024 + 1 * j.val = J.val
    omega
theorem iblk3_at (c : Dev nD) (t : Fin cfg0.N) (u : Fin 1) (j : Fin 1024) (J : Fin 15360) (hJ : J.val = 1024 * t.val + j.val) :
    iblk m c 3 t (ix2 u j) = shapeCast S1x15360 (m ((c : Thread nD τ).loc main_arg3)) shapeCasts_S15360_S1x15360 (ix2 u J) := by
  rw [← V_main_v0 m c]
  unfold iblk
  refine (View.read_apply ..).trans ?_
  refine congrArg (V m c main_v0) (funext fun a => Fin.ext ?_)
  have h := idx3 t
  match a with
  | ⟨0, _⟩ =>
    show win0_3.index t 0 * 1 + 1 * u.val = u.val
    rw [h]
    show 0 * 1 + 1 * u.val = u.val
    omega
  | ⟨1, _⟩ =>
    show win0_3.index t 1 * 1024 + 1 * j.val = J.val
    rw [h]
    show t.val * 1024 + 1 * j.val = J.val
    omega
theorem iblk4_at (c : Dev nD) (t : Fin cfg0.N) (u : Fin 1) (j : Fin 1024) (J : Fin 15360) (hJ : J.val = 1024 * t.val + j.val) :
    iblk m c 4 t (ix2 u j) = shapeCast S1x15360 (m ((c : Thread nD τ).loc main_arg4)) shapeCasts_S15360_S1x15360 (ix2 u J) := by
  rw [← V_main_v1 m c]
  unfold iblk
  refine (View.read_apply ..).trans ?_
  refine congrArg (V m c main_v1) (funext fun a => Fin.ext ?_)
  have h := idx4 t
  match a with
  | ⟨0, _⟩ =>
    show win0_4.index t 0 * 1 + 1 * u.val = u.val
    rw [h]
    show 0 * 1 + 1 * u.val = u.val
    omega
  | ⟨1, _⟩ =>
    show win0_4.index t 1 * 1024 + 1 * j.val = J.val
    rw [h]
    show t.val * 1024 + 1 * j.val = J.val
    omega
/-- The activation codes and their row scales come whole at every point. -/
theorem iblk0_eq (c : Dev nD) (t : Fin cfg0.N) : iblk m c 0 t = m ((c : Thread nD τ).loc main_arg0) := by
  have hz : (fun a => (win0_0.index t) a * main_arg0.ty.shape.size a) = fun _ => 0 := funext fun a => by fin_cases a <;> exact Nat.zero_mul _
  rw [← V_main_arg0 m c]
  exact Memref.read_access_unit_zero (Elt F) main_arg0 hz (fun a => by fin_cases a <;> exact (Nat.zero_mul _).symm ▸ Nat.le_of_eq (Nat.zero_add _)) _
theorem iblk1_eq (c : Dev nD) (t : Fin cfg0.N) : iblk m c 1 t = m ((c : Thread nD τ).loc main_arg1) := by
  have hz : (fun a => (win0_1.index t) a * main_arg1.ty.shape.size a) = fun _ => 0 := funext fun a => by fin_cases a <;> exact Nat.zero_mul _
  rw [← V_main_arg1 m c]
  exact Memref.read_access_unit_zero (Elt F) main_arg1 hz (fun a => by fin_cases a <;> exact (Nat.zero_mul _).symm ▸ Nat.le_of_eq (Nat.zero_add _)) _

/-! The arrays at the end of the run: the last point writes each of them back whole. -/

def tlast : Fin cfg0.N := ⟨14, by decide⟩
theorem final_of (c : Dev nD) (w : Fin cfg0.W) (hf : (cfg0.win w).flush tlast = true) :
    ((cfg0.win w).blk tlast).view.read (Elt F) ((dats m 0 c).arrAt w cfg0.N) = (dats m 0 c).flushed w tlast := by
  rw [show cfg0.N = tlast.val + 1 from rfl, (dats m 0 c).arrAt_succ w tlast, if_pos hf]
  exact View.read_write_univ _ _
theorem final_U (c : Dev nD) : (dats m 0 c).arrAt 5 cfg0.N = outU (Umat m c) := by
  have hz : (fun a => (win0_5.index tlast) a * main_v2_0.ty.shape.size a) = fun _ => 0 := funext fun a => by fin_cases a <;> decide
  have hr := fun f => Memref.read_access_unit_zero (Elt F) main_v2_0 hz (fun a => by fin_cases a <;> decide) f
  have ho := final_of m c 5 (by decide)
  refine (hr _).symm.trans (ho.trans ?_)
  show (cfg0.win 5).cut _ ((dats m 0 c).after 5 tlast) = _
  rw [after0_5]
  rfl
theorem final_Us (c : Dev nD) : (dats m 0 c).arrAt 6 cfg0.N = outUs (Umat m c) := by
  have hz : (fun a => (win0_6.index tlast) a * main_v2_1.ty.shape.size a) = fun _ => 0 := funext fun a => by fin_cases a <;> decide
  have hr := fun f => Memref.read_access_unit_zero (Elt F) main_v2_1 hz (fun a => by fin_cases a <;> decide) f
  have ho := final_of m c 6 (by decide)
  refine (hr _).symm.trans (ho.trans ?_)
  show (cfg0.win 6).cut _ ((dats m 0 c).after 6 tlast) = _
  rw [after0_6]
  rfl
theorem final_G (c : Dev nD) : (dats m 0 c).arrAt 7 cfg0.N = outG (Umat m c) := by
  have hz : (fun a => (win0_7.index tlast) a * main_v2_2.ty.shape.size a) = fun _ => 0 := funext fun a => by fin_cases a <;> decide
  have hr := fun f => Memref.read_access_unit_zero (Elt F) main_v2_2 hz (fun a => by fin_cases a <;> decide) f
  have ho := final_of m c 7 (by decide)
  refine (hr _).symm.trans (ho.trans ?_)
  show (cfg0.win 7).cut _ ((dats m 0 c).after 7 tlast) = _
  rw [after0_7]
  rfl
theorem final_Gs (c : Dev nD) : (dats m 0 c).arrAt 8 cfg0.N = outGs (Umat m c) := by
  have hz : (fun a => (win0_8.index tlast) a * main_v2_3.ty.shape.size a) = fun _ => 0 := funext fun a => by fin_cases a <;> decide
  have hr := fun f => Memref.read_access_unit_zero (Elt F) main_v2_3 hz (fun a => by fin_cases a <;> decide) f
  have ho := final_of m c 8 (by decide)
  refine (hr _).symm.trans (ho.trans ?_)
  show (cfg0.win 8).cut _ ((dats m 0 c).after 8 tlast) = _
  rw [after0_8]
  rfl

/-- The run: the four results are the codes and scales of `u` and of its activation, and the arguments end unchanged. -/
theorem run (ρ : Dev nD → PrngReg) : θ_run defs (onTc (τ := τ) (main (F := F))) ⟨m, fun _ => 0, ρ⟩ (fun r => ∀ c : Dev nD,
      r.2.mem ((c.tc : Thread nD τ).loc main_v2_0) = outU (Umat m c)
      ∧ r.2.mem ((c.tc : Thread nD τ).loc main_v2_1) = outUs (Umat m c)
      ∧ r.2.mem ((c.tc : Thread nD τ).loc main_v2_2) = outG (Umat m c)
      ∧ r.2.mem ((c.tc : Thread nD τ).loc main_v2_3) = outGs (Umat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (final_U m c), ((h.1 c).1 6).trans (final_Us m c), ((h.1 c).1 7).trans (final_G m c),
    ((h.1 c).1 8).trans (final_Gs m c), h.2 c⟩) (θ_run_and (run_main m ρ) (unchanged m ρ))
end Arrays

section Ideals
variable (m : (ℓ : Loc nD τ sig) → Buf (Elt Ideal) ℓ)

/-- The rows of `u`: each entry is that of the whole product. -/
theorem row_Umat (c : Dev nD) (i : Fin 256) : row (Umat m c) i
    = lin (m ((c : Thread nD τ).loc main_arg0)) (m ((c : Thread nD τ).loc main_arg1)) (m ((c : Thread nD τ).loc main_arg2))
        (shapeCast S1x15360 (m ((c : Thread nD τ).loc main_arg3)) shapeCasts_S15360_S1x15360)
        (shapeCast S1x15360 (m ((c : Thread nD τ).loc main_arg4)) shapeCasts_S15360_S1x15360) i := by
  funext j
  have hj := j.isLt
  have hJ : j.val = 1024 * (pt0 (ix2 i j)).val + j.val % 1024 := by
    show j.val = 1024 * (j.val / 1024) + j.val % 1024
    omega
  have e : Umat m c (ix2 i j) = k0_pay2 (k0_pay1 (iblk m c 0 p0)) (iblk m c 2 (pt0 (ix2 i j))) (iblk m c 1 (pt0 (ix2 i j))) (iblk m c 3 (pt0 (ix2 i j)))
      (iblk m c 4 (pt0 (ix2 i j))) (ix2 i ⟨j.val % 1024, Nat.mod_lt _ (by decide)⟩) := rfl
  have ea : k0_pay1 (iblk m c 0 p0) = sitofp (F := Ideal) .bf16 (m ((c : Thread nD τ).loc main_arg0)) := by
    rw [iblk0_eq]
    unfold k0_pay1
    exact shapeCast_self _ _
  rw [ea] at e
  refine e.trans ?_
  unfold k0_pay2
  refine (congrFun (shapeCast_self _ _) _).trans ?_
  refine (linear_apply _ _ _ _ _ _ _ _ _ _).trans ?_
  unfold lin
  rw [iblk1_eq, iblk3_at m c _ 0 _ j hJ, iblk4_at m c _ 0 _ j hJ]
  refine congrArg (fun w => linAt _ w _ _ _) (funext fun k => ?_)
  exact iblk2_at m c _ k _ j hJ

abbrev resRows (c : Dev nD) : Fin 256 → Fin 15360 → Ideal .f32 :=
  lin (m ((c : Thread nD τ).loc main_arg0)) (m ((c : Thread nD τ).loc main_arg1)) (m ((c : Thread nD τ).loc main_arg2))
        (shapeCast S1x15360 (m ((c : Thread nD τ).loc main_arg3)) shapeCasts_S15360_S1x15360)
        (shapeCast S1x15360 (m ((c : Thread nD τ).loc main_arg4)) shapeCasts_S15360_S1x15360)
theorem res_U (c : Dev nD) : outU (Umat m c) = codes (resRows m c) := funext fun y => by
  obtain ⟨i, j, rfl⟩ : ∃ (i : Fin 256) (j : Fin 15360), y = ix2 i j := ⟨y 0, y 1, eq_ix2 y⟩
  rw [outU_eq, row_Umat]
  rfl
theorem res_Us (c : Dev nD) : outUs (Umat m c) = scales (resRows m c) := funext fun y => by
  obtain ⟨i, j, rfl⟩ : ∃ (i : Fin 256) (j : Fin 1), y = ix2 i j := ⟨y 0, y 1, eq_ix2 y⟩
  rw [outUs_eq, row_Umat]
  rfl
theorem res_G (c : Dev nD) : outG (Umat m c) = codes fun i => grow (resRows m c i) := funext fun y => by
  obtain ⟨i, j, rfl⟩ : ∃ (i : Fin 256) (j : Fin 15360), y = ix2 i j := ⟨y 0, y 1, eq_ix2 y⟩
  rw [outG_eq, row_Umat]
  rfl
theorem res_Gs (c : Dev nD) : outGs (Umat m c) = scales fun i => grow (resRows m c i) := funext fun y => by
  obtain ⟨i, j, rfl⟩ : ∃ (i : Fin 256) (j : Fin 1), y = ix2 i j := ⟨y 0, y 1, eq_ix2 y⟩
  rw [outGs_eq, row_Umat]
  rfl
end Ideals

end Cert.KernelIdeal.Gen

end
-- ==== Proof.ReferenceValue.lean ====
/-
  What the reference leaves in its four results, at the ideal values: the codes and the scales of the rows of `u` and of its
  activation.
-/
module

public import proofs.«01_k».proof.Proof.Gen.ReferenceIdeal.Frame
public import proofs.«01_k».proof.Proof.Quant
public import Idealize.ShloMosaic.Lib.Claim

@[expose] public section

set_option maxRecDepth 16384

noncomputable section

namespace Cert.ReferenceIdeal.Gen

open Idealize.ShloMosaic Idealize.ShloMosaic.TcCoe
open Idealize.SL.Sem
open Idealize.ShloMosaic.Pipeline (Dat Cfg Window cellOf)
open Idealize.ShloMosaic.ValueIdx
open Cert.Proof.Quant

section Arrays
variable {F : FTy → Type} [FloatOps F] (m : (ℓ : Loc nD τ sig) → Buf (Elt F) ℓ)

theorem V_main_v0 (c : Dev nD) : V m c main_v0 = shapeCast S1x15360 (m ((c : Thread nD τ).loc main_arg3)) shapeCasts_S15360_S1x15360 := by
  show StableHlo.after hostOps0 _ (Proc.devRef .tc main_v0) = _
  after_results
  rfl
theorem V_main_v1 (c : Dev nD) : V m c main_v1 = shapeCast S1x15360 (m ((c : Thread nD τ).loc main_arg4)) shapeCasts_S15360_S1x15360 := by
  show StableHlo.after hostOps0 _ (Proc.devRef .tc main_v1) = _
  after_results
  rfl

/-- The one grid point. -/
def tonly : Fin cfg0.N := ⟨0, by decide⟩

/-! The blocks: whole arrays. -/

abbrev x0 (c : Dev nD) : Vec F S256x5760 .i8 := (m ((c : Thread nD τ).loc main_arg0))
theorem iblk0_eq (c : Dev nD) : iblk m c 0 tonly = x0 m c := by
  have hz : (fun a => (win0_0.index tonly) a * main_arg0.ty.shape.size a) = fun _ => 0 := funext fun a => by fin_cases a <;> decide
  rw [x0, ← V_main_arg0 m c]
  exact Memref.read_access_unit_zero (Elt F) main_arg0 hz (fun a => by fin_cases a <;> decide) _
abbrev x1 (c : Dev nD) : Vec F S256x1 .f32 := (m ((c : Thread nD τ).loc main_arg1))
theorem iblk1_eq (c : Dev nD) : iblk m c 1 tonly = x1 m c := by
  have hz : (fun a => (win0_1.index tonly) a * main_arg1.ty.shape.size a) = fun _ => 0 := funext fun a => by fin_cases a <;> decide
  rw [x1, ← V_main_arg1 m c]
  exact Memref.read_access_unit_zero (Elt F) main_arg1 hz (fun a => by fin_cases a <;> decide) _
abbrev x2 (c : Dev nD) : Vec F S5760x15360 .i8 := (m ((c : Thread nD τ).loc main_arg2))
theorem iblk2_eq (c : Dev nD) : iblk m c 2 tonly = x2 m c := by
  have hz : (fun a => (win0_2.index tonly) a * main_arg2.ty.shape.size a) = fun _ => 0 := funext fun a => by fin_cases a <;> decide
  rw [x2, ← V_main_arg2 m c]
  exact Memref.read_access_unit_zero (Elt F) main_arg2 hz (fun a => by fin_cases a <;> decide) _
abbrev x3 (c : Dev nD) : Vec F S1x15360 .f32 := (shapeCast S1x15360 (m ((c : Thread nD τ).loc main_arg3)) shapeCasts_S15360_S1x15360)
theorem iblk3_eq (c : Dev nD) : iblk m c 3 tonly = x3 m c := by
  have hz : (fun a => (win0_3.index tonly) a * main_v0.ty.shape.size a) = fun _ => 0 := funext fun a => by fin_cases a <;> decide
  rw [x3, ← V_main_v0 m c]
  exact Memref.read_access_unit_zero (Elt F) main_v0 hz (fun a => by fin_cases a <;> decide) _
abbrev x4 (c : Dev nD) : Vec F S1x15360 .f32 := (shapeCast S1x15360 (m ((c : Thread nD τ).loc main_arg4)) shapeCasts_S15360_S1x15360)
theorem iblk4_eq (c : Dev nD) : iblk m c 4 tonly = x4 m c := by
  have hz : (fun a => (win0_4.index tonly) a * main_v1.ty.shape.size a) = fun _ => 0 := funext fun a => by fin_cases a <;> decide
  rw [x4, ← V_main_v1 m c]
  exact Memref.read_access_unit_zero (Elt F) main_v1 hz (fun a => by fin_cases a <;> decide) _

theorem final_of (c : Dev nD) (w : Fin cfg0.W) (hf : (cfg0.win w).flush tonly = true) :
    ((cfg0.win w).blk tonly).view.read (Elt F) ((dats m 0 c).arrAt w cfg0.N) = (dats m 0 c).flushed w tonly := by
  rw [show cfg0.N = tonly.val + 1 from rfl, (dats m 0 c).arrAt_succ w tonly, if_pos hf]
  exact View.read_write_univ _ _
theorem hz2 : (![0, 0] : Fin 2 → Nat) = fun _ => 0 := funext fun a => by fin_cases a <;> rfl
theorem ld0 (X : Vec F S256x5760 .i8) : View.ld X r0_0 = X := View.ld_unit_zero (S := S256x5760) hz2 _ X
theorem ld1 (X : Vec F S5760x15360 .i8) : View.ld X r0_1 = X := View.ld_unit_zero (S := S5760x15360) hz2 _ X
theorem ld2 (X : Vec F S256x1 .f32) : View.ld X r0_2 = X := View.ld_unit_zero (S := S256x1) hz2 _ X
theorem ld3 (X : Vec F S1x15360 .f32) : View.ld X r0_3 = X := View.ld_unit_zero (S := S1x15360) hz2 _ X
theorem st2 (X : Vec F S256x1 .f32) : View.canon [⟨r0_2, X⟩] = X := View.canon_unit_zero (S := S256x1) hz2 _ X
theorem st4 (X : Vec F S256x15360 .i8) : View.canon [⟨r0_4, X⟩] = X := View.canon_unit_zero (S := S256x15360) hz2 _ X

/-! The results as the body's payloads. -/

theorem out5_eq (x0 : Vec F S256x5760 .i8) (x1 : Vec F S256x1 .f32) (x2 : Vec F S5760x15360 .i8) (x3 x4 : Vec F S1x15360 .f32) :
    out0_5 x0 x1 x2 x3 x4 = k0_pay4 x0 x2 x1 x3 x4 := by
  unfold out0_5
  rw [st4, ld0, ld1, ld2, ld3, ld3]
theorem final_U (c : Dev nD) : (dats m 0 c).arrAt 5 cfg0.N = k0_pay4 (x0 m c) (x2 m c) (x1 m c) (x3 m c) (x4 m c) := by
  have hz : (fun a => (win0_5.index tonly) a * main_v2_0.ty.shape.size a) = fun _ => 0 := funext fun a => by fin_cases a <;> decide
  have hr := fun f => Memref.read_access_unit_zero (Elt F) main_v2_0 hz (fun a => by fin_cases a <;> decide) f
  refine (hr _).symm.trans ((final_of m c 5 (by decide)).trans ?_)
  show (cfg0.win 5).cut _ ((dats m 0 c).after 5 tonly) = _
  rw [after0_5, out5_eq, iblk0_eq, iblk1_eq, iblk2_eq, iblk3_eq, iblk4_eq]
  rfl
theorem out6_eq (x0 : Vec F S256x5760 .i8) (x1 : Vec F S256x1 .f32) (x2 : Vec F S5760x15360 .i8) (x3 x4 : Vec F S1x15360 .f32) :
    out0_6 x0 x1 x2 x3 x4 = k0_pay3 x0 x2 x1 x3 x4 := by
  unfold out0_6
  rw [st2, ld0, ld1, ld2, ld3, ld3]
theorem final_Us (c : Dev nD) : (dats m 0 c).arrAt 6 cfg0.N = k0_pay3 (x0 m c) (x2 m c) (x1 m c) (x3 m c) (x4 m c) := by
  have hz : (fun a => (win0_6.index tonly) a * main_v2_1.ty.shape.size a) = fun _ => 0 := funext fun a => by fin_cases a <;> decide
  have hr := fun f => Memref.read_access_unit_zero (Elt F) main_v2_1 hz (fun a => by fin_cases a <;> decide) f
  refine (hr _).symm.trans ((final_of m c 6 (by decide)).trans ?_)
  show (cfg0.win 6).cut _ ((dats m 0 c).after 6 tonly) = _
  rw [after0_6, out6_eq, iblk0_eq, iblk1_eq, iblk2_eq, iblk3_eq, iblk4_eq]
  rfl
theorem out7_eq (x0 : Vec F S256x5760 .i8) (x1 : Vec F S256x1 .f32) (x2 : Vec F S5760x15360 .i8) (x3 x4 : Vec F S1x15360 .f32) :
    out0_7 x0 x1 x2 x3 x4 = k0_pay1 (k0_pay5 (k0_pay3 x0 x2 x1 x3 x4) (k0_pay4 x0 x2 x1 x3 x4)) (k0_pay7 (k0_pay3 x0 x2 x1 x3 x4) (k0_pay4 x0 x2 x1 x3 x4)) := by
  unfold out0_7
  rw [st4]
  unfold k0_pay8 k0_pay9
  rw [ld0, ld1, ld2, ld3, ld3]
theorem final_G (c : Dev nD) : (dats m 0 c).arrAt 7 cfg0.N = k0_pay1 (k0_pay5 (k0_pay3 (x0 m c) (x2 m c) (x1 m c) (x3 m c) (x4 m c)) (k0_pay4 (x0 m c) (x2 m c) (x1 m c) (x3 m c) (x4 m c))) (k0_pay7 (k0_pay3 (x0 m c) (x2 m c) (x1 m c) (x3 m c) (x4 m c)) (k0_pay4 (x0 m c) (x2 m c) (x1 m c) (x3 m c) (x4 m c))) := by
  have hz : (fun a => (win0_7.index tonly) a * main_v2_2.ty.shape.size a) = fun _ => 0 := funext fun a => by fin_cases a <;> decide
  have hr := fun f => Memref.read_access_unit_zero (Elt F) main_v2_2 hz (fun a => by fin_cases a <;> decide) f
  refine (hr _).symm.trans ((final_of m c 7 (by decide)).trans ?_)
  show (cfg0.win 7).cut _ ((dats m 0 c).after 7 tonly) = _
  rw [after0_7, out7_eq, iblk0_eq, iblk1_eq, iblk2_eq, iblk3_eq, iblk4_eq]
  rfl
theorem out8_eq (x0 : Vec F S256x5760 .i8) (x1 : Vec F S256x1 .f32) (x2 : Vec F S5760x15360 .i8) (x3 x4 : Vec F S1x15360 .f32) :
    out0_8 x0 x1 x2 x3 x4 = k0_pay6 (k0_pay3 x0 x2 x1 x3 x4) (k0_pay4 x0 x2 x1 x3 x4) := by
  unfold out0_8
  rw [st2]
  unfold k0_pay8 k0_pay9
  rw [ld0, ld1, ld2, ld3, ld3]
theorem final_Gs (c : Dev nD) : (dats m 0 c).arrAt 8 cfg0.N = k0_pay6 (k0_pay3 (x0 m c) (x2 m c) (x1 m c) (x3 m c) (x4 m c)) (k0_pay4 (x0 m c) (x2 m c) (x1 m c) (x3 m c) (x4 m c)) := by
  have hz : (fun a => (win0_8.index tonly) a * main_v2_3.ty.shape.size a) = fun _ => 0 := funext fun a => by fin_cases a <;> decide
  have hr := fun f => Memref.read_access_unit_zero (Elt F) main_v2_3 hz (fun a => by fin_cases a <;> decide) f
  refine (hr _).symm.trans ((final_of m c 8 (by decide)).trans ?_)
  show (cfg0.win 8).cut _ ((dats m 0 c).after 8 tonly) = _
  rw [after0_8, out8_eq, iblk0_eq, iblk1_eq, iblk2_eq, iblk3_eq, iblk4_eq]
  rfl
end Arrays

section Entries
variable {F : FTy → Type} [FloatOps F] (s : FVec F S256x1 .f32) (q : IVec S256x15360 8) (i : Fin 256) (j : Fin 15360)

/-- The activation of an entry from the scale of its row and its code. -/
theorem pay5_at : k0_pay5 s q (ix2 i j) = gval (s (ix2 i 0)) (BitVec.signExtend 32 (q (ix2 i j))) := by
  have e1 := fun x : IVec S256x1 32 => bcol_apply x broadcasts_S256x1_S256x15360 i j
  have e2 := fun x : FVec F S256x1 .f32 => bcol_apply x broadcasts_S256x1_S256x15360 i j
  unfold k0_pay5
  exact congrArg₂ FloatOps.mulf (congrArg (FloatOps.sitofp .f32) (congrArg (IntOp.muli _) (congrArg₂ IntOp.addi (congrArg (IntOp.muli _) (congrArg₂ IntOp.addi (congrArg₂ IntOp.muli
    (congrArg₂ IntOp.subi (congrArg (IntOp.minsi _) (e1 _)) (e1 _)) (congrArg₂ IntOp.subi (congrArg (IntOp.minsi _) (e1 _)) (e1 _))) (e1 _))) (e1 _)))) (e2 _)
end Entries

section Ideals
variable (a0 : Vec Ideal S256x5760 .i8) (a1 : Vec Ideal S256x1 .f32) (a2 : Vec Ideal S5760x15360 .i8) (a3 a4 : Vec Ideal S1x15360 .f32)
  (i : Fin 256) (u : Fin 1) (j : Fin 15360)

theorem pay2_eq : k0_pay2 a0 a2 a1 a3 a4 (ix2 i j) = lin a0 a1 a2 a3 a4 i j := by
  unfold k0_pay2
  exact linear_apply _ _ _ _ _ _ _ _ _ _
theorem row_pay2 : row (k0_pay2 a0 a2 a1 a3 a4) i = lin a0 a1 a2 a3 a4 i := row_ext fun j => pay2_eq a0 a1 a2 a3 a4 i j
theorem pay3_eq : k0_pay3 a0 a2 a1 a3 a4 (ix2 i u) = qscale (lin a0 a1 a2 a3 a4 i) := by
  unfold k0_pay3
  refine (scale_apply (k0_pay2 a0 a2 a1 a3 a4) _ _ _ _ i u).trans ?_
  rw [row_pay2]
theorem pay4_eq : k0_pay4 a0 a2 a1 a3 a4 (ix2 i j) = FloatOps.fptosi 8 (qcode (qscale (lin a0 a1 a2 a3 a4 i)) (lin a0 a1 a2 a3 a4 i j)) := by
  unfold k0_pay4
  refine congrArg (FloatOps.fptosi 8) ((code_apply (k0_pay2 a0 a2 a1 a3 a4) (k0_pay3 a0 a2 a1 a3 a4) _ i j).trans ?_)
  rw [pay3_eq, pay2_eq]
theorem pay5_eq : k0_pay5 (k0_pay3 a0 a2 a1 a3 a4) (k0_pay4 a0 a2 a1 a3 a4) (ix2 i j) = grow (lin a0 a1 a2 a3 a4 i) j := by
  rw [pay5_at, pay3_eq, pay4_eq, extsi_qcode, grow]
theorem row_pay5 : row (k0_pay5 (k0_pay3 a0 a2 a1 a3 a4) (k0_pay4 a0 a2 a1 a3 a4)) i = grow (lin a0 a1 a2 a3 a4 i) :=
  row_ext fun j => pay5_eq a0 a1 a2 a3 a4 i j
theorem pay6_eq : k0_pay6 (k0_pay3 a0 a2 a1 a3 a4) (k0_pay4 a0 a2 a1 a3 a4) (ix2 i u) = qscale (grow (lin a0 a1 a2 a3 a4 i)) := by
  unfold k0_pay6
  refine (scale_apply (k0_pay5 (k0_pay3 a0 a2 a1 a3 a4) (k0_pay4 a0 a2 a1 a3 a4)) _ _ _ _ i u).trans ?_
  rw [row_pay5]
theorem pay1_eq : k0_pay1 (k0_pay5 (k0_pay3 a0 a2 a1 a3 a4) (k0_pay4 a0 a2 a1 a3 a4)) (k0_pay7 (k0_pay3 a0 a2 a1 a3 a4) (k0_pay4 a0 a2 a1 a3 a4)) (ix2 i j)
    = FloatOps.fptosi 8 (qcode (qscale (grow (lin a0 a1 a2 a3 a4 i))) (grow (lin a0 a1 a2 a3 a4 i) j)) := by
  unfold k0_pay1 k0_pay7
  refine congrArg (FloatOps.fptosi 8) ((code_apply (k0_pay5 (k0_pay3 a0 a2 a1 a3 a4) (k0_pay4 a0 a2 a1 a3 a4)) (k0_pay6 (k0_pay3 a0 a2 a1 a3 a4) (k0_pay4 a0 a2 a1 a3 a4)) _ i j).trans ?_)
  rw [pay6_eq, pay5_eq]
end Ideals

section Results
variable (m : (ℓ : Loc nD τ sig) → Buf (Elt Ideal) ℓ)

/-- The rows of `u`. -/
abbrev resRows (c : Dev nD) : Fin 256 → Fin 15360 → Ideal .f32 := lin (x0 m c) (x1 m c) (x2 m c) (x3 m c) (x4 m c)
theorem res_U (c : Dev nD) : (dats m 0 c).arrAt 5 cfg0.N = (codes (resRows m c)) := by
  exact (final_U m c).trans (codes_ext fun i j => pay4_eq _ _ _ _ _ i j)
theorem res_Us (c : Dev nD) : (dats m 0 c).arrAt 6 cfg0.N = (scales (resRows m c)) := by
  exact (final_Us m c).trans (scales_ext fun i j => pay3_eq _ _ _ _ _ i j)
theorem res_G (c : Dev nD) : (dats m 0 c).arrAt 7 cfg0.N = (codes fun i => grow (resRows m c i)) := by
  exact (final_G m c).trans (codes_ext fun i j => pay1_eq _ _ _ _ _ i j)
theorem res_Gs (c : Dev nD) : (dats m 0 c).arrAt 8 cfg0.N = (scales fun i => grow (resRows m c i)) := by
  exact (final_Gs m c).trans (scales_ext fun i j => pay6_eq _ _ _ _ _ i j)

/-- The run: the four results, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v2_0) = (codes (resRows m c))
      ∧ r.2.mem ((c.tc : Thread nD τ).loc main_v2_1) = (scales (resRows m c))
      ∧ r.2.mem ((c.tc : Thread nD τ).loc main_v2_2) = (codes fun i => grow (resRows m c i))
      ∧ r.2.mem ((c.tc : Thread nD τ).loc main_v2_3) = (scales fun i => grow (resRows m c i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h.1 c).1 5).trans (res_U m c), ((h.1 c).1 6).trans (res_Us m c), ((h.1 c).1 7).trans (res_G m c),
    ((h.1 c).1 8).trans (res_Gs m c), h.2 c⟩) (θ_run_and (run_main m ρ) (unchanged m ρ))
end Results

end Cert.ReferenceIdeal.Gen

end
-- ==== Proof.Norm.lean ====
/-
  The integer normalisation of a row of codes: the mean and the variance by integer sums and floored divisions, the standard
  deviation by Newton steps, and the affine map after it, read off the vector operations that compute them for a block of rows.
  Sums and differences of codes taken among floats and converted are those of the integers, because codes are small.
-/
module

public import proofs.«01_k».proof.Proof.Quant
public import Idealize.ShloMosaic.Lib.WordSum
public import Idealize.ShloMosaic.Lib.Exec.Context

@[expose] public section

set_option maxRecDepth 16384

noncomputable section

namespace Cert.Proof.Norm

open Idealize.ShloMosaic Idealize.ShloMosaic.ValueIdx
open Cert.Proof.Quant

/-- The sign of a word. -/
def sgn (q : BitVec 32) : BitVec 32 := IntOp.subi ((IntOp.cmpi .sgt q 0#32).setWidth 32) ((IntOp.cmpi .slt q 0#32).setWidth 32)

/-- The floored quotient: one less than the quotient toward zero where the signs differ and the remainder is not zero. -/
def fdiv (a b : BitVec 32) : BitVec 32 :=
  Scalar.select (IntOp.andi (IntOp.cmpi .ne (sgn a) (sgn b)) (IntOp.cmpi .ne (IntOp.remsi .vector a b) 0#32))
    (IntOp.subi (IntOp.divsi .vector a b) 1#32) (IntOp.divsi .vector a b)

/-- One Newton step toward the square root of `n`, and `k` of them from 65536. -/
def nstep (n r : BitVec 32) : BitVec 32 := IntOp.minsi r (fdiv (IntOp.addi r (fdiv n r)) 2#32)
def nsd (k : Nat) (n : BitVec 32) : BitVec 32 := (List.finRange k).foldl (fun r _ => nstep n r) 65536#32

section Row
variable {n : Nat} (q : Fin n → BitVec 32)

/-- The floored mean of 5760 codes, a code less the mean, the sum of squares (at least 1), and the factor of the row. -/
def mu : BitVec 32 := fdiv (∑ j, q j) 5760#32
def ctr (j : Fin n) : BitVec 32 := IntOp.subi (q j) (mu q)
def vr : BitVec 32 := IntOp.maxsi (∑ j, IntOp.muli (ctr q j) (ctr q j)) 1#32
def fac (k : Nat) : BitVec 32 := fdiv 1048576#32 (nsd k (vr q))
end Row

/-- An entry of the result from the centred code, the row's factor, and the column's scale and offset. -/
def nval {F : FTy → Type} [FloatOps F] (y f : BitVec 32) (g b : F .f32) : F .f32 :=
  FloatOps.addf (FloatOps.mulf (FloatOps.mulf (FloatOps.sitofp .f32 (IntOp.muli y f)) (Scalar.ofBits .f32 0x3897CA11#32)) g) b

/-- The 32-bit codes of a row, and the normalised row. -/
def icodes {n : Nat} (v : Fin n → Ideal .f32) (j : Fin n) : BitVec 32 := FloatOps.fptosi 32 (qcode (qscale v) (v j))
def nrow {n : Nat} (v g b : Fin n → Ideal .f32) (j : Fin n) : Ideal .f32 := nval (ctr (icodes v) j) (fac (icodes v) 24) (g j) (b j)

/-- A fold of Newton steps of vectors, read at an index. -/
theorem fold_apply {k : Nat} {S : Shape} (step : IVec S 32 → IVec S 32) (init : IVec S 32) (x : S.Idx) (n : BitVec 32)
    (h : ∀ r, step r x = nstep n (r x)) (h0 : init x = 65536#32) : Scf.fold (fun (_ : Fin k) r => step r) init x = nsd k n := by
  rw [Scf.fold_eq, nsd, ← h0]
  clear h0
  generalize List.finRange k = l
  induction l generalizing init with
  | nil => rfl
  | cons a l ih =>
    rw [List.foldl_cons, List.foldl_cons, ← h init]
    exact ih _

section Sums
variable {r n : Nat}

/-- A row sum of words, as a column. -/
theorem isum_apply (X : IVec (M r n) 32) (h : (M r n).Reduces [1] (V r)) (hacc : (0#32 : BitVec 32) = IKind.add.neutral)
    (hs : (V r).ShapeCasts (M r 1)) (i : Fin r) (u : Fin 1) :
    shapeCast (M r 1) (multiReductionI .add [1] (V r) X 0#32 h hacc) hs (ix2 i u) = ∑ j, X (ix2 i j) := by
  refine (shapeCast_a_a1_apply _ hs i u).trans ?_
  rw [multiReductionI_eq_reduceFold]
  show reduceFold h (· + ·) (0#32 : BitVec 32) X _ = _
  rw [reduceFold_add_eq_sum, show (0#32 : BitVec 32) = 0 from rfl, zero_add]
  refine (h.sum_filter_drop_single X _).trans (Finset.sum_congr rfl fun k _ => congrArg X ?_)
  funext a; fin_cases a <;> rfl

/-- A row sum of floats, as a column. -/
theorem fsum_apply (X : FVec Ideal (M r n) .f32) (h : (M r n).Reduces [1] (V r)) (hφ : FKind.Formats .f32)
    (hacc : (0#32 : BitVec 32) = FKind.add.neutral .f32 hφ) (hs : (V r).ShapeCasts (M r 1)) (i : Fin r) (u : Fin 1) :
    shapeCast (M r 1) (multiReduction .add [1] (V r) X 0x00000000#32 h hφ hacc) hs (ix2 i u) = (∑ j, (X (ix2 i j) : EReal) : EReal) := by
  refine (shapeCast_a_a1_apply _ hs i u).trans ?_
  refine (Ideal.multiReduction_add_single _ _ h hφ hacc _).trans (Finset.sum_congr rfl fun k _ => congrArg X ?_)
  funext a; fin_cases a <;> rfl
end Sums

theorem coe_sum_int {ι : Type} (s : Finset ι) (z : ι → ℤ) : (∑ j ∈ s, (((z j : ℤ) : ℝ) : EReal)) = (((∑ j ∈ s, z j : ℤ) : ℝ) : EReal) := by
  classical
  induction s using Finset.induction_on with
  | empty => simp
  | insert a s ha ih => rw [Finset.sum_insert ha, Finset.sum_insert ha, ih, Int.cast_add, EReal.coe_add]
theorem ofInt_sum {ι : Type} (s : Finset ι) (z : ι → ℤ) : (∑ j ∈ s, BitVec.ofInt 32 (z j)) = BitVec.ofInt 32 (∑ j ∈ s, z j) := by
  classical
  induction s using Finset.induction_on with
  | empty => rfl
  | insert a s ha ih => rw [Finset.sum_insert ha, Finset.sum_insert ha, ih, BitVec.ofInt_add]

theorem fptosi_32 (z : ℤ) (h1 : -2147483648 ≤ z) (h2 : z ≤ 2147483647) : Ideal.fptosi 32 ((z : ℝ) : EReal) = BitVec.ofInt 32 z :=
  fptosi_int 32 z (by norm_num; omega) (by norm_num; omega)

section Codes
variable (s : Ideal .f32) (v : Fin 5760 → Ideal .f32)

/-- The codes are integers whose sum is small. -/
theorem codes_int : ∃ z : Fin 5760 → ℤ, (∀ j, -127 ≤ z j ∧ z j ≤ 127) ∧ (∀ j, (qcode s (v j) : EReal) = ((z j : ℝ) : EReal))
    ∧ -731520 ≤ ∑ j, z j ∧ ∑ j, z j ≤ 731520 := by
  choose z h1 h2 h3 using fun j => qcode_int s (v j)
  refine ⟨z, fun j => ⟨h1 j, h2 j⟩, h3, ?_, ?_⟩
  · have := Finset.card_nsmul_le_sum Finset.univ z (-127) fun j _ => h1 j
    simpa using this
  · have := Finset.sum_le_card_nsmul Finset.univ z 127 fun j _ => h2 j
    simpa using this

/-- The sum of the codes as floats, converted, is the sum of the converted codes. -/
theorem sum_codes : (Ideal.fptosi 32 (∑ j, (qcode s (v j) : EReal) : EReal)) = ∑ j, (FloatOps.fptosi 32 (qcode s (v j)) : BitVec 32) := by
  obtain ⟨z, hz, e, l, u⟩ := codes_int s v
  have e1 : ∀ j, (FloatOps.fptosi 32 (qcode s (v j)) : BitVec 32) = BitVec.ofInt 32 (z j) := fun j =>
    (congrArg (Ideal.fptosi 32) (e j)).trans (fptosi_32 _ (by have := hz j; omega) (by have := hz j; omega))
  rw [Finset.sum_congr rfl fun j _ => e1 j, Finset.sum_congr rfl fun j _ => e j, ofInt_sum, coe_sum_int]
  exact fptosi_32 _ (by omega) (by omega)

/-- The mean of the codes is small. -/
theorem mu_bound : -128 ≤ (mu fun j => FloatOps.fptosi 32 (qcode s (v j))).toInt ∧ (mu fun j => FloatOps.fptosi 32 (qcode s (v j))).toInt ≤ 127 := by
  obtain ⟨z, hz, e, l, u⟩ := codes_int s v
  have e1 : ∀ j, (FloatOps.fptosi 32 (qcode s (v j)) : BitVec 32) = BitVec.ofInt 32 (z j) := fun j =>
    (congrArg (Ideal.fptosi 32) (e j)).trans (fptosi_32 _ (by have := hz j; omega) (by have := hz j; omega))
  have et : (∑ j, (FloatOps.fptosi 32 (qcode s (v j)) : BitVec 32)) = BitVec.ofInt 32 (∑ j, z j) := by
    rw [Finset.sum_congr rfl fun j _ => e1 j, ofInt_sum]
  unfold mu
  rw [et]
  generalize (∑ j, z j) = T at l u
  have hT : (BitVec.ofInt 32 T).toInt = T := by
    rw [BitVec.toInt_ofInt]; exact Int.bmod_eq_of_le (by norm_num; omega) (by norm_num; omega)
  have hd : IntOp.divsi .vector (BitVec.ofInt 32 T) 5760#32 = (BitVec.ofInt 32 T).sdiv 5760#32 := by
    unfold IntOp.divsi
    rw [if_neg]
    rintro (h | ⟨_, h⟩)
    · exact absurd h (by decide)
    · exact absurd h (by decide)
  have c1 : (731520 : ℤ).tdiv 5760 = 127 := by decide +kernel
  have c2 : (-731520 : ℤ).tdiv 5760 = -127 := by decide +kernel
  have h1 : T.tdiv 5760 ≤ 127 := c1 ▸ Int.tdiv_le_tdiv (c := 5760) (by norm_num) u
  have h2 : -127 ≤ T.tdiv 5760 := c2 ▸ Int.tdiv_le_tdiv (c := 5760) (by norm_num) l
  have hq : ((BitVec.ofInt 32 T).sdiv 5760#32).toInt = T.tdiv 5760 := by
    rw [BitVec.toInt_sdiv, hT, show (5760#32 : BitVec 32).toInt = 5760 from rfl]
    exact Int.bmod_eq_of_le (by norm_num; omega) (by norm_num; omega)
  have hs : (IntOp.subi ((BitVec.ofInt 32 T).sdiv 5760#32) 1#32).toInt = T.tdiv 5760 - 1 := by
    unfold IntOp.subi
    rw [BitVec.toInt_sub, hq, show (1#32 : BitVec 32).toInt = 1 from rfl]
    exact Int.bmod_eq_of_le (by norm_num; omega) (by norm_num; omega)
  unfold fdiv
  rw [hd]
  unfold Scalar.select
  split
  · rw [hs]; omega
  · rw [hq]; omega

/-- A code less a small integer, among floats: converted it is the difference of the words, and its square the product. -/
theorem sub_code (x : Ideal .f32) (m : BitVec 32) (h1 : -128 ≤ m.toInt) (h2 : m.toInt ≤ 127) :
    FloatOps.fptosi 32 (FloatOps.subf (qcode s x) (FloatOps.sitofp .f32 m : Ideal .f32)) = IntOp.subi (FloatOps.fptosi 32 (qcode s x)) m
    ∧ FloatOps.fptosi 32 (FloatOps.mulf (FloatOps.subf (qcode s x) (FloatOps.sitofp .f32 m : Ideal .f32)) (FloatOps.subf (qcode s x) (FloatOps.sitofp .f32 m)))
      = IntOp.muli (IntOp.subi (FloatOps.fptosi 32 (qcode s x)) m) (IntOp.subi (FloatOps.fptosi 32 (qcode s x)) m) := by
  obtain ⟨z, l, u, e⟩ := qcode_int s x
  have em : m = BitVec.ofInt 32 m.toInt := (BitVec.ofInt_toInt).symm
  have e1 : (FloatOps.fptosi 32 (qcode s x) : BitVec 32) = BitVec.ofInt 32 z :=
    (congrArg (Ideal.fptosi 32) e).trans (fptosi_32 _ (by omega) (by omega))
  have ey : (FloatOps.subf (qcode s x) (FloatOps.sitofp .f32 m : Ideal .f32) : EReal) = (((z - m.toInt : ℤ) : ℝ) : EReal) := by
    show (qcode s x : EReal) - ((m.toInt : ℝ) : EReal) = _
    rw [e, Int.cast_sub, EReal.coe_sub]
  have es : IntOp.subi (FloatOps.fptosi 32 (qcode s x)) m = BitVec.ofInt 32 (z - m.toInt) := by
    rw [e1]
    unfold IntOp.subi
    conv_lhs => rw [em]
    rw [Int.sub_eq_add_neg, BitVec.ofInt_add, BitVec.ofInt_neg, ← BitVec.sub_eq_add_neg]
  rw [es]
  have b1 : -255 ≤ z - m.toInt := by omega
  have b2 : z - m.toInt ≤ 255 := by omega
  generalize z - m.toInt = d at ey b1 b2
  have b3 : 0 ≤ d * d := mul_self_nonneg d
  have b4 : d * d ≤ 65025 := by nlinarith
  refine ⟨(congrArg (Ideal.fptosi 32) ey).trans (fptosi_32 _ (by omega) (by omega)), ?_⟩
  have em2 : (FloatOps.mulf (FloatOps.subf (qcode s x) (FloatOps.sitofp .f32 m : Ideal .f32)) (FloatOps.subf (qcode s x) (FloatOps.sitofp .f32 m)) : EReal)
      = (((d * d : ℤ) : ℝ) : EReal) := by
    show (FloatOps.subf (qcode s x) (FloatOps.sitofp .f32 m : Ideal .f32) : EReal) * (FloatOps.subf (qcode s x) (FloatOps.sitofp .f32 m : Ideal .f32) : EReal) = _
    rw [ey, Int.cast_mul, EReal.coe_mul]
  refine (congrArg (Ideal.fptosi 32) em2).trans ((fptosi_32 _ (by omega) (by omega)).trans ?_)
  exact BitVec.ofInt_mul _ _
end Codes

/-- The rows of the product with its bias, plus a matrix of codes times the scales of its rows. -/
def linRes {r K n : Nat} (X : IVec (M r K) 8) (S : FVec Ideal (M r 1) .f32) (W : IVec (M K n) 8) (ws b : FVec Ideal (M 1 n) .f32)
    (A : IVec (M r n) 8) (As : FVec Ideal (M r 1) .f32) (i : Fin r) (j : Fin n) : Ideal .f32 :=
  FloatOps.addf (lin X S W ws b i j) (FloatOps.mulf (FloatOps.sitofp .f32 (A (ix2 i j))) (As (ix2 i 0)))

end Cert.Proof.Norm

end
-- ==== Proof.SecondIdealValue.lean ====
/-
  What the second kernel leaves in its four results, at the ideal values: the codes and the scales of the rows of `h` and of the
  normalised rows.
-/
module

public import proofs.«01_k».proof.Proof.SecondIdealRun
public import proofs.«01_k».proof.Proof.Norm
public import Idealize.ShloMosaic.Lib.Claim

@[expose] public section

set_option maxRecDepth 16384

noncomputable section

namespace Cert.SecondIdeal.Gen

open Idealize.ShloMosaic Idealize.ShloMosaic.TcCoe
open Idealize.SL.Sem
open Idealize.ShloMosaic.Pipeline (Dat Cfg Window cellOf)
open Idealize.ShloMosaic.ValueIdx
open Cert.Proof.Rows Cert.Proof.Quant Cert.Proof.Norm

/-! One entry of the body's values from the entries they are computed from, at any float interpretation. -/

section Entries
variable {F : FTy → Type} [FloatOps F] (i : Fin 32) (u : Fin 1) (j : Fin 5760)

/-- A Newton step of the block is that of its entry. -/
theorem pay6_at (n r : IVec S32x1 32) (x : S32x1.Idx) : k0_pay6 n r x = IntOp.addi (r x) (fdiv (n x) (r x)) := rfl
theorem pay7_at (n r : IVec S32x1 32) (x : S32x1.Idx) : k0_pay7 n r x = IntOp.divsi .vector (k0_pay6 n r x) 2#32 := rfl
theorem pay8_at (n r : IVec S32x1 32) (x : S32x1.Idx) : k0_pay8 n r x
    = IntOp.andi (IntOp.cmpi .ne (sgn (k0_pay6 n r x)) (sgn 2#32)) (IntOp.cmpi .ne (IntOp.remsi .vector (k0_pay6 n r x) 2#32) 0#32) := rfl
theorem pay19_at (r a : IVec S32x1 32) (b : IVec S32x1 1) (x : S32x1.Idx) :
    k0_pay19 r a b k0_pay9 x = IntOp.minsi (r x) (Scalar.select (b x) (IntOp.subi (a x) 1#32) (a x)) := rfl
theorem step_at (n r : IVec S32x1 32) (x : S32x1.Idx) : k0_pay19 r (k0_pay7 n r) (k0_pay8 n r) k0_pay9 x = nstep (n x) (r x) := by
  rw [pay19_at, pay7_at, pay8_at, pay6_at]
  rfl
theorem pay18_at (x : S32x1.Idx) : k0_pay18 x = 65536#32 := rfl
theorem pay20_at (r : IVec S32x1 32) (x : S32x1.Idx) : k0_pay20 r x = IntOp.divsi .vector 1048576#32 (r x) := rfl
theorem pay21_at (r : IVec S32x1 32) (x : S32x1.Idx) : k0_pay21 r x
    = IntOp.andi (IntOp.cmpi .ne (sgn 1048576#32) (sgn (r x))) (IntOp.cmpi .ne (IntOp.remsi .vector 1048576#32 (r x)) 0#32) := rfl
theorem trips2 : k0_t2_loop.trips = 24 := by decide +kernel
variable (b : FVec F S32x5760 .f32)
theorem r32_at (x : S32x1.Idx) : r32 b x = nsd 24 (n32 b x) := by
  unfold r32
  rw [← trips2]
  exact fold_apply (fun r => k0_pay19 r (k0_pay7 (n32 b) r) (k0_pay8 (n32 b) r) k0_pay9) k0_pay18 x (n32 b x) (fun r => step_at _ _ x) (pay18_at x)
theorem pay12_at (x : S32x5760.Idx) : k0_pay12 b x = FloatOps.fptosi 8 (k0_pay11 b x) := rfl
theorem pay14_at (x : S32x1.Idx) : k0_pay14 b x = IntOp.divsi .vector (k0_pay13 b x) 5760#32 := rfl
theorem pay15_at (x : S32x1.Idx) : k0_pay15 b x = sgn (k0_pay13 b x) := rfl
theorem y32_at : y32 b (ix2 i j) = FloatOps.subf (k0_pay11 b (ix2 i j)) (FloatOps.sitofp .f32 (fdiv (k0_pay13 b (ix2 i 0)) 5760#32)) := by
  unfold y32 k0_pay16
  exact congrArg (FloatOps.subf _) (bcol_apply _ broadcasts_S32x1_S32x5760 i j)
theorem n32_at : n32 b (ix2 i u) = IntOp.maxsi (∑ j, FloatOps.fptosi 32 (FloatOps.mulf (y32 b (ix2 i j)) (y32 b (ix2 i j)))) 1#32 := by
  unfold n32 k0_pay17
  exact congrArg (IntOp.maxsi · 1#32) (isum_apply (fptosi 32 (mulf (y32 b) (y32 b))) reduces_S32x5760_S32 rfl shapeCasts_S32_S32x1 i u)
variable (g o : FVec F S1x5760 .f32)
theorem pay3_at (y : FVec F S32x5760 .f32) (q : IVec S32x1 32) (w : IVec S32x1 1) :
    k0_pay3 g o y q w 1#32 (ix2 i j)
      = nval (FloatOps.fptosi 32 (y (ix2 i j))) (Scalar.select (w (ix2 i 0)) (IntOp.subi (q (ix2 i 0)) 1#32) (q (ix2 i 0))) (g (ix2 0 j)) (o (ix2 0 j)) := by
  unfold k0_pay3
  rw [shapeCast_self, shapeCast_self]
  have e1 := brow_apply g broadcasts_S1x5760_S32x5760 i j
  have e2 := brow_apply o broadcasts_S1x5760_S32x5760 i j
  have e3 := bcol_apply (select w (subi q (broadcast S32x1 1#32)) q) broadcasts_S32x1_S32x5760 i j
  exact congrArg₂ FloatOps.addf (congrArg₂ FloatOps.mulf (congrArg (fun z => FloatOps.mulf (FloatOps.sitofp .f32 (IntOp.muli _ z)) _) e3) e1) e2
end Entries

/-! The same at the ideal values, in terms of the row alone. -/

section Payloads
variable (b : Vec Ideal S32x5760 .f32) (g o : Vec Ideal S1x5760 .f32) (i : Fin 32) (u : Fin 1) (j : Fin 5760)

theorem pay10_eq : k0_pay10 b (ix2 i u) = qscale (row b i) := by
  unfold k0_pay10
  exact scale_apply b _ _ _ _ i u
theorem pay11_eq : k0_pay11 b (ix2 i j) = qcode (qscale (row b i)) (row b i j) := by
  unfold k0_pay11
  refine (code_apply b (k0_pay10 b) _ i j).trans ?_
  rw [pay10_eq, row]
theorem pay12_eq : k0_pay12 b (ix2 i j) = FloatOps.fptosi 8 (qcode (qscale (row b i)) (row b i j)) := by
  rw [pay12_at, pay11_eq]
theorem pay13_eq : k0_pay13 b (ix2 i u) = ∑ j, icodes (row b i) j := by
  have e := fsum_apply (k0_pay11 b) reduces_S32x5760_S32 (.inl rfl) rfl shapeCasts_S32_S32x1 i u
  rw [Finset.sum_congr rfl fun k _ => pay11_eq b i k] at e
  refine (congrArg (Ideal.fptosi 32) e).trans ?_
  exact sum_codes (qscale (row b i)) (row b i)
theorem mu_eq : fdiv (k0_pay13 b (ix2 i u)) 5760#32 = mu (icodes (row b i)) := by
  rw [pay13_eq, mu]
theorem y32_eq : FloatOps.fptosi 32 (y32 b (ix2 i j)) = ctr (icodes (row b i)) j
    ∧ FloatOps.fptosi 32 (FloatOps.mulf (y32 b (ix2 i j)) (y32 b (ix2 i j))) = IntOp.muli (ctr (icodes (row b i)) j) (ctr (icodes (row b i)) j) := by
  rw [y32_at, pay11_eq, mu_eq]
  have h := mu_bound (qscale (row b i)) (row b i)
  exact sub_code (qscale (row b i)) (row b i j) _ h.1 h.2
theorem n32_eq : n32 b (ix2 i u) = vr (icodes (row b i)) := by
  rw [n32_at, vr, Finset.sum_congr rfl fun k _ => (y32_eq b i k).2]

/-- The normalised rows of a block. -/
abbrev nblk : Vec Ideal S32x5760 .f32 := k0_pay3 g o (y32 b) (k0_pay20 (r32 b)) (k0_pay21 (r32 b)) 1#32
theorem nblk_eq : nblk b g o (ix2 i j) = nrow (row b i) (fun j => g (ix2 0 j)) (fun j => o (ix2 0 j)) j := by
  rw [nblk, pay3_at, (y32_eq b i j).1, pay20_at, pay21_at, r32_at, n32_eq]
  rfl
theorem row_nblk : row (nblk b g o) i = nrow (row b i) (fun j => g (ix2 0 j)) (fun j => o (ix2 0 j)) := row_ext fun j => nblk_eq b g o i j
theorem pay4_eq : k0_pay4 g o (y32 b) (k0_pay20 (r32 b)) (k0_pay21 (r32 b)) 1#32 (ix2 i u)
    = qscale (nrow (row b i) (fun j => g (ix2 0 j)) (fun j => o (ix2 0 j))) := by
  unfold k0_pay4
  exact (scale_apply (nblk b g o) _ _ _ _ i u).trans (congrArg qscale (row_nblk b g o i))
theorem pay5_eq : k0_pay5 g o (y32 b) (k0_pay20 (r32 b)) (k0_pay21 (r32 b)) 1#32 (ix2 i j)
    = FloatOps.fptosi 8 (qcode (qscale (nrow (row b i) (fun j => g (ix2 0 j)) (fun j => o (ix2 0 j)))) (nrow (row b i) (fun j => g (ix2 0 j)) (fun j => o (ix2 0 j)) j)) := by
  unfold k0_pay5
  refine congrArg (FloatOps.fptosi 8) ((code_apply (nblk b g o) (k0_pay4 g o (y32 b) (k0_pay20 (r32 b)) (k0_pay21 (r32 b)) 1#32) _ i j).trans ?_)
  rw [pay4_eq, nblk_eq]
end Payloads

section Whole
variable (H : Vec Ideal S256x5760 .f32) (g o : Vec Ideal S1x5760 .f32) (i : Fin 256) (u : Fin 1) (j : Fin 5760)

/-- Row `i` in its block of 32 rows. -/
abbrev inBlk : Fin 32 := ⟨i.val % 32, Nat.mod_lt _ (by decide)⟩
/-- A row of the block of 32 rows that holds row `i` is row `i`. -/
theorem row_blk32 : row (blk32 H (i.val / 32)) (inBlk i) = row H i := by
  funext j
  show H (ix2 ⟨(32 * (i.val / 32) + i.val % 32) % 256, _⟩ j) = H (ix2 i j)
  refine congrArg (fun a => H (ix2 a j)) (Fin.ext ?_)
  show (32 * (i.val / 32) + i.val % 32) % 256 = i.val
  have := i.isLt
  omega
/-- The normalised row `i`. -/
abbrev nr (H : Vec Ideal S256x5760 .f32) (g o : Vec Ideal S1x5760 .f32) (i : Fin 256) : Fin 5760 → Ideal .f32 :=
  nrow (row H i) (fun j => g (ix2 0 j)) (fun j => o (ix2 0 j))
theorem outH_eq : outH H (ix2 i j) = FloatOps.fptosi 8 (qcode (qscale (row H i)) (row H i j)) := by
  have e : outH H (ix2 i j) = k0_pay12 (blk32 H (i.val / 32)) (ix2 (inBlk i) j) := rfl
  rw [e, pay12_eq, row_blk32]
theorem outHs_eq : outHs H (ix2 i u) = qscale (row H i) := by
  have e : outHs H (ix2 i u) = k0_pay10 (blk32 H (i.val / 32)) (ix2 (inBlk i) u) := rfl
  rw [e, pay10_eq, row_blk32]
theorem outO_eq : outO g o H (ix2 i j) = FloatOps.fptosi 8 (qcode (qscale (nr H g o i)) (nr H g o i j)) := by
  have e : outO g o H (ix2 i j) = (fun b => k0_pay5 g o (y32 b) (k0_pay20 (r32 b)) (k0_pay21 (r32 b)) 1#32) (blk32 H (i.val / 32)) (ix2 (inBlk i) j) := rfl
  rw [e]
  beta_reduce
  rw [pay5_eq, row_blk32]
theorem outOs_eq : outOs g o H (ix2 i u) = qscale (nr H g o i) := by
  have e : outOs g o H (ix2 i u) = (fun b => k0_pay4 g o (y32 b) (k0_pay20 (r32 b)) (k0_pay21 (r32 b)) 1#32) (blk32 H (i.val / 32)) (ix2 (inBlk i) u) := rfl
  rw [e]
  beta_reduce
  rw [pay4_eq, row_blk32]
end Whole

section Arrays
variable {F : FTy → Type} [FloatOps F] (m : (ℓ : Loc nD τ sig) → Buf (Elt F) ℓ)

/-- The column scales, the bias, and the scale and offset of the normalisation, as the kernel finds them: rows of one row. -/
theorem V_main_v0 (c : Dev nD) : V m c main_v0 = shapeCast S1x5760 (m ((c : Thread nD τ).loc main_arg3)) shapeCasts_S5760_S1x5760 := by
  show StableHlo.after hostOps0 _ (Proc.devRef .tc main_v0) = _
  after_results
  rfl
theorem V_main_v1 (c : Dev nD) : V m c main_v1 = shapeCast S1x5760 (m ((c : Thread nD τ).loc main_arg4)) shapeCasts_S5760_S1x5760 := by
  show StableHlo.after hostOps0 _ (Proc.devRef .tc main_v1) = _
  after_results
  rfl
theorem V_main_v2 (c : Dev nD) : V m c main_v2 = shapeCast S1x5760 (m ((c : Thread nD τ).loc main_arg7)) shapeCasts_S5760_S1x5760 := by
  show StableHlo.after hostOps0 _ (Proc.devRef .tc main_v2) = _
  after_results
  rfl
theorem V_main_v3 (c : Dev nD) : V m c main_v3 = shapeCast S1x5760 (m ((c : Thread nD τ).loc main_arg8)) shapeCasts_S5760_S1x5760 := by
  show StableHlo.after hostOps0 _ (Proc.devRef .tc main_v3) = _
  after_results
  rfl
theorem idx2 : ∀ t : Fin cfg0.N, win0_2.index t = ![0, t.val] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, t.val] := by decide +kernel

/-- An entry of a block of columns at a grid point. -/
theorem iblk2_at (c : Dev nD) (t : Fin cfg0.N) (k : Fin 15360) (j : Fin 384) (J : Fin 5760) (hJ : J.val = 384 * t.val + j.val) :
    iblk m c 2 t (ix2 k j) = m ((c : Thread nD τ).loc main_arg2) (ix2 k J) := by
  rw [← V_main_arg2 m c]
  unfold iblk
  refine (View.read_apply ..).trans ?_
  refine congrArg (V m c main_arg2) (funext fun a => Fin.ext ?_)
  have h := idx2 t
  match a with
  | ⟨0, _⟩ =>
    show win0_2.index t 0 * 15360 + 1 * k.val = k.val
    rw [h]
    show 0 * 15360 + 1 * k.val = k.val
    omega
  | ⟨1, _⟩ =>
    show win0_2.index t 1 * 384 + 1 * j.val = J.val
    rw [h]
    show t.val * 384 + 1 * j.val = J.val
    omega
theorem iblk3_at (c : Dev nD) (t : Fin cfg0.N) (u : Fin 1) (j : Fin 384) (J : Fin 5760) (hJ : J.val = 384 * t.val + j.val) :
    iblk m c 3 t (ix2 u j) = shapeCast S1x5760 (m ((c : Thread nD τ).loc main_arg3)) shapeCasts_S5760_S1x5760 (ix2 u J) := by
  rw [← V_main_v0 m c]
  unfold iblk
  refine (View.read_apply ..).trans ?_
  refine congrArg (V m c main_v0) (funext fun a => Fin.ext ?_)
  have h := idx3 t
  match a with
  | ⟨0, _⟩ =>
    show win0_3.index t 0 * 1 + 1 * u.val = u.val
    rw [h]
    show 0 * 1 + 1 * u.val = u.val
    omega
  | ⟨1, _⟩ =>
    show win0_3.index t 1 * 384 + 1 * j.val = J.val
    rw [h]
    show t.val * 384 + 1 * j.val = J.val
    omega
theorem iblk4_at (c : Dev nD) (t : Fin cfg0.N) (u : Fin 1) (j : Fin 384) (J : Fin 5760) (hJ : J.val = 384 * t.val + j.val) :
    iblk m c 4 t (ix2 u j) = shapeCast S1x5760 (m ((c : Thread nD τ).loc main_arg4)) shapeCasts_S5760_S1x5760 (ix2 u J) := by
  rw [← V_main_v1 m c]
  unfold iblk
  refine (View.read_apply ..).trans ?_
  refine congrArg (V m c main_v1) (funext fun a => Fin.ext ?_)
  have h := idx4 t
  match a with
  | ⟨0, _⟩ =>
    show win0_4.index t 0 * 1 + 1 * u.val = u.val
    rw [h]
    show 0 * 1 + 1 * u.val = u.val
    omega
  | ⟨1, _⟩ =>
    show win0_4.index t 1 * 384 + 1 * j.val = J.val
    rw [h]
    show t.val * 384 + 1 * j.val = J.val
    omega
theorem iblk5_at (c : Dev nD) (t : Fin cfg0.N) (k : Fin 256) (j : Fin 384) (J : Fin 5760) (hJ : J.val = 384 * t.val + j.val) :
    iblk m c 5 t (ix2 k j) = m ((c : Thread nD τ).loc main_arg5) (ix2 k J) := by
  rw [← V_main_arg5 m c]
  unfold iblk
  refine (View.read_apply ..).trans ?_
  refine congrArg (V m c main_arg5) (funext fun a => Fin.ext ?_)
  have h := idx5 t
  match a with
  | ⟨0, _⟩ =>
    show win0_5.index t 0 * 256 + 1 * k.val = k.val
    rw [h]
    show 0 * 256 + 1 * k.val = k.val
    omega
  | ⟨1, _⟩ =>
    show win0_5.index t 1 * 384 + 1 * j.val = J.val
    rw [h]
    show t.val * 384 + 1 * j.val = J.val
    omega
/-- These come whole at every point. -/
theorem iblk0_eq (c : Dev nD) (t : Fin cfg0.N) : iblk m c 0 t = m ((c : Thread nD τ).loc main_arg0) := by
  have hz : (fun a => (win0_0.index t) a * main_arg0.ty.shape.size a) = fun _ => 0 := funext fun a => by fin_cases a <;> exact Nat.zero_mul _
  rw [← V_main_arg0 m c]
  exact Memref.read_access_unit_zero (Elt F) main_arg0 hz (fun a => by fin_cases a <;> exact (Nat.zero_mul _).symm ▸ Nat.le_of_eq (Nat.zero_add _)) _
theorem iblk1_eq (c : Dev nD) (t : Fin cfg0.N) : iblk m c 1 t = m ((c : Thread nD τ).loc main_arg1) := by
  have hz : (fun a => (win0_1.index t) a * main_arg1.ty.shape.size a) = fun _ => 0 := funext fun a => by fin_cases a <;> exact Nat.zero_mul _
  rw [← V_main_arg1 m c]
  exact Memref.read_access_unit_zero (Elt F) main_arg1 hz (fun a => by fin_cases a <;> exact (Nat.zero_mul _).symm ▸ Nat.le_of_eq (Nat.zero_add _)) _
theorem iblk6_eq (c : Dev nD) (t : Fin cfg0.N) : iblk m c 6 t = m ((c : Thread nD τ).loc main_arg6) := by
  have hz : (fun a => (win0_6.index t) a * main_arg6.ty.shape.size a) = fun _ => 0 := funext fun a => by fin_cases a <;> exact Nat.zero_mul _
  rw [← V_main_arg6 m c]
  exact Memref.read_access_unit_zero (Elt F) main_arg6 hz (fun a => by fin_cases a <;> exact (Nat.zero_mul _).symm ▸ Nat.le_of_eq (Nat.zero_add _)) _
theorem iblk7_eq (c : Dev nD) (t : Fin cfg0.N) : iblk m c 7 t = shapeCast S1x5760 (m ((c : Thread nD τ).loc main_arg7)) shapeCasts_S5760_S1x5760 := by
  have hz : (fun a => (win0_7.index t) a * main_v2.ty.shape.size a) = fun _ => 0 := funext fun a => by fin_cases a <;> exact Nat.zero_mul _
  rw [← V_main_v2 m c]
  exact Memref.read_access_unit_zero (Elt F) main_v2 hz (fun a => by fin_cases a <;> exact (Nat.zero_mul _).symm ▸ Nat.le_of_eq (Nat.zero_add _)) _
theorem iblk8_eq (c : Dev nD) (t : Fin cfg0.N) : iblk m c 8 t = shapeCast S1x5760 (m ((c : Thread nD τ).loc main_arg8)) shapeCasts_S5760_S1x5760 := by
  have hz : (fun a => (win0_8.index t) a * main_v3.ty.shape.size a) = fun _ => 0 := funext fun a => by fin_cases a <;> exact Nat.zero_mul _
  rw [← V_main_v3 m c]
  exact Memref.read_access_unit_zero (Elt F) main_v3 hz (fun a => by fin_cases a <;> exact (Nat.zero_mul _).symm ▸ Nat.le_of_eq (Nat.zero_add _)) _

/-! The arrays at the end of the run: the last point writes each of them back whole. -/

def tlast : Fin cfg0.N := ⟨14, by decide⟩
theorem final_of (c : Dev nD) (w : Fin cfg0.W) (hf : (cfg0.win w).flush tlast = true) :
    ((cfg0.win w).blk tlast).view.read (Elt F) ((dats m 0 c).arrAt w cfg0.N) = (dats m 0 c).flushed w tlast := by
  rw [show cfg0.N = tlast.val + 1 from rfl, (dats m 0 c).arrAt_succ w tlast, if_pos hf]
  exact View.read_write_univ _ _
abbrev gam (c : Dev nD) : Vec F S1x5760 .f32 := shapeCast S1x5760 (m ((c : Thread nD τ).loc main_arg7)) shapeCasts_S5760_S1x5760
abbrev bet (c : Dev nD) : Vec F S1x5760 .f32 := shapeCast S1x5760 (m ((c : Thread nD τ).loc main_arg8)) shapeCasts_S5760_S1x5760
theorem final_H (c : Dev nD) : (dats m 0 c).arrAt 9 cfg0.N = outH (Hmat m c) := by
  have hz : (fun a => (win0_9.index tlast) a * main_v4_0.ty.shape.size a) = fun _ => 0 := funext fun a => by fin_cases a <;> decide
  have hr := fun f => Memref.read_access_unit_zero (Elt F) main_v4_0 hz (fun a => by fin_cases a <;> decide) f
  have ho := final_of m c 9 (by decide)
  refine (hr _).symm.trans (ho.trans ?_)
  show (cfg0.win 9).cut _ ((dats m 0 c).after 9 tlast) = _
  rw [after0_9]
  rfl
theorem final_Hs (c : Dev nD) : (dats m 0 c).arrAt 10 cfg0.N = outHs (Hmat m c) := by
  have hz : (fun a => (win0_10.index tlast) a * main_v4_1.ty.shape.size a) = fun _ => 0 := funext fun a => by fin_cases a <;> decide
  have hr := fun f => Memref.read_access_unit_zero (Elt F) main_v4_1 hz (fun a => by fin_cases a <;> decide) f
  have ho := final_of m c 10 (by decide)
  refine (hr _).symm.trans (ho.trans ?_)
  show (cfg0.win 10).cut _ ((dats m 0 c).after 10 tlast) = _
  rw [after0_10]
  rfl
theorem final_O (c : Dev nD) : (dats m 0 c).arrAt 11 cfg0.N = outO (gam m c) (bet m c) (Hmat m c) := by
  have hz : (fun a => (win0_11.index tlast) a * main_v4_2.ty.shape.size a) = fun _ => 0 := funext fun a => by fin_cases a <;> decide
  have hr := fun f => Memref.read_access_unit_zero (Elt F) main_v4_2 hz (fun a => by fin_cases a <;> decide) f
  have ho := final_of m c 11 (by decide)
  refine (hr _).symm.trans (ho.trans ?_)
  show (cfg0.win 11).cut _ ((dats m 0 c).after 11 tlast) = _
  rw [after0_11, iblk7_eq, iblk8_eq]
  rfl
theorem final_Os (c : Dev nD) : (dats m 0 c).arrAt 12 cfg0.N = outOs (gam m c) (bet m c) (Hmat m c) := by
  have hz : (fun a => (win0_12.index tlast) a * main_v4_3.ty.shape.size a) = fun _ => 0 := funext fun a => by fin_cases a <;> decide
  have hr := fun f => Memref.read_access_unit_zero (Elt F) main_v4_3 hz (fun a => by fin_cases a <;> decide) f
  have ho := final_of m c 12 (by decide)
  refine (hr _).symm.trans (ho.trans ?_)
  show (cfg0.win 12).cut _ ((dats m 0 c).after 12 tlast) = _
  rw [after0_12, iblk7_eq, iblk8_eq]
  rfl

/-- The run: the four results are the codes and scales of `h` and of the normalised rows, and the arguments end unchanged. -/
theorem run (ρ : Dev nD → PrngReg) : θ_run defs (onTc (τ := τ) (main (F := F))) ⟨m, fun _ => 0, ρ⟩ (fun r => ∀ c : Dev nD,
      r.2.mem ((c.tc : Thread nD τ).loc main_v4_0) = outH (Hmat m c)
      ∧ r.2.mem ((c.tc : Thread nD τ).loc main_v4_1) = outHs (Hmat m c)
      ∧ r.2.mem ((c.tc : Thread nD τ).loc main_v4_2) = outO (gam m c) (bet m c) (Hmat m c)
      ∧ r.2.mem ((c.tc : Thread nD τ).loc main_v4_3) = outOs (gam m c) (bet m c) (Hmat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 9).trans (final_H m c), ((h.1 c).1 10).trans (final_Hs m c), ((h.1 c).1 11).trans (final_O m c),
    ((h.1 c).1 12).trans (final_Os m c), h.2 c⟩) (θ_run_and (run_main m ρ) (unchanged m ρ))
end Arrays

section Ideals
variable (m : (ℓ : Loc nD τ sig) → Buf (Elt Ideal) ℓ)

abbrev resRows (c : Dev nD) : Fin 256 → Fin 5760 → Ideal .f32 :=
  linRes (m ((c : Thread nD τ).loc main_arg0)) (m ((c : Thread nD τ).loc main_arg1)) (m ((c : Thread nD τ).loc main_arg2))
    (shapeCast S1x5760 (m ((c : Thread nD τ).loc main_arg3)) shapeCasts_S5760_S1x5760)
    (shapeCast S1x5760 (m ((c : Thread nD τ).loc main_arg4)) shapeCasts_S5760_S1x5760)
    (m ((c : Thread nD τ).loc main_arg5)) (m ((c : Thread nD τ).loc main_arg6))
/-- The rows of `h`: each entry is that of the whole product. -/
theorem row_Hmat (c : Dev nD) (i : Fin 256) : row (Hmat m c) i = resRows m c i := by
  funext j
  have hj := j.isLt
  have hJ : j.val = 384 * (pt0 (ix2 i j)).val + j.val % 384 := by
    show j.val = 384 * (j.val / 384) + j.val % 384
    omega
  have e : Hmat m c (ix2 i j) = k0_pay2 (k0_pay1 (iblk m c 0 p0)) (iblk m c 2 (pt0 (ix2 i j))) (iblk m c 1 (pt0 (ix2 i j))) (iblk m c 3 (pt0 (ix2 i j)))
      (iblk m c 4 (pt0 (ix2 i j))) (iblk m c 5 (pt0 (ix2 i j))) (iblk m c 6 (pt0 (ix2 i j))) (ix2 i ⟨j.val % 384, Nat.mod_lt _ (by decide)⟩) := rfl
  have ea : k0_pay1 (iblk m c 0 p0) = sitofp (F := Ideal) .bf16 (m ((c : Thread nD τ).loc main_arg0)) := by
    rw [iblk0_eq]
    unfold k0_pay1
    exact shapeCast_self _ _
  rw [ea] at e
  refine e.trans ?_
  unfold k0_pay2
  refine (congrFun (shapeCast_self _ _) _).trans ?_
  refine (congrArg₂ FloatOps.addf (linear_apply _ _ _ _ _ _ _ _ _ _) (congrArg (FloatOps.mulf _) (bcol_apply _ _ _ _))).trans ?_
  unfold resRows linRes lin
  rw [iblk1_eq, iblk3_at m c _ 0 _ j hJ, iblk4_at m c _ 0 _ j hJ, iblk6_eq]
  refine congrArg₂ FloatOps.addf (congrArg (fun w => linAt _ w _ _ _) (funext fun k => ?_)) (congrArg (fun z => FloatOps.mulf (FloatOps.sitofp .f32 z) _) ?_)
  · exact iblk2_at m c _ k _ j hJ
  · exact iblk5_at m c _ i _ j hJ

/-- The normalised rows. -/
abbrev nrmRows (c : Dev nD) (i : Fin 256) : Fin 5760 → Ideal .f32 :=
  nrow (resRows m c i) (fun j => gam m c (ix2 0 j)) (fun j => bet m c (ix2 0 j))
theorem row_nr (c : Dev nD) (i : Fin 256) : nr (Hmat m c) (gam m c) (bet m c) i = nrmRows m c i := by
  unfold nr nrmRows
  rw [row_Hmat]
theorem res_H (c : Dev nD) : outH (Hmat m c) = codes (resRows m c) := codes_ext fun i j => by
  rw [outH_eq, row_Hmat]
theorem res_Hs (c : Dev nD) : outHs (Hmat m c) = scales (resRows m c) := scales_ext fun i u => by
  rw [outHs_eq, row_Hmat]
theorem res_O (c : Dev nD) : outO (gam m c) (bet m c) (Hmat m c) = codes (nrmRows m c) := codes_ext fun i j => by
  rw [outO_eq, row_nr]
theorem res_Os (c : Dev nD) : outOs (gam m c) (bet m c) (Hmat m c) = scales (nrmRows m c) := scales_ext fun i u => by
  rw [outOs_eq, row_nr]
end Ideals

end Cert.SecondIdeal.Gen

end
-- ==== Proof.SecondReferenceRun.lean ====
/-
  The run of the reference of the second feed-forward call: one point, one loop without effects.
-/
module

public import proofs.«01_k».proof.Proof.Gen.SecondReferenceIdeal.Frame
public import proofs.«01_k».proof.Proof.Gen.SecondReferenceIdeal.Loops
public import proofs.«01_k».proof.Proof.Rows
public import Idealize.ShloMosaic.Lib.Claim

@[expose] public section

set_option maxRecDepth 16384

noncomputable section

namespace Cert.SecondReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Rows

variable {F : FTy → Type} [FloatOps F]

local notation "𝕄" => MT nD τ sig Unit (Elt F) ℕ (UR sig nD τ) ℕ

section Newton
variable (arg0 : Memref sig .tc .vmem S256x15360 .i8) (harg0 : arg0.IsWhole) (arg1 : Memref sig .tc .vmem S256x1 .f32) (harg1 : arg1.IsWhole) (arg2 : Memref sig .tc .vmem S15360x5760 .i8) (harg2 : arg2.IsWhole) (arg3 : Memref sig .tc .vmem S1x5760 .f32) (harg3 : arg3.IsWhole) (arg4 : Memref sig .tc .vmem S1x5760 .f32) (harg4 : arg4.IsWhole) (arg5 : Memref sig .tc .vmem S256x5760 .i8) (harg5 : arg5.IsWhole) (arg6 : Memref sig .tc .vmem S256x1 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole) (v44 v46 : FVec F S1x5760 .f32) (v75 : IVec S256x5760 32) (v78 : IVec S256x1 32) (o : BitVec 32)

/-- The standard deviations by 24 Newton steps from the variances. -/
def newton (n : IVec S256x1 32) : IVec S256x1 32 :=
  Scf.fold (fun (_ : Fin k0_t1_loop.trips) r => k0_pay18 r (k0_pay4 n r) (k0_pay5 n r) k0_pay6) k0_pay17

/-- One Newton step returns its value. -/
theorem t1_body_eq (k : Fin k0_t1_loop.trips) (r : IVec S256x1 32) :
    k0_t1_body (F := F) arg0 harg0 arg1 harg1 arg2 harg2 arg3 harg3 arg4 harg4 arg5 harg5 arg6 harg6 arg7 harg7 arg8 harg8 arg9 harg9 arg10 harg10 arg11 harg11 arg12 harg12 v44 v46 v75 v78 o k r
      = .ret (k0_pay18 r (k0_pay4 (k0_pay16 v78 o) r) (k0_pay5 (k0_pay16 v78 o) r) k0_pay6) := by
  unfold k0_t1_body; simp only [k0_part1_eq_skeleton]; unfold k0_part1_skel; rfl

/-- The Newton loop returns the fold of its step. -/
theorem part4_eq :
    k0_part4 (F := F) arg0 harg0 arg1 harg1 arg2 harg2 arg3 harg3 arg4 harg4 arg5 harg5 arg6 harg6 arg7 harg7 arg8 harg8 arg9 harg9 arg10 harg10 arg11 harg11 arg12 harg12 v44 v46 v75 v78 o
      = pure ⟨k0_pay19 v44 v46 v75 (newton (k0_pay16 v78 o)), k0_pay21 v44 v46 v75 (newton (k0_pay16 v78 o)), k0_pay22 v44 v46 v75 (newton (k0_pay16 v78 o))⟩ := by
  rw [k0_part4_eq_skeleton]; unfold k0_part4_skel
  unfold Scf.Loop.for
  rw [Scf.for_pure _ _ _ _ _ _ _ (fun k r => t1_body_eq arg0 harg0 arg1 harg1 arg2 harg2 arg3 harg3 arg4 harg4 arg5 harg5 arg6 harg6 arg7 harg7 arg8 harg8 arg9 harg9 arg10 harg10 arg11 harg11 arg12 harg12 v44 v46 v75 v78 o k r)]
  rfl
end Newton

/-! ## The four results of the nine arrays -/

section Out
variable (x0 : Vec F S256x15360 .i8) (x1 : Vec F S256x1 .f32) (x2 : Vec F S15360x5760 .i8) (x3 : Vec F S1x5760 .f32) (x4 : Vec F S1x5760 .f32) (x5 : Vec F S256x5760 .i8) (x6 : Vec F S256x1 .f32) (x7 : Vec F S1x5760 .f32) (x8 : Vec F S1x5760 .f32)

/-- The clipped quotients of `h`, as floats. -/
abbrev pq : FVec F S256x5760 .f32 := k0_pay9 x0 x2 x1 x3 x4 x5 x6
/-- The standard deviations of the codes. -/
abbrev sd : IVec S256x1 32 := newton (k0_pay16 (k0_pay15 (pq x0 x1 x2 x3 x4 x5 x6) (k0_pay10 (F := F))) 1#32)
def oHc : IVec S256x5760 8 := k0_pay11 (pq x0 x1 x2 x3 x4 x5 x6) (k0_pay10 (F := F))
def oHs : FVec F S256x1 .f32 := k0_pay8 x0 x2 x1 x3 x4 x5 x6
/-- The normalised rows. -/
def oN : FVec F S256x5760 .f32 :=
  k0_pay19 (k0_pay12 x7) (k0_pay13 x8) (k0_pay14 (pq x0 x1 x2 x3 x4 x5 x6) (k0_pay10 (F := F))) (sd x0 x1 x2 x3 x4 x5 x6)
def oOc : IVec S256x5760 8 :=
  k0_pay2 (oN x0 x1 x2 x3 x4 x5 x6 x7 x8) (k0_pay21 (k0_pay12 x7) (k0_pay13 x8) (k0_pay14 (pq x0 x1 x2 x3 x4 x5 x6) (k0_pay10 (F := F))) (sd x0 x1 x2 x3 x4 x5 x6))
    (k0_pay22 (k0_pay12 x7) (k0_pay13 x8) (k0_pay14 (pq x0 x1 x2 x3 x4 x5 x6) (k0_pay10 (F := F))) (sd x0 x1 x2 x3 x4 x5 x6))
def oOs : FVec F S256x1 .f32 :=
  k0_pay1 (k0_pay21 (k0_pay12 x7) (k0_pay13 x8) (k0_pay14 (pq x0 x1 x2 x3 x4 x5 x6) (k0_pay10 (F := F))) (sd x0 x1 x2 x3 x4 x5 x6))
    (k0_pay22 (k0_pay12 x7) (k0_pay13 x8) (k0_pay14 (pq x0 x1 x2 x3 x4 x5 x6) (k0_pay10 (F := F))) (sd x0 x1 x2 x3 x4 x5 x6))
end Out

/-! ## The body -/

set_option maxHeartbeats 2000000 in
/-- The body leaves the inputs and fills the four results. -/
theorem run0 (c : Dev nD) (arg0 : Memref sig .tc .vmem S256x15360 .i8) (harg0 : arg0.IsWhole) (arg1 : Memref sig .tc .vmem S256x1 .f32) (harg1 : arg1.IsWhole) (arg2 : Memref sig .tc .vmem S15360x5760 .i8) (harg2 : arg2.IsWhole) (arg3 : Memref sig .tc .vmem S1x5760 .f32) (harg3 : arg3.IsWhole) (arg4 : Memref sig .tc .vmem S1x5760 .f32) (harg4 : arg4.IsWhole) (arg5 : Memref sig .tc .vmem S256x5760 .i8) (harg5 : arg5.IsWhole) (arg6 : Memref sig .tc .vmem S256x1 .f32) (harg6 : arg6.IsWhole) (arg7 : Memref sig .tc .vmem S1x5760 .f32) (harg7 : arg7.IsWhole) (arg8 : Memref sig .tc .vmem S1x5760 .f32) (harg8 : arg8.IsWhole) (arg9 : Memref sig .tc .vmem S256x5760 .i8) (harg9 : arg9.IsWhole) (arg10 : Memref sig .tc .vmem S256x1 .f32) (harg10 : arg10.IsWhole) (arg11 : Memref sig .tc .vmem S256x5760 .i8) (harg11 : arg11.IsWhole) (arg12 : Memref sig .tc .vmem S256x1 .f32) (harg12 : arg12.IsWhole)
    (x0 : Vec F S256x15360 .i8) (x1 : Vec F S256x1 .f32) (x2 : Vec F S15360x5760 .i8) (x3 : Vec F S1x5760 .f32) (x4 : Vec F S1x5760 .f32) (x5 : Vec F S256x5760 .i8) (x6 : Vec F S256x1 .f32) (x7 : Vec F S1x5760 .f32) (x8 : Vec F S1x5760 .f32)
    (y0 : Vec F S256x5760 .i8) (y1 : Vec F S256x1 .f32) (y2 : Vec F S256x5760 .i8) (y3 : Vec F S256x1 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare y0 ∗ owns (c : Thread nD τ) arg10 fullShare y1 ∗ owns (c : Thread nD τ) arg11 fullShare y2 ∗ owns (c : Thread nD τ) arg12 fullShare y3
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (oHc x0 x1 x2 x3 x4 x5 x6) ∗ owns (c : Thread nD τ) arg10 fullShare (oHs x0 x1 x2 x3 x4 x5 x6) ∗ owns (c : Thread nD τ) arg11 fullShare (oOc x0 x1 x2 x3 x4 x5 x6 x7 x8) ∗ owns (c : Thread nD τ) arg12 fullShare (oOs x0 x1 x2 x3 x4 x5 x6 x7 x8)) -∗ K ⟨⟩))
      ⊢ wp frame (wpE (defs₀ (F := F)) Variants.none c none) E (cc0_body arg0 harg0 arg1 harg1 arg2 harg2 arg3 harg3 arg4 harg4 arg5 harg5 arg6 harg6 arg7 harg7 arg8 harg8 arg9 harg9 arg10 harg10 arg11 harg11 arg12 harg12) K := by
  simp only [cc0_body_eq_skeleton]; unfold cc0_body_skel
  simp only [part4_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%g0, %hg0, G0⟩, ⟨%g1, %hg1, G1⟩, ⟨%g2, %hg2, G2⟩, ⟨%g3, %hg3, G3⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
  sl_exec
  sl_step
  have e0 := (readAt_whole arg0.view (harg0.unread x0) inb_S256x15360_S256x15360_0_0).trans (harg0.read_unread x0)
  have e1 := (readAt_whole arg1.view (harg1.unread x1) inb_S256x1_S256x1_0_0).trans (harg1.read_unread x1)
  have e2 := (readAt_whole arg2.view (harg2.unread x2) inb_S15360x5760_S15360x5760_0_0).trans (harg2.read_unread x2)
  have e3 := (readAt_whole arg3.view (harg3.unread x3) inb_S1x5760_S1x5760_0_0).trans (harg3.read_unread x3)
  have e4 := (readAt_whole arg4.view (harg4.unread x4) inb_S1x5760_S1x5760_0_0).trans (harg4.read_unread x4)
  have e5 := (readAt_whole arg5.view (harg5.unread x5) inb_S256x5760_S256x5760_0_0).trans (harg5.read_unread x5)
  have e6 := (readAt_whole arg6.view (harg6.unread x6) inb_S256x1_S256x1_0_0).trans (harg6.read_unread x6)
  have e7 := (readAt_whole arg7.view (harg7.unread x7) inb_S1x5760_S1x5760_0_0).trans (harg7.read_unread x7)
  have e8 := (readAt_whole arg8.view (harg8.unread x8) inb_S1x5760_S1x5760_0_0).trans (harg8.read_unread x8)
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [G0]
  · iexists _; isplitr; swap; · iexact G0
    ipureintro
    refine (read_writes_whole arg9.view _ inb_S256x5760_S256x5760_0_0 _ []).trans ?_
    have hz := (congr (congr (congr (congr (congr (congr (congrArg (oHc (F := F)) e0) e1) e2) e3) e4) e5) e6); exact hz
  isplitl [G1]
  · iexists _; isplitr; swap; · iexact G1
    ipureintro
    refine (read_writes_whole arg10.view _ inb_S256x1_S256x1_0_0 _ []).trans ?_
    have hz := (congr (congr (congr (congr (congr (congr (congrArg (oHs (F := F)) e0) e1) e2) e3) e4) e5) e6); exact hz
  isplitl [G2]
  · iexists _; isplitr; swap; · iexact G2
    ipureintro
    refine (read_writes_whole arg11.view _ inb_S256x5760_S256x5760_0_0 _ []).trans ?_
    have hz := (congr (congr (congr (congr (congr (congr (congr (congr (congrArg (oOc (F := F)) e0) e1) e2) e3) e4) e5) e6) e7) e8); exact hz
  iexists _; isplitr; swap; · iexact G3
  ipureintro
  refine (read_writes_whole arg12.view _ inb_S256x1_S256x1_0_0 _ []).trans ?_
  have hz := (congr (congr (congr (congr (congr (congr (congr (congr (congrArg (oOs (F := F)) e0) e1) e2) e3) e4) e5) e6) e7) e8); exact hz

variable (m : (ℓ : Loc nD τ sig) → Buf (Elt F) ℓ) (ρ : Dev nD → PrngReg)

/-! ## The proof data, the launch, the frame -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => oHc (iblk m c 0 t) (iblk m c 1 t) (iblk m c 2 t) (iblk m c 3 t) (iblk m c 4 t) (iblk m c 5 t) (iblk m c 6 t)
    | ⟨10, _⟩ => oHs (iblk m c 0 t) (iblk m c 1 t) (iblk m c 2 t) (iblk m c 3 t) (iblk m c 4 t) (iblk m c 5 t) (iblk m c 6 t)
    | ⟨11, _⟩ => oOc (iblk m c 0 t) (iblk m c 1 t) (iblk m c 2 t) (iblk m c 3 t) (iblk m c 4 t) (iblk m c 5 t) (iblk m c 6 t) (iblk m c 7 t) (iblk m c 8 t)
    | ⟨12, _⟩ => oOs (iblk m c 0 t) (iblk m c 1 t) (iblk m c 2 t) (iblk m c 3 t) (iblk m c 4 t) (iblk m c 5 t) (iblk m c 6 t) (iblk m c 7 t) (iblk m c 8 t)
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = oHc (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = oHs (iblk m c 0 t) (iblk m c 1 t) (iblk m c 2 t) (iblk m c 3 t) (iblk m c 4 t) (iblk m c 5 t) (iblk m c 6 t) := by dsimp only [dats]
theorem after0_11 (c : Dev nD) (t : Fin cfg0.N) : (dats m 0 c).after 11 t = oOc (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = oOs (iblk m c 0 t) (iblk m c 1 t) (iblk m c 2 t) (iblk m c 3 t) (iblk m c 4 t) (iblk m c 5 t) (iblk m c 6 t) (iblk m c 7 t) (iblk m c 8 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run0 c _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.SecondReferenceIdeal.Gen

end
-- ==== Proof.SecondReferenceValue.lean ====
/-
  What the second reference leaves in its four results, at the ideal values: the codes and the scales of the rows of `h` and of the
  normalised rows.
-/
module

public import proofs.«01_k».proof.Proof.SecondReferenceRun
public import proofs.«01_k».proof.Proof.Norm
public import Idealize.ShloMosaic.Lib.Claim

@[expose] public section

set_option maxRecDepth 16384

noncomputable section

namespace Cert.SecondReferenceIdeal.Gen

open Idealize.ShloMosaic Idealize.ShloMosaic.TcCoe
open Idealize.SL.Sem
open Idealize.ShloMosaic.Pipeline (Dat Cfg Window cellOf)
open Idealize.ShloMosaic.ValueIdx
open Cert.Proof.Quant Cert.Proof.Norm

section Arrays
variable {F : FTy → Type} [FloatOps F] (m : (ℓ : Loc nD τ sig) → Buf (Elt F) ℓ)

theorem V_main_v0 (c : Dev nD) : V m c main_v0 = shapeCast S1x5760 (m ((c : Thread nD τ).loc main_arg3)) shapeCasts_S5760_S1x5760 := by
  show StableHlo.after hostOps0 _ (Proc.devRef .tc main_v0) = _
  after_results
  rfl
theorem V_main_v1 (c : Dev nD) : V m c main_v1 = shapeCast S1x5760 (m ((c : Thread nD τ).loc main_arg4)) shapeCasts_S5760_S1x5760 := by
  show StableHlo.after hostOps0 _ (Proc.devRef .tc main_v1) = _
  after_results
  rfl
theorem V_main_v2 (c : Dev nD) : V m c main_v2 = shapeCast S1x5760 (m ((c : Thread nD τ).loc main_arg7)) shapeCasts_S5760_S1x5760 := by
  show StableHlo.after hostOps0 _ (Proc.devRef .tc main_v2) = _
  after_results
  rfl
theorem V_main_v3 (c : Dev nD) : V m c main_v3 = shapeCast S1x5760 (m ((c : Thread nD τ).loc main_arg8)) shapeCasts_S5760_S1x5760 := by
  show StableHlo.after hostOps0 _ (Proc.devRef .tc main_v3) = _
  after_results
  rfl

/-- The one grid point. -/
def tonly : Fin cfg0.N := ⟨0, by decide⟩

/-! The blocks: whole arrays. -/

abbrev x0 (c : Dev nD) : Vec F S256x15360 .i8 := (m ((c : Thread nD τ).loc main_arg0))
theorem iblk0_eq (c : Dev nD) : iblk m c 0 tonly = x0 m c := by
  have hz : (fun a => (win0_0.index tonly) a * main_arg0.ty.shape.size a) = fun _ => 0 := funext fun a => by fin_cases a <;> decide
  rw [x0, ← V_main_arg0 m c]
  exact Memref.read_access_unit_zero (Elt F) main_arg0 hz (fun a => by fin_cases a <;> decide) _
abbrev x1 (c : Dev nD) : Vec F S256x1 .f32 := (m ((c : Thread nD τ).loc main_arg1))
theorem iblk1_eq (c : Dev nD) : iblk m c 1 tonly = x1 m c := by
  have hz : (fun a => (win0_1.index tonly) a * main_arg1.ty.shape.size a) = fun _ => 0 := funext fun a => by fin_cases a <;> decide
  rw [x1, ← V_main_arg1 m c]
  exact Memref.read_access_unit_zero (Elt F) main_arg1 hz (fun a => by fin_cases a <;> decide) _
abbrev x2 (c : Dev nD) : Vec F S15360x5760 .i8 := (m ((c : Thread nD τ).loc main_arg2))
theorem iblk2_eq (c : Dev nD) : iblk m c 2 tonly = x2 m c := by
  have hz : (fun a => (win0_2.index tonly) a * main_arg2.ty.shape.size a) = fun _ => 0 := funext fun a => by fin_cases a <;> decide
  rw [x2, ← V_main_arg2 m c]
  exact Memref.read_access_unit_zero (Elt F) main_arg2 hz (fun a => by fin_cases a <;> decide) _
abbrev x3 (c : Dev nD) : Vec F S1x5760 .f32 := (shapeCast S1x5760 (m ((c : Thread nD τ).loc main_arg3)) shapeCasts_S5760_S1x5760)
theorem iblk3_eq (c : Dev nD) : iblk m c 3 tonly = x3 m c := by
  have hz : (fun a => (win0_3.index tonly) a * main_v0.ty.shape.size a) = fun _ => 0 := funext fun a => by fin_cases a <;> decide
  rw [x3, ← V_main_v0 m c]
  exact Memref.read_access_unit_zero (Elt F) main_v0 hz (fun a => by fin_cases a <;> decide) _
abbrev x4 (c : Dev nD) : Vec F S1x5760 .f32 := (shapeCast S1x5760 (m ((c : Thread nD τ).loc main_arg4)) shapeCasts_S5760_S1x5760)
theorem iblk4_eq (c : Dev nD) : iblk m c 4 tonly = x4 m c := by
  have hz : (fun a => (win0_4.index tonly) a * main_v1.ty.shape.size a) = fun _ => 0 := funext fun a => by fin_cases a <;> decide
  rw [x4, ← V_main_v1 m c]
  exact Memref.read_access_unit_zero (Elt F) main_v1 hz (fun a => by fin_cases a <;> decide) _
abbrev x5 (c : Dev nD) : Vec F S256x5760 .i8 := (m ((c : Thread nD τ).loc main_arg5))
theorem iblk5_eq (c : Dev nD) : iblk m c 5 tonly = x5 m c := by
  have hz : (fun a => (win0_5.index tonly) a * main_arg5.ty.shape.size a) = fun _ => 0 := funext fun a => by fin_cases a <;> decide
  rw [x5, ← V_main_arg5 m c]
  exact Memref.read_access_unit_zero (Elt F) main_arg5 hz (fun a => by fin_cases a <;> decide) _
abbrev x6 (c : Dev nD) : Vec F S256x1 .f32 := (m ((c : Thread nD τ).loc main_arg6))
theorem iblk6_eq (c : Dev nD) : iblk m c 6 tonly = x6 m c := by
  have hz : (fun a => (win0_6.index tonly) a * main_arg6.ty.shape.size a) = fun _ => 0 := funext fun a => by fin_cases a <;> decide
  rw [x6, ← V_main_arg6 m c]
  exact Memref.read_access_unit_zero (Elt F) main_arg6 hz (fun a => by fin_cases a <;> decide) _
abbrev x7 (c : Dev nD) : Vec F S1x5760 .f32 := (shapeCast S1x5760 (m ((c : Thread nD τ).loc main_arg7)) shapeCasts_S5760_S1x5760)
theorem iblk7_eq (c : Dev nD) : iblk m c 7 tonly = x7 m c := by
  have hz : (fun a => (win0_7.index tonly) a * main_v2.ty.shape.size a) = fun _ => 0 := funext fun a => by fin_cases a <;> decide
  rw [x7, ← V_main_v2 m c]
  exact Memref.read_access_unit_zero (Elt F) main_v2 hz (fun a => by fin_cases a <;> decide) _
abbrev x8 (c : Dev nD) : Vec F S1x5760 .f32 := (shapeCast S1x5760 (m ((c : Thread nD τ).loc main_arg8)) shapeCasts_S5760_S1x5760)
theorem iblk8_eq (c : Dev nD) : iblk m c 8 tonly = x8 m c := by
  have hz : (fun a => (win0_8.index tonly) a * main_v3.ty.shape.size a) = fun _ => 0 := funext fun a => by fin_cases a <;> decide
  rw [x8, ← V_main_v3 m c]
  exact Memref.read_access_unit_zero (Elt F) main_v3 hz (fun a => by fin_cases a <;> decide) _

theorem final_of (c : Dev nD) (w : Fin cfg0.W) (hf : (cfg0.win w).flush tonly = true) :
    ((cfg0.win w).blk tonly).view.read (Elt F) ((dats m 0 c).arrAt w cfg0.N) = (dats m 0 c).flushed w tonly := by
  rw [show cfg0.N = tonly.val + 1 from rfl, (dats m 0 c).arrAt_succ w tonly, if_pos hf]
  exact View.read_write_univ _ _

/-! The results as the body's values. -/

theorem final_H (c : Dev nD) : (dats m 0 c).arrAt 9 cfg0.N = oHc (x0 m c) (x1 m c) (x2 m c) (x3 m c) (x4 m c) (x5 m c) (x6 m c) := by
  have hz : (fun a => (win0_9.index tonly) a * main_v4_0.ty.shape.size a) = fun _ => 0 := funext fun a => by fin_cases a <;> decide
  have hr := fun f => Memref.read_access_unit_zero (Elt F) main_v4_0 hz (fun a => by fin_cases a <;> decide) f
  refine (hr _).symm.trans ((final_of m c 9 (by decide)).trans ?_)
  show (cfg0.win 9).cut _ ((dats m 0 c).after 9 tonly) = _
  have e : (dats m 0 c).after 9 tonly = oHc (iblk m c 0 tonly) (iblk m c 1 tonly) (iblk m c 2 tonly) (iblk m c 3 tonly) (iblk m c 4 tonly) (iblk m c 5 tonly) (iblk m c 6 tonly) := rfl
  rw [e, iblk0_eq, iblk1_eq, iblk2_eq, iblk3_eq, iblk4_eq, iblk5_eq, iblk6_eq]
  rfl
theorem final_Hs (c : Dev nD) : (dats m 0 c).arrAt 10 cfg0.N = oHs (x0 m c) (x1 m c) (x2 m c) (x3 m c) (x4 m c) (x5 m c) (x6 m c) := by
  have hz : (fun a => (win0_10.index tonly) a * main_v4_1.ty.shape.size a) = fun _ => 0 := funext fun a => by fin_cases a <;> decide
  have hr := fun f => Memref.read_access_unit_zero (Elt F) main_v4_1 hz (fun a => by fin_cases a <;> decide) f
  refine (hr _).symm.trans ((final_of m c 10 (by decide)).trans ?_)
  show (cfg0.win 10).cut _ ((dats m 0 c).after 10 tonly) = _
  have e : (dats m 0 c).after 10 tonly = oHs (iblk m c 0 tonly) (iblk m c 1 tonly) (iblk m c 2 tonly) (iblk m c 3 tonly) (iblk m c 4 tonly) (iblk m c 5 tonly) (iblk m c 6 tonly) := rfl
  rw [e, iblk0_eq, iblk1_eq, iblk2_eq, iblk3_eq, iblk4_eq, iblk5_eq, iblk6_eq]
  rfl
theorem final_O (c : Dev nD) : (dats m 0 c).arrAt 11 cfg0.N = oOc (x0 m c) (x1 m c) (x2 m c) (x3 m c) (x4 m c) (x5 m c) (x6 m c) (x7 m c) (x8 m c) := by
  have hz : (fun a => (win0_11.index tonly) a * main_v4_2.ty.shape.size a) = fun _ => 0 := funext fun a => by fin_cases a <;> decide
  have hr := fun f => Memref.read_access_unit_zero (Elt F) main_v4_2 hz (fun a => by fin_cases a <;> decide) f
  refine (hr _).symm.trans ((final_of m c 11 (by decide)).trans ?_)
  show (cfg0.win 11).cut _ ((dats m 0 c).after 11 tonly) = _
  have e : (dats m 0 c).after 11 tonly = oOc (iblk m c 0 tonly) (iblk m c 1 tonly) (iblk m c 2 tonly) (iblk m c 3 tonly) (iblk m c 4 tonly) (iblk m c 5 tonly) (iblk m c 6 tonly) (iblk m c 7 tonly) (iblk m c 8 tonly) := rfl
  rw [e, iblk0_eq, iblk1_eq, iblk2_eq, iblk3_eq, iblk4_eq, iblk5_eq, iblk6_eq, iblk7_eq, iblk8_eq]
  rfl
theorem final_Os (c : Dev nD) : (dats m 0 c).arrAt 12 cfg0.N = oOs (x0 m c) (x1 m c) (x2 m c) (x3 m c) (x4 m c) (x5 m c) (x6 m c) (x7 m c) (x8 m c) := by
  have hz : (fun a => (win0_12.index tonly) a * main_v4_3.ty.shape.size a) = fun _ => 0 := funext fun a => by fin_cases a <;> decide
  have hr := fun f => Memref.read_access_unit_zero (Elt F) main_v4_3 hz (fun a => by fin_cases a <;> decide) f
  refine (hr _).symm.trans ((final_of m c 12 (by decide)).trans ?_)
  show (cfg0.win 12).cut _ ((dats m 0 c).after 12 tonly) = _
  have e : (dats m 0 c).after 12 tonly = oOs (iblk m c 0 tonly) (iblk m c 1 tonly) (iblk m c 2 tonly) (iblk m c 3 tonly) (iblk m c 4 tonly) (iblk m c 5 tonly) (iblk m c 6 tonly) (iblk m c 7 tonly) (iblk m c 8 tonly) := rfl
  rw [e, iblk0_eq, iblk1_eq, iblk2_eq, iblk3_eq, iblk4_eq, iblk5_eq, iblk6_eq, iblk7_eq, iblk8_eq]
  rfl
end Arrays

/-! One entry of the body's values from the entries they are computed from, at any float interpretation. -/

section Entries
variable {F : FTy → Type} [FloatOps F] (i : Fin 256) (u : Fin 1) (j : Fin 5760)

/-- A Newton step of the column is that of its entry. -/
theorem pay3_at (n r : IVec S256x1 32) (x : S256x1.Idx) : k0_pay3 n r x = IntOp.addi (r x) (fdiv (n x) (r x)) := rfl
theorem pay4_at (n r : IVec S256x1 32) (x : S256x1.Idx) : k0_pay4 n r x = IntOp.divsi .vector (k0_pay3 n r x) 2#32 := rfl
theorem pay5_at (n r : IVec S256x1 32) (x : S256x1.Idx) : k0_pay5 n r x
    = IntOp.andi (IntOp.cmpi .ne (sgn (k0_pay3 n r x)) (sgn 2#32)) (IntOp.cmpi .ne (IntOp.remsi .vector (k0_pay3 n r x) 2#32) 0#32) := rfl
theorem pay18_at (r a : IVec S256x1 32) (b : IVec S256x1 1) (x : S256x1.Idx) :
    k0_pay18 r a b k0_pay6 x = IntOp.minsi (r x) (Scalar.select (b x) (IntOp.subi (a x) 1#32) (a x)) := rfl
theorem step_at (n r : IVec S256x1 32) (x : S256x1.Idx) : k0_pay18 r (k0_pay4 n r) (k0_pay5 n r) k0_pay6 x = nstep (n x) (r x) := by
  rw [pay18_at, pay4_at, pay5_at, pay3_at]
  rfl
theorem pay17_at (x : S256x1.Idx) : k0_pay17 x = 65536#32 := rfl
theorem trips1 : k0_t1_loop.trips = 24 := by decide +kernel
theorem newton_at (n : IVec S256x1 32) (x : S256x1.Idx) : newton n x = nsd 24 (n x) := by
  unfold newton
  rw [← trips1]
  exact fold_apply (fun r => k0_pay18 r (k0_pay4 n r) (k0_pay5 n r) k0_pay6) k0_pay17 x (n x) (fun r => step_at _ _ x) (pay17_at x)
variable (p : FVec F S256x5760 .f32)
/-- The codes in 32 bits. -/
abbrev wide : IVec S256x5760 32 := extsi 32 (k0_pay11 p (k0_pay10 (F := F))) natLt_8_32
theorem wide_at (x : S256x5760.Idx) : wide p x = BitVec.signExtend 32 (FloatOps.fptosi 8 (FloatOps.minimumf (Scalar.sitofp .f32 127#32) (p x))) := rfl
theorem total_at : shapeCast S256x1 (multiReductionI .add [1] S256 (wide p) 0#32 reduces_S256x5760_S256 rfl) shapeCasts_S256_S256x1 (ix2 i u) = ∑ j, wide p (ix2 i j) :=
  isum_apply (wide p) reduces_S256x5760_S256 rfl shapeCasts_S256_S256x1 i u
theorem pay14_at : k0_pay14 p (k0_pay10 (F := F)) (ix2 i j) = ctr (row (wide p) i) j := by
  have e : ∀ T : IVec S256x1 32, T (ix2 i 0) = (∑ j, wide p (ix2 i j)) →
      subi (wide p) (broadcastTo S256x5760 (fun x => fdiv (T x) 5760#32) broadcasts_S256x1_S256x5760) (ix2 i j) = ctr (row (wide p) i) j := fun T hT => by
    refine (congrArg (IntOp.subi _) (bcol_apply _ broadcasts_S256x1_S256x5760 i j)).trans ?_
    show IntOp.subi _ (fdiv (T (ix2 i 0)) 5760#32) = _
    rw [hT]
    rfl
  unfold k0_pay14
  exact e _ (total_at i 0 p)
theorem pay15_at : k0_pay15 p (k0_pay10 (F := F)) (ix2 i u) = ∑ j, IntOp.muli (ctr (row (wide p) i) j) (ctr (row (wide p) i) j) := by
  unfold k0_pay15
  refine (isum_apply (muli (k0_pay14 p (k0_pay10 (F := F))) (k0_pay14 p (k0_pay10 (F := F)))) reduces_S256x5760_S256 rfl shapeCasts_S256_S256x1 i u).trans
    (Finset.sum_congr rfl fun k _ => ?_)
  show IntOp.muli (k0_pay14 p (k0_pay10 (F := F)) (ix2 i k)) (k0_pay14 p (k0_pay10 (F := F)) (ix2 i k)) = _
  rw [pay14_at]
theorem pay16_at (n : IVec S256x1 32) (x : S256x1.Idx) : k0_pay16 n 1#32 x = IntOp.maxsi (n x) 1#32 := rfl
variable (g o : FVec F S1x5760 .f32)
theorem pay12_eq : k0_pay12 g = g := shapeCast_self _ _
theorem pay13_eq : k0_pay13 g = g := shapeCast_self _ _
theorem pay19_at (y : IVec S256x5760 32) (r : IVec S256x1 32) :
    k0_pay19 g o y r (ix2 i j) = nval (y (ix2 i j)) (fdiv 1048576#32 (r (ix2 i 0))) (g (ix2 0 j)) (o (ix2 0 j)) := by
  have e : ∀ f : IVec S256x1 32, f (ix2 i 0) = fdiv 1048576#32 (r (ix2 i 0)) →
      addf (mulf (mulf (sitofp .f32 (muli y (broadcastTo S256x5760 f broadcasts_S256x1_S256x5760))) (broadcast S256x5760 (Scalar.ofBits .f32 0x3897CA11#32)))
        (broadcastTo S256x5760 g broadcasts_S1x5760_S256x5760)) (broadcastTo S256x5760 o broadcasts_S1x5760_S256x5760) (ix2 i j)
      = nval (y (ix2 i j)) (fdiv 1048576#32 (r (ix2 i 0))) (g (ix2 0 j)) (o (ix2 0 j)) := fun f hf => by
    have e1 := brow_apply g broadcasts_S1x5760_S256x5760 i j
    have e2 := brow_apply o broadcasts_S1x5760_S256x5760 i j
    have e3 := (bcol_apply f broadcasts_S256x1_S256x5760 i j).trans hf
    exact congrArg₂ FloatOps.addf (congrArg₂ FloatOps.mulf (congrArg (fun z => FloatOps.mulf (FloatOps.sitofp .f32 (IntOp.muli _ z)) _) e3) e1) e2
  unfold k0_pay19
  exact e _ rfl
end Entries

section Ideals
variable (a0 : Vec Ideal S256x15360 .i8) (a1 : Vec Ideal S256x1 .f32) (a2 : Vec Ideal S15360x5760 .i8) (a3 a4 : Vec Ideal S1x5760 .f32)
  (a5 : Vec Ideal S256x5760 .i8) (a6 : Vec Ideal S256x1 .f32) (a7 a8 : Vec Ideal S1x5760 .f32) (i : Fin 256) (u : Fin 1) (j : Fin 5760)

/-- The rows of `h`, and the normalised rows. -/
abbrev hr : Fin 256 → Fin 5760 → Ideal .f32 := linRes a0 a1 a2 a3 a4 a5 a6
abbrev nr : Fin 256 → Fin 5760 → Ideal .f32 := fun i => nrow (hr a0 a1 a2 a3 a4 a5 a6 i) (fun j => a7 (ix2 0 j)) (fun j => a8 (ix2 0 j))
theorem pay7_eq : k0_pay7 a0 a2 a1 a3 a4 a5 a6 (ix2 i j) = hr a0 a1 a2 a3 a4 a5 a6 i j := by
  unfold k0_pay7
  exact congrArg₂ FloatOps.addf (linear_apply _ _ _ _ _ _ _ _ _ _) (congrArg (FloatOps.mulf _) (bcol_apply _ _ _ _))
theorem row_pay7 : row (k0_pay7 a0 a2 a1 a3 a4 a5 a6) i = hr a0 a1 a2 a3 a4 a5 a6 i := row_ext fun j => pay7_eq a0 a1 a2 a3 a4 a5 a6 i j
theorem pay8_eq : k0_pay8 a0 a2 a1 a3 a4 a5 a6 (ix2 i u) = qscale (hr a0 a1 a2 a3 a4 a5 a6 i) := by
  unfold k0_pay8
  refine (scale_apply (k0_pay7 a0 a2 a1 a3 a4 a5 a6) _ _ _ _ i u).trans ?_
  rw [row_pay7]
theorem clip_eq : FloatOps.minimumf (Scalar.sitofp .f32 127#32) (pq a0 a1 a2 a3 a4 a5 a6 (ix2 i j))
    = qcode (qscale (hr a0 a1 a2 a3 a4 a5 a6 i)) (hr a0 a1 a2 a3 a4 a5 a6 i j) := by
  unfold pq k0_pay9
  refine (code_apply (k0_pay7 a0 a2 a1 a3 a4 a5 a6) (k0_pay8 a0 a2 a1 a3 a4 a5 a6) broadcasts_S256x1_S256x5760 i j).trans ?_
  rw [pay8_eq, pay7_eq]
theorem oHs_eq : oHs a0 a1 a2 a3 a4 a5 a6 (ix2 i u) = qscale (hr a0 a1 a2 a3 a4 a5 a6 i) := pay8_eq a0 a1 a2 a3 a4 a5 a6 i u
theorem oHc_eq : oHc a0 a1 a2 a3 a4 a5 a6 (ix2 i j) = FloatOps.fptosi 8 (qcode (qscale (hr a0 a1 a2 a3 a4 a5 a6 i)) (hr a0 a1 a2 a3 a4 a5 a6 i j)) :=
  congrArg (FloatOps.fptosi 8) (clip_eq a0 a1 a2 a3 a4 a5 a6 i j)
theorem row_wide : row (wide (pq a0 a1 a2 a3 a4 a5 a6)) i = icodes (hr a0 a1 a2 a3 a4 a5 a6 i) := row_ext fun j => by
  rw [wide_at, clip_eq, extsi_qcode, icodes]
theorem sd_eq : sd a0 a1 a2 a3 a4 a5 a6 (ix2 i u) = nsd 24 (vr (icodes (hr a0 a1 a2 a3 a4 a5 a6 i))) := by
  unfold sd
  rw [newton_at, pay16_at, pay15_at, row_wide, vr]
theorem oN_eq : oN a0 a1 a2 a3 a4 a5 a6 a7 a8 (ix2 i j) = nr a0 a1 a2 a3 a4 a5 a6 a7 a8 i j := by
  unfold oN
  rw [pay12_eq, pay13_eq, pay19_at, pay14_at, row_wide, sd_eq]
  rfl
theorem row_oN : row (oN a0 a1 a2 a3 a4 a5 a6 a7 a8) i = nr a0 a1 a2 a3 a4 a5 a6 a7 a8 i := row_ext fun j => oN_eq a0 a1 a2 a3 a4 a5 a6 a7 a8 i j
theorem oOs_eq : oOs a0 a1 a2 a3 a4 a5 a6 a7 a8 (ix2 i u) = qscale (nr a0 a1 a2 a3 a4 a5 a6 a7 a8 i) := by
  unfold oOs k0_pay1 k0_pay21 k0_pay22 k0_pay20
  refine (scale_apply (oN a0 a1 a2 a3 a4 a5 a6 a7 a8) _ _ _ _ i u).trans ?_
  rw [row_oN]
theorem oOc_eq : oOc a0 a1 a2 a3 a4 a5 a6 a7 a8 (ix2 i j)
    = FloatOps.fptosi 8 (qcode (qscale (nr a0 a1 a2 a3 a4 a5 a6 a7 a8 i)) (nr a0 a1 a2 a3 a4 a5 a6 a7 a8 i j)) := by
  unfold oOc k0_pay2
  refine congrArg (FloatOps.fptosi 8) ((code_apply (oN a0 a1 a2 a3 a4 a5 a6 a7 a8) (oOs a0 a1 a2 a3 a4 a5 a6 a7 a8) _ i j).trans ?_)
  rw [oOs_eq, oN_eq]
end Ideals

section Results
variable (m : (ℓ : Loc nD τ sig) → Buf (Elt Ideal) ℓ)

/-- The rows of `h`, and the normalised rows. -/
abbrev resRows (c : Dev nD) : Fin 256 → Fin 5760 → Ideal .f32 := hr (x0 m c) (x1 m c) (x2 m c) (x3 m c) (x4 m c) (x5 m c) (x6 m c)
abbrev nrmRows (c : Dev nD) : Fin 256 → Fin 5760 → Ideal .f32 := nr (x0 m c) (x1 m c) (x2 m c) (x3 m c) (x4 m c) (x5 m c) (x6 m c) (x7 m c) (x8 m c)
theorem res_H (c : Dev nD) : (dats m 0 c).arrAt 9 cfg0.N = codes (resRows m c) :=
  (final_H m c).trans (codes_ext fun i j => oHc_eq _ _ _ _ _ _ _ i j)
theorem res_Hs (c : Dev nD) : (dats m 0 c).arrAt 10 cfg0.N = scales (resRows m c) :=
  (final_Hs m c).trans (scales_ext fun i u => oHs_eq _ _ _ _ _ _ _ i u)
theorem res_O (c : Dev nD) : (dats m 0 c).arrAt 11 cfg0.N = codes (nrmRows m c) :=
  (final_O m c).trans (codes_ext fun i j => oOc_eq _ _ _ _ _ _ _ _ _ i j)
theorem res_Os (c : Dev nD) : (dats m 0 c).arrAt 12 cfg0.N = scales (nrmRows m c) :=
  (final_Os m c).trans (scales_ext fun i u => oOs_eq _ _ _ _ _ _ _ _ _ i u)

/-- The run: the four results, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v4_0) = codes (resRows m c)
      ∧ r.2.mem ((c.tc : Thread nD τ).loc main_v4_1) = scales (resRows m c)
      ∧ r.2.mem ((c.tc : Thread nD τ).loc main_v4_2) = codes (nrmRows m c)
      ∧ r.2.mem ((c.tc : Thread nD τ).loc main_v4_3) = scales (nrmRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨((h.1 c).1 9).trans (res_H m c), ((h.1 c).1 10).trans (res_Hs m c), ((h.1 c).1 11).trans (res_O m c),
    ((h.1 c).1 12).trans (res_Os m c), h.2 c⟩) (θ_run_and (run_main m ρ) (unchanged m ρ))
end Results

end Cert.SecondReferenceIdeal.Gen

end
-- ==== Proof.ThirdIdealValue.lean ====
/-
  What the output projection kernel leaves in its six results, at the ideal values: the codes and the scales of the rows of its
  first input, of the rows of `h`, and of the normalised rows.
-/
module

public import proofs.«01_k».proof.Proof.ThirdIdealRun
public import proofs.«01_k».proof.Proof.Norm
public import Idealize.ShloMosaic.Lib.Claim

@[expose] public section

set_option maxRecDepth 16640

noncomputable section

namespace Cert.ThirdIdeal.Gen

open Idealize.ShloMosaic Idealize.ShloMosaic.TcCoe
open Idealize.SL.Sem
open Idealize.ShloMosaic.Pipeline (Dat Cfg Window cellOf)
open Idealize.ShloMosaic.ValueIdx
open Cert.Proof.Rows Cert.Proof.Quant Cert.Proof.Norm

/-! One entry of the body's values from the entries they are computed from, at any float interpretation. -/

section Entries
variable {F : FTy → Type} [FloatOps F] (i : Fin 32) (u : Fin 1) (j : Fin 5760)

/-- A Newton step of the block is that of its entry. -/
theorem pay9_at (n r : IVec S32x1 32) (x : S32x1.Idx) : k0_pay9 n r x = IntOp.addi (r x) (fdiv (n x) (r x)) := rfl
theorem pay10_at (n r : IVec S32x1 32) (x : S32x1.Idx) : k0_pay10 n r x = IntOp.divsi .vector (k0_pay9 n r x) 2#32 := rfl
theorem pay11_at (n r : IVec S32x1 32) (x : S32x1.Idx) : k0_pay11 n r x
    = IntOp.andi (IntOp.cmpi .ne (sgn (k0_pay9 n r x)) (sgn 2#32)) (IntOp.cmpi .ne (IntOp.remsi .vector (k0_pay9 n r x) 2#32) 0#32) := rfl
theorem pay22_at (r a : IVec S32x1 32) (b : IVec S32x1 1) (x : S32x1.Idx) :
    k0_pay22 r a b k0_pay12 x = IntOp.minsi (r x) (Scalar.select (b x) (IntOp.subi (a x) 1#32) (a x)) := rfl
theorem step_at (n r : IVec S32x1 32) (x : S32x1.Idx) : k0_pay22 r (k0_pay10 n r) (k0_pay11 n r) k0_pay12 x = nstep (n x) (r x) := by
  rw [pay22_at, pay10_at, pay11_at, pay9_at]
  rfl
theorem pay21_at (x : S32x1.Idx) : k0_pay21 x = 65536#32 := rfl
theorem pay23_at (r : IVec S32x1 32) (x : S32x1.Idx) : k0_pay23 r x = IntOp.divsi .vector 1048576#32 (r x) := rfl
theorem pay24_at (r : IVec S32x1 32) (x : S32x1.Idx) : k0_pay24 r x
    = IntOp.andi (IntOp.cmpi .ne (sgn 1048576#32) (sgn (r x))) (IntOp.cmpi .ne (IntOp.remsi .vector 1048576#32 (r x)) 0#32) := rfl
theorem trips3 : k0_t3_loop.trips = 24 := by decide +kernel
variable (b : FVec F S32x5760 .f32)
theorem r32_at (x : S32x1.Idx) : r32 b x = nsd 24 (n32 b x) := by
  unfold r32
  rw [← trips3]
  exact fold_apply (fun r => k0_pay22 r (k0_pay10 (n32 b) r) (k0_pay11 (n32 b) r) k0_pay12) k0_pay21 x (n32 b x) (fun r => step_at _ _ x) (pay21_at x)
theorem pay15_at (x : S32x5760.Idx) : k0_pay15 b x = FloatOps.fptosi 8 (k0_pay14 b x) := rfl
theorem pay17_at (x : S32x1.Idx) : k0_pay17 b x = IntOp.divsi .vector (k0_pay16 b x) 5760#32 := rfl
theorem pay18_at (x : S32x1.Idx) : k0_pay18 b x = sgn (k0_pay16 b x) := rfl
theorem y32_at : y32 b (ix2 i j) = FloatOps.subf (k0_pay14 b (ix2 i j)) (FloatOps.sitofp .f32 (fdiv (k0_pay16 b (ix2 i 0)) 5760#32)) := by
  unfold y32 k0_pay19
  exact congrArg (FloatOps.subf _) (bcol_apply _ broadcasts_S32x1_S32x5760 i j)
theorem n32_at : n32 b (ix2 i u) = IntOp.maxsi (∑ j, FloatOps.fptosi 32 (FloatOps.mulf (y32 b (ix2 i j)) (y32 b (ix2 i j)))) 1#32 := by
  unfold n32 k0_pay20
  exact congrArg (IntOp.maxsi · 1#32) (isum_apply (fptosi 32 (mulf (y32 b) (y32 b))) reduces_S32x5760_S32 rfl shapeCasts_S32_S32x1 i u)
variable (g o : FVec F S1x5760 .f32)
theorem pay6_at (y : FVec F S32x5760 .f32) (q : IVec S32x1 32) (w : IVec S32x1 1) :
    k0_pay6 g o y q w 1#32 (ix2 i j)
      = nval (FloatOps.fptosi 32 (y (ix2 i j))) (Scalar.select (w (ix2 i 0)) (IntOp.subi (q (ix2 i 0)) 1#32) (q (ix2 i 0))) (g (ix2 0 j)) (o (ix2 0 j)) := by
  unfold k0_pay6
  rw [shapeCast_self, shapeCast_self]
  have e1 := brow_apply g broadcasts_S1x5760_S32x5760 i j
  have e2 := brow_apply o broadcasts_S1x5760_S32x5760 i j
  have e3 := bcol_apply (select w (subi q (broadcast S32x1 1#32)) q) broadcasts_S32x1_S32x5760 i j
  exact congrArg₂ FloatOps.addf (congrArg₂ FloatOps.mulf (congrArg (fun z => FloatOps.mulf (FloatOps.sitofp .f32 (IntOp.muli _ z)) _) e3) e1) e2
end Entries

/-! The same at the ideal values, in terms of the row alone. -/

section Payloads
variable (b : Vec Ideal S32x5760 .f32) (g o : Vec Ideal S1x5760 .f32) (i : Fin 32) (u : Fin 1) (j : Fin 5760)

theorem pay13_eq : k0_pay13 b (ix2 i u) = qscale (row b i) := by
  unfold k0_pay13
  exact scale_apply b _ _ _ _ i u
theorem pay14_eq : k0_pay14 b (ix2 i j) = qcode (qscale (row b i)) (row b i j) := by
  unfold k0_pay14
  refine (code_apply b (k0_pay13 b) _ i j).trans ?_
  rw [pay13_eq, row]
theorem pay15_eq : k0_pay15 b (ix2 i j) = FloatOps.fptosi 8 (qcode (qscale (row b i)) (row b i j)) := by
  rw [pay15_at, pay14_eq]
theorem pay16_eq : k0_pay16 b (ix2 i u) = ∑ j, icodes (row b i) j := by
  have e := fsum_apply (k0_pay14 b) reduces_S32x5760_S32 (.inl rfl) rfl shapeCasts_S32_S32x1 i u
  rw [Finset.sum_congr rfl fun k _ => pay14_eq b i k] at e
  refine (congrArg (Ideal.fptosi 32) e).trans ?_
  exact sum_codes (qscale (row b i)) (row b i)
theorem mu_eq : fdiv (k0_pay16 b (ix2 i u)) 5760#32 = mu (icodes (row b i)) := by
  rw [pay16_eq, mu]
theorem y32_eq : FloatOps.fptosi 32 (y32 b (ix2 i j)) = ctr (icodes (row b i)) j
    ∧ FloatOps.fptosi 32 (FloatOps.mulf (y32 b (ix2 i j)) (y32 b (ix2 i j))) = IntOp.muli (ctr (icodes (row b i)) j) (ctr (icodes (row b i)) j) := by
  rw [y32_at, pay14_eq, mu_eq]
  have h := mu_bound (qscale (row b i)) (row b i)
  exact sub_code (qscale (row b i)) (row b i j) _ h.1 h.2
theorem n32_eq : n32 b (ix2 i u) = vr (icodes (row b i)) := by
  rw [n32_at, vr, Finset.sum_congr rfl fun k _ => (y32_eq b i k).2]

/-- The normalised rows of a block. -/
abbrev nblk : Vec Ideal S32x5760 .f32 := k0_pay6 g o (y32 b) (k0_pay23 (r32 b)) (k0_pay24 (r32 b)) 1#32
theorem nblk_eq : nblk b g o (ix2 i j) = nrow (row b i) (fun j => g (ix2 0 j)) (fun j => o (ix2 0 j)) j := by
  rw [nblk, pay6_at, (y32_eq b i j).1, pay23_at, pay24_at, r32_at, n32_eq]
  rfl
theorem row_nblk : row (nblk b g o) i = nrow (row b i) (fun j => g (ix2 0 j)) (fun j => o (ix2 0 j)) := row_ext fun j => nblk_eq b g o i j
theorem pay7_eq : k0_pay7 g o (y32 b) (k0_pay23 (r32 b)) (k0_pay24 (r32 b)) 1#32 (ix2 i u)
    = qscale (nrow (row b i) (fun j => g (ix2 0 j)) (fun j => o (ix2 0 j))) := by
  unfold k0_pay7
  exact (scale_apply (nblk b g o) _ _ _ _ i u).trans (congrArg qscale (row_nblk b g o i))
theorem pay8_eq : k0_pay8 g o (y32 b) (k0_pay23 (r32 b)) (k0_pay24 (r32 b)) 1#32 (ix2 i j)
    = FloatOps.fptosi 8 (qcode (qscale (nrow (row b i) (fun j => g (ix2 0 j)) (fun j => o (ix2 0 j)))) (nrow (row b i) (fun j => g (ix2 0 j)) (fun j => o (ix2 0 j)) j)) := by
  unfold k0_pay8
  refine congrArg (FloatOps.fptosi 8) ((code_apply (nblk b g o) (k0_pay7 g o (y32 b) (k0_pay23 (r32 b)) (k0_pay24 (r32 b)) 1#32) _ i j).trans ?_)
  rw [pay7_eq, nblk_eq]
end Payloads

section Whole
variable (H : Vec Ideal S256x5760 .f32) (g o : Vec Ideal S1x5760 .f32) (i : Fin 256) (u : Fin 1) (j : Fin 5760)

/-- Row `i` in its block of 32 rows. -/
abbrev inBlk : Fin 32 := ⟨i.val % 32, Nat.mod_lt _ (by decide)⟩
/-- A row of the block of 32 rows that holds row `i` is row `i`. -/
theorem row_blk32 : row (blk32 H (i.val / 32)) (inBlk i) = row H i := by
  funext j
  show H (ix2 ⟨(32 * (i.val / 32) + i.val % 32) % 256, _⟩ j) = H (ix2 i j)
  refine congrArg (fun a => H (ix2 a j)) (Fin.ext ?_)
  show (32 * (i.val / 32) + i.val % 32) % 256 = i.val
  have := i.isLt
  omega
/-- The normalised row `i`. -/
abbrev nr (H : Vec Ideal S256x5760 .f32) (g o : Vec Ideal S1x5760 .f32) (i : Fin 256) : Fin 5760 → Ideal .f32 :=
  nrow (row H i) (fun j => g (ix2 0 j)) (fun j => o (ix2 0 j))
theorem outH_eq : outH H (ix2 i j) = FloatOps.fptosi 8 (qcode (qscale (row H i)) (row H i j)) := by
  have e : outH H (ix2 i j) = k0_pay15 (blk32 H (i.val / 32)) (ix2 (inBlk i) j) := rfl
  rw [e, pay15_eq, row_blk32]
theorem outHs_eq : outHs H (ix2 i u) = qscale (row H i) := by
  have e : outHs H (ix2 i u) = k0_pay13 (blk32 H (i.val / 32)) (ix2 (inBlk i) u) := rfl
  rw [e, pay13_eq, row_blk32]
theorem outO_eq : outO g o H (ix2 i j) = FloatOps.fptosi 8 (qcode (qscale (nr H g o i)) (nr H g o i j)) := by
  have e : outO g o H (ix2 i j) = (fun b => k0_pay8 g o (y32 b) (k0_pay23 (r32 b)) (k0_pay24 (r32 b)) 1#32) (blk32 H (i.val / 32)) (ix2 (inBlk i) j) := rfl
  rw [e]
  beta_reduce
  rw [pay8_eq, row_blk32]
theorem outOs_eq : outOs g o H (ix2 i u) = qscale (nr H g o i) := by
  have e : outOs g o H (ix2 i u) = (fun b => k0_pay7 g o (y32 b) (k0_pay23 (r32 b)) (k0_pay24 (r32 b)) 1#32) (blk32 H (i.val / 32)) (ix2 (inBlk i) u) := rfl
  rw [e]
  beta_reduce
  rw [pay7_eq, row_blk32]
end Whole

/-! The codes of the first input's rows. -/

section First
variable (b : Vec Ideal S32x5760 .f32) (X : Vec Ideal S256x5760 .f32)

/-- A clipped quotient, kept as a float, is its 8-bit code read as a float. -/
theorem trunc_qcode (s x : Ideal .f32) :
    (FloatOps.truncf .bf16 bitsLt_bf16_f32 (qcode s x) : Ideal .bf16) = FloatOps.sitofp .bf16 (FloatOps.fptosi 8 (qcode s x) : BitVec 8) := by
  obtain ⟨z, h1, h2, e⟩ := qcode_int s x
  show (qcode s x : EReal) = (((Ideal.fptosi 8 (qcode s x : EReal)).toInt : ℝ) : EReal)
  rw [e, fptosi_int 8 z (by norm_num; omega) (by norm_num; omega), BitVec.toInt_ofInt, Int.bmod_eq_of_le (by norm_num; omega) (by norm_num; omega)]
theorem pay1_eq (i : Fin 32) (u : Fin 1) : k0_pay1 b (ix2 i u) = qscale (row b i) := by
  unfold k0_pay1
  exact scale_apply b _ _ _ _ i u
theorem pay2_eq (i : Fin 32) (j : Fin 5760) : k0_pay2 b (ix2 i j) = qcode (qscale (row b i)) (row b i j) := by
  unfold k0_pay2
  refine (code_apply b (k0_pay1 b) _ i j).trans ?_
  rw [pay1_eq, row]
theorem pay3_eq (i : Fin 32) (j : Fin 5760) : k0_pay3 b (ix2 i j) = FloatOps.fptosi 8 (qcode (qscale (row b i)) (row b i j)) :=
  congrArg (FloatOps.fptosi 8) (pay2_eq b i j)
theorem pay4_eq (i : Fin 32) (j : Fin 5760) : k0_pay4 b (ix2 i j) = FloatOps.sitofp .bf16 (FloatOps.fptosi 8 (qcode (qscale (row b i)) (row b i j)) : BitVec 8) := by
  unfold k0_pay4
  refine (congrFun (shapeCast_self _ _) _).trans ?_
  refine Eq.trans ?_ (trunc_qcode _ _)
  exact congrArg (fun z => (FloatOps.truncf .bf16 bitsLt_bf16_f32 z : Ideal .bf16)) (pay2_eq b i j)
theorem outC_eq : outC X = codes (fun i : Fin 256 => row X i) := codes_ext fun i j => by
  have e : outC X (ix2 i j) = k0_pay3 (blk32 X (i.val / 32)) (ix2 (inBlk i) j) := rfl
  rw [e, pay3_eq, row_blk32]
theorem outCs_eq : outCs X = scales (fun i : Fin 256 => row X i) := scales_ext fun i u => by
  have e : outCs X (ix2 i u) = k0_pay1 (blk32 X (i.val / 32)) (ix2 (inBlk i) u) := rfl
  rw [e, pay1_eq, row_blk32]
theorem outCb_eq : outCb X = sitofp (F := Ideal) .bf16 (codes (fun i : Fin 256 => row X i)) := funext fun y => by
  obtain ⟨i, j, rfl⟩ : ∃ i j, y = ix2 i j := ⟨y 0, y 1, eq_ix2 y⟩
  have e : outCb X (ix2 i j) = k0_pay4 (blk32 X (i.val / 32)) (ix2 (inBlk i) j) := rfl
  rw [e, pay4_eq, row_blk32]
  rfl
end First

section Arrays
variable {F : FTy → Type} [FloatOps F] (m : (ℓ : Loc nD τ sig) → Buf (Elt F) ℓ)

/-- The column scales, the bias, and the scale and offset of the normalisation, as the kernel finds them: rows of one row. -/
theorem V_main_v0 (c : Dev nD) : V m c main_v0 = shapeCast S1x5760 (m ((c : Thread nD τ).loc main_arg4)) shapeCasts_S5760_S1x5760 := by
  show StableHlo.after hostOps0 _ (Proc.devRef .tc main_v0) = _
  after_results
  rfl
theorem V_main_v1 (c : Dev nD) : V m c main_v1 = shapeCast S1x5760 (m ((c : Thread nD τ).loc main_arg5)) shapeCasts_S5760_S1x5760 := by
  show StableHlo.after hostOps0 _ (Proc.devRef .tc main_v1) = _
  after_results
  rfl
theorem V_main_v2 (c : Dev nD) : V m c main_v2 = shapeCast S1x5760 (m ((c : Thread nD τ).loc main_arg6)) shapeCasts_S5760_S1x5760 := by
  show StableHlo.after hostOps0 _ (Proc.devRef .tc main_v2) = _
  after_results
  rfl
theorem V_main_v3 (c : Dev nD) : V m c main_v3 = shapeCast S1x5760 (m ((c : Thread nD τ).loc main_arg7)) shapeCasts_S5760_S1x5760 := by
  show StableHlo.after hostOps0 _ (Proc.devRef .tc main_v3) = _
  after_results
  rfl
theorem idx1 : ∀ t : Fin cfg0.N, win0_1.index t = ![0, t.val] := by decide +kernel
theorem idx3 : ∀ t : Fin cfg0.N, win0_3.index t = ![0, t.val] := by decide +kernel
theorem idx4 : ∀ t : Fin cfg0.N, win0_4.index t = ![0, t.val] := by decide +kernel
theorem idx5 : ∀ t : Fin cfg0.N, win0_5.index t = ![0, t.val] := by decide +kernel

/-- An entry of a block of columns at a grid point. -/
theorem iblk3_at (c : Dev nD) (t : Fin cfg0.N) (k : Fin 5760) (j : Fin 640) (J : Fin 5760) (hJ : J.val = 640 * t.val + j.val) :
    iblk m c 3 t (ix2 k j) = m ((c : Thread nD τ).loc main_arg3) (ix2 k J) := by
  rw [← V_main_arg3 m c]
  unfold iblk
  refine (View.read_apply ..).trans ?_
  refine congrArg (V m c main_arg3) (funext fun a => Fin.ext ?_)
  have h := idx3 t
  match a with
  | ⟨0, _⟩ =>
    show win0_3.index t 0 * 5760 + 1 * k.val = k.val
    rw [h]
    show 0 * 5760 + 1 * k.val = k.val
    omega
  | ⟨1, _⟩ =>
    show win0_3.index t 1 * 640 + 1 * j.val = J.val
    rw [h]
    show t.val * 640 + 1 * j.val = J.val
    omega
theorem iblk4_at (c : Dev nD) (t : Fin cfg0.N) (u : Fin 1) (j : Fin 640) (J : Fin 5760) (hJ : J.val = 640 * t.val + j.val) :
    iblk m c 4 t (ix2 u j) = shapeCast S1x5760 (m ((c : Thread nD τ).loc main_arg4)) shapeCasts_S5760_S1x5760 (ix2 u J) := by
  rw [← V_main_v0 m c]
  unfold iblk
  refine (View.read_apply ..).trans ?_
  refine congrArg (V m c main_v0) (funext fun a => Fin.ext ?_)
  have h := idx4 t
  match a with
  | ⟨0, _⟩ =>
    show win0_4.index t 0 * 1 + 1 * u.val = u.val
    rw [h]
    show 0 * 1 + 1 * u.val = u.val
    omega
  | ⟨1, _⟩ =>
    show win0_4.index t 1 * 640 + 1 * j.val = J.val
    rw [h]
    show t.val * 640 + 1 * j.val = J.val
    omega
theorem iblk5_at (c : Dev nD) (t : Fin cfg0.N) (u : Fin 1) (j : Fin 640) (J : Fin 5760) (hJ : J.val = 640 * t.val + j.val) :
    iblk m c 5 t (ix2 u j) = shapeCast S1x5760 (m ((c : Thread nD τ).loc main_arg5)) shapeCasts_S5760_S1x5760 (ix2 u J) := by
  rw [← V_main_v1 m c]
  unfold iblk
  refine (View.read_apply ..).trans ?_
  refine congrArg (V m c main_v1) (funext fun a => Fin.ext ?_)
  have h := idx5 t
  match a with
  | ⟨0, _⟩ =>
    show win0_5.index t 0 * 1 + 1 * u.val = u.val
    rw [h]
    show 0 * 1 + 1 * u.val = u.val
    omega
  | ⟨1, _⟩ =>
    show win0_5.index t 1 * 640 + 1 * j.val = J.val
    rw [h]
    show t.val * 640 + 1 * j.val = J.val
    omega
theorem iblk1_at (c : Dev nD) (t : Fin cfg0.N) (k : Fin 256) (j : Fin 640) (J : Fin 5760) (hJ : J.val = 640 * t.val + j.val) :
    iblk m c 1 t (ix2 k j) = m ((c : Thread nD τ).loc main_arg1) (ix2 k J) := by
  rw [← V_main_arg1 m c]
  unfold iblk
  refine (View.read_apply ..).trans ?_
  refine congrArg (V m c main_arg1) (funext fun a => Fin.ext ?_)
  have h := idx1 t
  match a with
  | ⟨0, _⟩ =>
    show win0_1.index t 0 * 256 + 1 * k.val = k.val
    rw [h]
    show 0 * 256 + 1 * k.val = k.val
    omega
  | ⟨1, _⟩ =>
    show win0_1.index t 1 * 640 + 1 * j.val = J.val
    rw [h]
    show t.val * 640 + 1 * j.val = J.val
    omega
/-- These come whole at every point. -/
theorem iblk0_eq (c : Dev nD) (t : Fin cfg0.N) : iblk m c 0 t = m ((c : Thread nD τ).loc main_arg0) := by
  have hz : (fun a => (win0_0.index t) a * main_arg0.ty.shape.size a) = fun _ => 0 := funext fun a => by fin_cases a <;> exact Nat.zero_mul _
  rw [← V_main_arg0 m c]
  exact Memref.read_access_unit_zero (Elt F) main_arg0 hz (fun a => by fin_cases a <;> exact (Nat.zero_mul _).symm ▸ Nat.le_of_eq (Nat.zero_add _)) _
theorem iblk2_eq (c : Dev nD) (t : Fin cfg0.N) : iblk m c 2 t = m ((c : Thread nD τ).loc main_arg2) := by
  have hz : (fun a => (win0_2.index t) a * main_arg2.ty.shape.size a) = fun _ => 0 := funext fun a => by fin_cases a <;> exact Nat.zero_mul _
  rw [← V_main_arg2 m c]
  exact Memref.read_access_unit_zero (Elt F) main_arg2 hz (fun a => by fin_cases a <;> exact (Nat.zero_mul _).symm ▸ Nat.le_of_eq (Nat.zero_add _)) _
theorem iblk6_eq (c : Dev nD) (t : Fin cfg0.N) : iblk m c 6 t = shapeCast S1x5760 (m ((c : Thread nD τ).loc main_arg6)) shapeCasts_S5760_S1x5760 := by
  have hz : (fun a => (win0_6.index t) a * main_v2.ty.shape.size a) = fun _ => 0 := funext fun a => by fin_cases a <;> exact Nat.zero_mul _
  rw [← V_main_v2 m c]
  exact Memref.read_access_unit_zero (Elt F) main_v2 hz (fun a => by fin_cases a <;> exact (Nat.zero_mul _).symm ▸ Nat.le_of_eq (Nat.zero_add _)) _
theorem iblk7_eq (c : Dev nD) (t : Fin cfg0.N) : iblk m c 7 t = shapeCast S1x5760 (m ((c : Thread nD τ).loc main_arg7)) shapeCasts_S5760_S1x5760 := by
  have hz : (fun a => (win0_7.index t) a * main_v3.ty.shape.size a) = fun _ => 0 := funext fun a => by fin_cases a <;> exact Nat.zero_mul _
  rw [← V_main_v3 m c]
  exact Memref.read_access_unit_zero (Elt F) main_v3 hz (fun a => by fin_cases a <;> exact (Nat.zero_mul _).symm ▸ Nat.le_of_eq (Nat.zero_add _)) _

/-! The arrays at the end of the run: the last point writes each of them back whole. -/

def tlast : Fin cfg0.N := ⟨8, by decide⟩
theorem final_of (c : Dev nD) (w : Fin cfg0.W) (hf : (cfg0.win w).flush tlast = true) :
    ((cfg0.win w).blk tlast).view.read (Elt F) ((dats m 0 c).arrAt w cfg0.N) = (dats m 0 c).flushed w tlast := by
  rw [show cfg0.N = tlast.val + 1 from rfl, (dats m 0 c).arrAt_succ w tlast, if_pos hf]
  exact View.read_write_univ _ _
abbrev gam (c : Dev nD) : Vec F S1x5760 .f32 := shapeCast S1x5760 (m ((c : Thread nD τ).loc main_arg6)) shapeCasts_S5760_S1x5760
abbrev bet (c : Dev nD) : Vec F S1x5760 .f32 := shapeCast S1x5760 (m ((c : Thread nD τ).loc main_arg7)) shapeCasts_S5760_S1x5760
theorem final_C (c : Dev nD) : (dats m 0 c).arrAt 8 cfg0.N = outC (m ((c : Thread nD τ).loc main_arg0)) := by
  have hz : (fun a => (win0_8.index tlast) a * main_v4_0.ty.shape.size a) = fun _ => 0 := funext fun a => by fin_cases a <;> decide
  have hr := fun f => Memref.read_access_unit_zero (Elt F) main_v4_0 hz (fun a => by fin_cases a <;> decide) f
  have ho := final_of m c 8 (by decide)
  refine (hr _).symm.trans (ho.trans ?_)
  show (cfg0.win 8).cut _ ((dats m 0 c).after 8 tlast) = _
  rw [after0_8, iblk0_eq]
  rfl
theorem final_Cs (c : Dev nD) : (dats m 0 c).arrAt 9 cfg0.N = outCs (m ((c : Thread nD τ).loc main_arg0)) := by
  have hz : (fun a => (win0_9.index tlast) a * main_v4_1.ty.shape.size a) = fun _ => 0 := funext fun a => by fin_cases a <;> decide
  have hr := fun f => Memref.read_access_unit_zero (Elt F) main_v4_1 hz (fun a => by fin_cases a <;> decide) f
  have ho := final_of m c 9 (by decide)
  refine (hr _).symm.trans (ho.trans ?_)
  show (cfg0.win 9).cut _ ((dats m 0 c).after 9 tlast) = _
  rw [after0_9, iblk0_eq]
  rfl
theorem final_H (c : Dev nD) : (dats m 0 c).arrAt 10 cfg0.N = outH (Hmat m c) := by
  have hz : (fun a => (win0_10.index tlast) a * main_v4_2.ty.shape.size a) = fun _ => 0 := funext fun a => by fin_cases a <;> decide
  have hr := fun f => Memref.read_access_unit_zero (Elt F) main_v4_2 hz (fun a => by fin_cases a <;> decide) f
  have ho := final_of m c 10 (by decide)
  refine (hr _).symm.trans (ho.trans ?_)
  show (cfg0.win 10).cut _ ((dats m 0 c).after 10 tlast) = _
  rw [after0_10]
  rfl
theorem final_Hs (c : Dev nD) : (dats m 0 c).arrAt 11 cfg0.N = outHs (Hmat m c) := by
  have hz : (fun a => (win0_11.index tlast) a * main_v4_3.ty.shape.size a) = fun _ => 0 := funext fun a => by fin_cases a <;> decide
  have hr := fun f => Memref.read_access_unit_zero (Elt F) main_v4_3 hz (fun a => by fin_cases a <;> decide) f
  have ho := final_of m c 11 (by decide)
  refine (hr _).symm.trans (ho.trans ?_)
  show (cfg0.win 11).cut _ ((dats m 0 c).after 11 tlast) = _
  rw [after0_11]
  rfl
theorem final_O (c : Dev nD) : (dats m 0 c).arrAt 12 cfg0.N = outO (gam m c) (bet m c) (Hmat m c) := by
  have hz : (fun a => (win0_12.index tlast) a * main_v4_4.ty.shape.size a) = fun _ => 0 := funext fun a => by fin_cases a <;> decide
  have hr := fun f => Memref.read_access_unit_zero (Elt F) main_v4_4 hz (fun a => by fin_cases a <;> decide) f
  have ho := final_of m c 12 (by decide)
  refine (hr _).symm.trans (ho.trans ?_)
  show (cfg0.win 12).cut _ ((dats m 0 c).after 12 tlast) = _
  rw [after0_12, iblk6_eq, iblk7_eq]
  rfl
theorem final_Os (c : Dev nD) : (dats m 0 c).arrAt 13 cfg0.N = outOs (gam m c) (bet m c) (Hmat m c) := by
  have hz : (fun a => (win0_13.index tlast) a * main_v4_5.ty.shape.size a) = fun _ => 0 := funext fun a => by fin_cases a <;> decide
  have hr := fun f => Memref.read_access_unit_zero (Elt F) main_v4_5 hz (fun a => by fin_cases a <;> decide) f
  have ho := final_of m c 13 (by decide)
  refine (hr _).symm.trans (ho.trans ?_)
  show (cfg0.win 13).cut _ ((dats m 0 c).after 13 tlast) = _
  rw [after0_13, iblk6_eq, iblk7_eq]
  rfl

/-- The run: the six results are the codes and scales of the first input, of `h` and of the normalised rows, and the arguments end
    unchanged. -/
theorem run (ρ : Dev nD → PrngReg) : θ_run defs (onTc (τ := τ) (main (F := F))) ⟨m, fun _ => 0, ρ⟩ (fun r => ∀ c : Dev nD,
      r.2.mem ((c.tc : Thread nD τ).loc main_v4_0) = outC (m ((c : Thread nD τ).loc main_arg0))
      ∧ r.2.mem ((c.tc : Thread nD τ).loc main_v4_1) = outCs (m ((c : Thread nD τ).loc main_arg0))
      ∧ r.2.mem ((c.tc : Thread nD τ).loc main_v4_2) = outH (Hmat m c)
      ∧ r.2.mem ((c.tc : Thread nD τ).loc main_v4_3) = outHs (Hmat m c)
      ∧ r.2.mem ((c.tc : Thread nD τ).loc main_v4_4) = outO (gam m c) (bet m c) (Hmat m c)
      ∧ r.2.mem ((c.tc : Thread nD τ).loc main_v4_5) = outOs (gam m c) (bet m c) (Hmat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (final_C m c), ((h.1 c).1 9).trans (final_Cs m c), ((h.1 c).1 10).trans (final_H m c),
    ((h.1 c).1 11).trans (final_Hs m c), ((h.1 c).1 12).trans (final_O m c), ((h.1 c).1 13).trans (final_Os m c), h.2 c⟩)
    (θ_run_and (run_main m ρ) (unchanged m ρ))
end Arrays

section Ideals
variable (m : (ℓ : Loc nD τ sig) → Buf (Elt Ideal) ℓ)

/-- The rows of the first input. -/
abbrev ctxRows (c : Dev nD) : Fin 256 → Fin 5760 → Ideal .f32 := fun i => row (r := 256) (n := 5760) (m ((c : Thread nD τ).loc main_arg0)) i
abbrev resRows (c : Dev nD) : Fin 256 → Fin 5760 → Ideal .f32 :=
  linRes (codes (ctxRows m c)) (scales (ctxRows m c)) (m ((c : Thread nD τ).loc main_arg3))
    (shapeCast S1x5760 (m ((c : Thread nD τ).loc main_arg4)) shapeCasts_S5760_S1x5760)
    (shapeCast S1x5760 (m ((c : Thread nD τ).loc main_arg5)) shapeCasts_S5760_S1x5760)
    (m ((c : Thread nD τ).loc main_arg1)) (m ((c : Thread nD τ).loc main_arg2))
/-- The rows of `h`: each entry is that of the whole product. -/
theorem row_Hmat (c : Dev nD) (i : Fin 256) : row (Hmat m c) i = resRows m c i := by
  funext j
  have hj := j.isLt
  have hJ : j.val = 640 * (pt0 (ix2 i j)).val + j.val % 640 := by
    show j.val = 640 * (j.val / 640) + j.val % 640
    omega
  have e : Hmat m c (ix2 i j) = k0_pay5 (outCb (iblk m c 0 p0)) (iblk m c 3 (pt0 (ix2 i j))) (outCs (iblk m c 0 p0)) (iblk m c 4 (pt0 (ix2 i j)))
      (iblk m c 5 (pt0 (ix2 i j))) (iblk m c 1 (pt0 (ix2 i j))) (iblk m c 2 (pt0 (ix2 i j))) (ix2 i ⟨j.val % 640, Nat.mod_lt _ (by decide)⟩) := rfl
  have ea : outCb (iblk m c 0 p0) = sitofp (F := Ideal) .bf16 (codes (ctxRows m c)) := by
    rw [iblk0_eq]
    exact outCb_eq _
  have es : outCs (iblk m c 0 p0) = scales (ctxRows m c) := by
    rw [iblk0_eq]
    exact outCs_eq _
  rw [ea, es] at e
  refine e.trans ?_
  unfold k0_pay5
  refine (congrFun (shapeCast_self _ _) _).trans ?_
  rw [shapeCast_self (scales (ctxRows m c))]
  refine (congrArg₂ FloatOps.addf (linear_apply _ _ _ _ _ _ _ _ _ _) (congrArg (FloatOps.mulf _) (bcol_apply _ _ _ _))).trans ?_
  unfold resRows linRes lin
  rw [iblk4_at m c _ 0 _ j hJ, iblk5_at m c _ 0 _ j hJ, iblk2_eq]
  refine congrArg₂ FloatOps.addf (congrArg (fun w => linAt _ w _ _ _) (funext fun k => ?_)) (congrArg (fun z => FloatOps.mulf (FloatOps.sitofp .f32 z) _) ?_)
  · exact iblk3_at m c _ k _ j hJ
  · exact iblk1_at m c _ i _ j hJ

/-- The normalised rows. -/
abbrev nrmRows (c : Dev nD) (i : Fin 256) : Fin 5760 → Ideal .f32 :=
  nrow (resRows m c i) (fun j => gam m c (ix2 0 j)) (fun j => bet m c (ix2 0 j))
theorem row_nr (c : Dev nD) (i : Fin 256) : nr (Hmat m c) (gam m c) (bet m c) i = nrmRows m c i := by
  unfold nr nrmRows
  rw [row_Hmat]
theorem res_C (c : Dev nD) : outC (m ((c : Thread nD τ).loc main_arg0)) = codes (ctxRows m c) := outC_eq _
theorem res_Cs (c : Dev nD) : outCs (m ((c : Thread nD τ).loc main_arg0)) = scales (ctxRows m c) := outCs_eq _
theorem res_H (c : Dev nD) : outH (Hmat m c) = codes (resRows m c) := codes_ext fun i j => by
  rw [outH_eq, row_Hmat]
theorem res_Hs (c : Dev nD) : outHs (Hmat m c) = scales (resRows m c) := scales_ext fun i u => by
  rw [outHs_eq, row_Hmat]
theorem res_O (c : Dev nD) : outO (gam m c) (bet m c) (Hmat m c) = codes (nrmRows m c) := codes_ext fun i j => by
  rw [outO_eq, row_nr]
theorem res_Os (c : Dev nD) : outOs (gam m c) (bet m c) (Hmat m c) = scales (nrmRows m c) := scales_ext fun i u => by
  rw [outOs_eq, row_nr]
end Ideals

end Cert.ThirdIdeal.Gen

end
-- ==== Proof.ThirdReferenceRun.lean ====
/-
  The run of the reference of the output projection call: one point, one loop without effects.
-/
module

public import proofs.«01_k».proof.Proof.Gen.ThirdReferenceIdeal.Frame
public import proofs.«01_k».proof.Proof.Gen.ThirdReferenceIdeal.Loops
public import proofs.«01_k».proof.Proof.Rows
public import Idealize.ShloMosaic.Lib.Claim

@[expose] public section

set_option maxRecDepth 16384

noncomputable section

namespace Cert.ThirdReferenceIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.Proof.Rows

variable {F : FTy → Type} [FloatOps F]

local notation "𝕄" => MT nD τ sig Unit (Elt F) ℕ (UR sig nD τ) ℕ

section Newton
variable (arg0 : Memref sig .tc .vmem S256x5760 .f32) (harg0 : arg0.IsWhole) (arg1 : Memref sig .tc .vmem S256x5760 .i8) (harg1 : arg1.IsWhole) (arg2 : Memref sig .tc .vmem S256x1 .f32) (harg2 : arg2.IsWhole) (arg3 : Memref sig .tc .vmem S5760x5760 .i8) (harg3 : arg3.IsWhole) (arg4 : Memref sig .tc .vmem S1x5760 .f32) (harg4 : arg4.IsWhole) (arg5 : Memref sig .tc .vmem S1x5760 .f32) (harg5 : arg5.IsWhole) (arg6 : Memref sig .tc .vmem S1x5760 .f32) (harg6 : arg6.IsWhole) (arg7 : Memref sig .tc .vmem S1x5760 .f32) (harg7 : arg7.IsWhole) (arg8 : Memref sig .tc .vmem S256x5760 .i8) (harg8 : arg8.IsWhole) (arg9 : Memref sig .tc .vmem S256x1 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole) (v67 : IVec S256x5760 32) (v69 : IVec S256x1 32) (o : BitVec 32) (v71 v74 : IVec S256x1 32) (z : BitVec 32)

/-- The standard deviations by 24 Newton steps from the variances. -/
def newton (n : IVec S256x1 32) : IVec S256x1 32 :=
  Scf.fold (fun (_ : Fin k0_t1_loop.trips) r => k0_pay23 r (k0_pay5 n r) (k0_pay6 n r) k0_pay7) k0_pay22

/-- One Newton step returns its value. -/
theorem t1_body_eq (k : Fin k0_t1_loop.trips) (r : IVec S256x1 32) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 v67 v69 o v71 v74 z k r
      = .ret (k0_pay23 r (k0_pay5 (k0_pay21 v67 v69 o v71 v74 z) r) (k0_pay6 (k0_pay21 v67 v69 o v71 v74 z) r) k0_pay7) := by
  unfold k0_t1_body; simp only [k0_part1_eq_skeleton]; unfold k0_part1_skel; rfl

/-- The Newton loop returns the fold of its step. -/
theorem part4_eq :
    k0_part4 (F := F) arg0 harg0 arg1 harg1 arg2 harg2 arg3 harg3 arg4 harg4 arg5 harg5 arg6 harg6 arg7 harg7 arg8 harg8 arg9 harg9 arg10 harg10 arg11 harg11 arg12 harg12 arg13 harg13 v67 v69 o v71 v74 z
      = pure ⟨k0_pay20 v67 v69 o v71 v74 z, newton (k0_pay21 v67 v69 o v71 v74 z), 1048576#32,
          k0_pay24 (newton (k0_pay21 v67 v69 o v71 v74 z)), k0_pay25 (newton (k0_pay21 v67 v69 o v71 v74 z))⟩ := by
  rw [k0_part4_eq_skeleton]; unfold k0_part4_skel
  unfold Scf.Loop.for
  rw [Scf.for_pure _ _ _ _ _ _ _ (fun k r => t1_body_eq arg0 harg0 arg1 harg1 arg2 harg2 arg3 harg3 arg4 harg4 arg5 harg5 arg6 harg6 arg7 harg7 arg8 harg8 arg9 harg9 arg10 harg10 arg11 harg11 arg12 harg12 arg13 harg13 v67 v69 o v71 v74 z k r)]
  rfl
end Newton

/-! ## The six results of the eight arrays -/

section Out
variable (x0 : Vec F S256x5760 .f32) (x1 : Vec F S256x5760 .i8) (x2 : Vec F S256x1 .f32) (x3 : Vec F S5760x5760 .i8) (x4 : Vec F S1x5760 .f32) (x5 : Vec F S1x5760 .f32) (x6 : Vec F S1x5760 .f32) (x7 : Vec F S1x5760 .f32)

def oCc : IVec S256x5760 8 := k0_pay9 x0
def oCs : FVec F S256x1 .f32 := k0_pay8 x0
/-- The product with its bias. -/
abbrev pa : FVec F S256x5760 .f32 := k0_pay10 x0 x3 x4 x5
def oHc : IVec S256x5760 8 := k0_pay13 (pa x0 x3 x4 x5) x1 x2
def oHs : FVec F S256x1 .f32 := k0_pay12 (pa x0 x3 x4 x5) x1 x2
/-- The centred codes. -/
abbrev ce : IVec S256x5760 32 := k0_pay20 (k0_pay16 (pa x0 x3 x4 x5) x1 x2) (k0_pay17 (pa x0 x3 x4 x5) x1 x2) 5760#32
  (k0_pay18 (pa x0 x3 x4 x5) x1 x2) (k0_pay19 (pa x0 x3 x4 x5) x1 x2) 0#32
/-- The standard deviations of the codes. -/
abbrev sd : IVec S256x1 32 := newton (k0_pay21 (k0_pay16 (pa x0 x3 x4 x5) x1 x2) (k0_pay17 (pa x0 x3 x4 x5) x1 x2) 5760#32
  (k0_pay18 (pa x0 x3 x4 x5) x1 x2) (k0_pay19 (pa x0 x3 x4 x5) x1 x2) 0#32)
/-- The normalised rows. -/
def oN : FVec F S256x5760 .f32 :=
  k0_pay1 (k0_pay14 x6) (k0_pay15 x7) (ce x0 x1 x2 x3 x4 x5) (sd x0 x1 x2 x3 x4 x5) 1048576#32 (k0_pay24 (sd x0 x1 x2 x3 x4 x5)) (k0_pay25 (sd x0 x1 x2 x3 x4 x5))
def oOc : IVec S256x5760 8 :=
  k0_pay3 (k0_pay14 x6) (k0_pay15 x7) (ce x0 x1 x2 x3 x4 x5) (sd x0 x1 x2 x3 x4 x5) 1048576#32 (k0_pay24 (sd x0 x1 x2 x3 x4 x5)) (k0_pay25 (sd x0 x1 x2 x3 x4 x5))
def oOs : FVec F S256x1 .f32 :=
  k0_pay2 (k0_pay14 x6) (k0_pay15 x7) (ce x0 x1 x2 x3 x4 x5) (sd x0 x1 x2 x3 x4 x5) 1048576#32 (k0_pay24 (sd x0 x1 x2 x3 x4 x5)) (k0_pay25 (sd x0 x1 x2 x3 x4 x5))
end Out

/-! ## The body -/

set_option maxHeartbeats 2000000 in
/-- The body leaves the inputs and fills the six results. -/
theorem run0 (c : Dev nD) (arg0 : Memref sig .tc .vmem S256x5760 .f32) (harg0 : arg0.IsWhole) (arg1 : Memref sig .tc .vmem S256x5760 .i8) (harg1 : arg1.IsWhole) (arg2 : Memref sig .tc .vmem S256x1 .f32) (harg2 : arg2.IsWhole) (arg3 : Memref sig .tc .vmem S5760x5760 .i8) (harg3 : arg3.IsWhole) (arg4 : Memref sig .tc .vmem S1x5760 .f32) (harg4 : arg4.IsWhole) (arg5 : Memref sig .tc .vmem S1x5760 .f32) (harg5 : arg5.IsWhole) (arg6 : Memref sig .tc .vmem S1x5760 .f32) (harg6 : arg6.IsWhole) (arg7 : Memref sig .tc .vmem S1x5760 .f32) (harg7 : arg7.IsWhole) (arg8 : Memref sig .tc .vmem S256x5760 .i8) (harg8 : arg8.IsWhole) (arg9 : Memref sig .tc .vmem S256x1 .f32) (harg9 : arg9.IsWhole) (arg10 : Memref sig .tc .vmem S256x5760 .i8) (harg10 : arg10.IsWhole) (arg11 : Memref sig .tc .vmem S256x1 .f32) (harg11 : arg11.IsWhole) (arg12 : Memref sig .tc .vmem S256x5760 .i8) (harg12 : arg12.IsWhole) (arg13 : Memref sig .tc .vmem S256x1 .f32) (harg13 : arg13.IsWhole)
    (x0 : Vec F S256x5760 .f32) (x1 : Vec F S256x5760 .i8) (x2 : Vec F S256x1 .f32) (x3 : Vec F S5760x5760 .i8) (x4 : Vec F S1x5760 .f32) (x5 : Vec F S1x5760 .f32) (x6 : Vec F S1x5760 .f32) (x7 : Vec F S1x5760 .f32)
    (y0 : Vec F S256x5760 .i8) (y1 : Vec F S256x1 .f32) (y2 : Vec F S256x5760 .i8) (y3 : Vec F S256x1 .f32) (y4 : Vec F S256x5760 .i8) (y5 : Vec F S256x1 .f32) (E : Set ℕ) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare y0 ∗ owns (c : Thread nD τ) arg9 fullShare y1 ∗ owns (c : Thread nD τ) arg10 fullShare y2 ∗ owns (c : Thread nD τ) arg11 fullShare y3 ∗ owns (c : Thread nD τ) arg12 fullShare y4 ∗ owns (c : Thread nD τ) arg13 fullShare y5
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (oCc x0) ∗ owns (c : Thread nD τ) arg9 fullShare (oCs x0) ∗ owns (c : Thread nD τ) arg10 fullShare (oHc x0 x1 x2 x3 x4 x5) ∗ owns (c : Thread nD τ) arg11 fullShare (oHs x0 x1 x2 x3 x4 x5) ∗ owns (c : Thread nD τ) arg12 fullShare (oOc x0 x1 x2 x3 x4 x5 x6 x7) ∗ owns (c : Thread nD τ) arg13 fullShare (oOs x0 x1 x2 x3 x4 x5 x6 x7)) -∗ K ⟨⟩))
      ⊢ wp frame (wpE (defs₀ (F := F)) Variants.none c none) E (cc0_body arg0 harg0 arg1 harg1 arg2 harg2 arg3 harg3 arg4 harg4 arg5 harg5 arg6 harg6 arg7 harg7 arg8 harg8 arg9 harg9 arg10 harg10 arg11 harg11 arg12 harg12 arg13 harg13) K := by
  simp only [cc0_body_eq_skeleton]; unfold cc0_body_skel
  simp only [part4_eq]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%g0, %hg0, G0⟩, ⟨%g1, %hg1, G1⟩, ⟨%g2, %hg2, G2⟩, ⟨%g3, %hg3, G3⟩, ⟨%g4, %hg4, G4⟩, ⟨%g5, %hg5, G5⟩, Hk⟩
  obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec
  sl_step
  have e0 := (readAt_whole arg0.view (harg0.unread x0) inb_S256x5760_S256x5760_0_0).trans (harg0.read_unread x0)
  have e1 := (readAt_whole arg1.view (harg1.unread x1) inb_S256x5760_S256x5760_0_0).trans (harg1.read_unread x1)
  have e2 := (readAt_whole arg2.view (harg2.unread x2) inb_S256x1_S256x1_0_0).trans (harg2.read_unread x2)
  have e3 := (readAt_whole arg3.view (harg3.unread x3) inb_S5760x5760_S5760x5760_0_0).trans (harg3.read_unread x3)
  have e4 := (readAt_whole arg4.view (harg4.unread x4) inb_S1x5760_S1x5760_0_0).trans (harg4.read_unread x4)
  have e5 := (readAt_whole arg5.view (harg5.unread x5) inb_S1x5760_S1x5760_0_0).trans (harg5.read_unread x5)
  have e6 := (readAt_whole arg6.view (harg6.unread x6) inb_S1x5760_S1x5760_0_0).trans (harg6.read_unread x6)
  have e7 := (readAt_whole arg7.view (harg7.unread x7) inb_S1x5760_S1x5760_0_0).trans (harg7.read_unread x7)
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [G0]
  · iexists _; isplitr; swap; · iexact G0
    ipureintro
    refine (read_writes_whole arg8.view _ inb_S256x5760_S256x5760_0_0 _ []).trans ?_
    have hz := (congrArg (oCc (F := F)) e0); exact hz
  isplitl [G1]
  · iexists _; isplitr; swap; · iexact G1
    ipureintro
    refine (read_writes_whole arg9.view _ inb_S256x1_S256x1_0_0 _ []).trans ?_
    have hz := (congrArg (oCs (F := F)) e0); exact hz
  isplitl [G2]
  · iexists _; isplitr; swap; · iexact G2
    ipureintro
    refine (read_writes_whole arg10.view _ inb_S256x5760_S256x5760_0_0 _ []).trans ?_
    have hz := (congr (congr (congr (congr (congr (congrArg (oHc (F := F)) e0) e1) e2) e3) e4) e5); exact hz
  isplitl [G3]
  · iexists _; isplitr; swap; · iexact G3
    ipureintro
    refine (read_writes_whole arg11.view _ inb_S256x1_S256x1_0_0 _ []).trans ?_
    have hz := (congr (congr (congr (congr (congr (congrArg (oHs (F := F)) e0) e1) e2) e3) e4) e5); exact hz
  isplitl [G4]
  · iexists _; isplitr; swap; · iexact G4
    ipureintro
    refine (read_writes_whole arg12.view _ inb_S256x5760_S256x5760_0_0 _ []).trans ?_
    have hz := (congr (congr (congr (congr (congr (congr (congr (congrArg (oOc (F := F)) e0) e1) e2) e3) e4) e5) e6) e7); exact hz
  iexists _; isplitr; swap; · iexact G5
  ipureintro
  refine (read_writes_whole arg13.view _ inb_S256x1_S256x1_0_0 _ []).trans ?_
  have hz := (congr (congr (congr (congr (congr (congr (congr (congrArg (oOs (F := F)) e0) e1) e2) e3) e4) e5) e6) e7); exact hz

variable (m : (ℓ : Loc nD τ sig) → Buf (Elt F) ℓ) (ρ : Dev nD → PrngReg)

/-! ## The proof data, the launch, the frame -/

abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)
abbrev ms0_7 (t : Fin cfg0.N) := win0_7.stage (cfg0.slots t 7)
abbrev ms0_8 (t : Fin cfg0.N) := win0_8.stage (cfg0.slots t 8)
abbrev ms0_9 (t : Fin cfg0.N) := win0_9.stage (cfg0.slots t 9)
abbrev ms0_10 (t : Fin cfg0.N) := win0_10.stage (cfg0.slots t 10)
abbrev ms0_11 (t : Fin cfg0.N) := win0_11.stage (cfg0.slots t 11)
abbrev ms0_12 (t : Fin cfg0.N) := win0_12.stage (cfg0.slots t 12)
abbrev ms0_13 (t : Fin cfg0.N) := win0_13.stage (cfg0.slots t 13)
theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oCc (iblk m c 0 t)
    | ⟨9, _⟩ => oCs (iblk m c 0 t)
    | ⟨10, _⟩ => oHc (iblk m c 0 t) (iblk m c 1 t) (iblk m c 2 t) (iblk m c 3 t) (iblk m c 4 t) (iblk m c 5 t)
    | ⟨11, _⟩ => oHs (iblk m c 0 t) (iblk m c 1 t) (iblk m c 2 t) (iblk m c 3 t) (iblk m c 4 t) (iblk m c 5 t)
    | ⟨12, _⟩ => oOc (iblk m c 0 t) (iblk m c 1 t) (iblk m c 2 t) (iblk m c 3 t) (iblk m c 4 t) (iblk m c 5 t) (iblk m c 6 t) (iblk m c 7 t)
    | ⟨13, _⟩ => oOs (iblk m c 0 t) (iblk m c 1 t) (iblk m c 2 t) (iblk m c 3 t) (iblk m c 4 t) (iblk m c 5 t) (iblk m c 6 t) (iblk m c 7 t)
  Φ t := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = oCc (iblk m c 0 t) := by dsimp only [dats]
theorem after0_9 (c : Dev nD) (t : Fin cfg0.N) : (dats m 0 c).after 9 t = oCs (iblk m c 0 t) := by dsimp only [dats]
theorem after0_10 (c : Dev nD) (t : Fin cfg0.N) : (dats m 0 c).after 10 t = oHc (iblk m c 0 t) (iblk m c 1 t) (iblk m c 2 t) (iblk m c 3 t) (iblk m c 4 t) (iblk m c 5 t) := by dsimp only [dats]
theorem after0_11 (c : Dev nD) (t : Fin cfg0.N) : (dats m 0 c).after 11 t = oHs (iblk m c 0 t) (iblk m c 1 t) (iblk m c 2 t) (iblk m c 3 t) (iblk m c 4 t) (iblk m c 5 t) := by dsimp only [dats]
theorem after0_12 (c : Dev nD) (t : Fin cfg0.N) : (dats m 0 c).after 12 t = oOc (iblk m c 0 t) (iblk m c 1 t) (iblk m c 2 t) (iblk m c 3 t) (iblk m c 4 t) (iblk m c 5 t) (iblk m c 6 t) (iblk m c 7 t) := by dsimp only [dats]
theorem after0_13 (c : Dev nD) (t : Fin cfg0.N) : (dats m 0 c).after 13 t = oOs (iblk m c 0 t) (iblk m c 1 t) (iblk m c 2 t) (iblk m c 3 t) (iblk m c 4 t) (iblk m c 5 t) (iblk m c 6 t) (iblk m c 7 t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl]
  rw [show (dats m 0 c).Φ t.succ = (dats m 0 c).Φ t.castSucc from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (run0 c _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.ThirdReferenceIdeal.Gen

end
-- ==== Proof.ThirdReferenceValue.lean ====
/-
  What the reference of the output projection leaves in its six results, at the ideal values: the codes and the scales of the rows
  of its first input, of the rows of `h`, and of the normalised rows.
-/
module

public import proofs.«01_k».proof.Proof.ThirdReferenceRun
public import proofs.«01_k».proof.Proof.Norm
public import Idealize.ShloMosaic.Lib.Claim

@[expose] public section

set_option maxRecDepth 16384

noncomputable section

namespace Cert.ThirdReferenceIdeal.Gen

open Idealize.ShloMosaic Idealize.ShloMosaic.TcCoe
open Idealize.SL.Sem
open Idealize.ShloMosaic.Pipeline (Dat Cfg Window cellOf)
open Idealize.ShloMosaic.ValueIdx
open Cert.Proof.Quant Cert.Proof.Norm

section Arrays
variable {F : FTy → Type} [FloatOps F] (m : (ℓ : Loc nD τ sig) → Buf (Elt F) ℓ)

theorem V_main_v0 (c : Dev nD) : V m c main_v0 = shapeCast S1x5760 (m ((c : Thread nD τ).loc main_arg4)) shapeCasts_S5760_S1x5760 := by
  show StableHlo.after hostOps0 _ (Proc.devRef .tc main_v0) = _
  after_results
  rfl
theorem V_main_v1 (c : Dev nD) : V m c main_v1 = shapeCast S1x5760 (m ((c : Thread nD τ).loc main_arg5)) shapeCasts_S5760_S1x5760 := by
  show StableHlo.after hostOps0 _ (Proc.devRef .tc main_v1) = _
  after_results
  rfl
theorem V_main_v2 (c : Dev nD) : V m c main_v2 = shapeCast S1x5760 (m ((c : Thread nD τ).loc main_arg6)) shapeCasts_S5760_S1x5760 := by
  show StableHlo.after hostOps0 _ (Proc.devRef .tc main_v2) = _
  after_results
  rfl
theorem V_main_v3 (c : Dev nD) : V m c main_v3 = shapeCast S1x5760 (m ((c : Thread nD τ).loc main_arg7)) shapeCasts_S5760_S1x5760 := by
  show StableHlo.after hostOps0 _ (Proc.devRef .tc main_v3) = _
  after_results
  rfl

/-- The one grid point. -/
def tonly : Fin cfg0.N := ⟨0, by decide⟩

/-! The blocks: whole arrays. -/

abbrev x0 (c : Dev nD) : Vec F S256x5760 .f32 := (m ((c : Thread nD τ).loc main_arg0))
theorem iblk0_eq (c : Dev nD) : iblk m c 0 tonly = x0 m c := by
  have hz : (fun a => (win0_0.index tonly) a * main_arg0.ty.shape.size a) = fun _ => 0 := funext fun a => by fin_cases a <;> decide
  rw [x0, ← V_main_arg0 m c]
  exact Memref.read_access_unit_zero (Elt F) main_arg0 hz (fun a => by fin_cases a <;> decide) _
abbrev x1 (c : Dev nD) : Vec F S256x5760 .i8 := (m ((c : Thread nD τ).loc main_arg1))
theorem iblk1_eq (c : Dev nD) : iblk m c 1 tonly = x1 m c := by
  have hz : (fun a => (win0_1.index tonly) a * main_arg1.ty.shape.size a) = fun _ => 0 := funext fun a => by fin_cases a <;> decide
  rw [x1, ← V_main_arg1 m c]
  exact Memref.read_access_unit_zero (Elt F) main_arg1 hz (fun a => by fin_cases a <;> decide) _
abbrev x2 (c : Dev nD) : Vec F S256x1 .f32 := (m ((c : Thread nD τ).loc main_arg2))
theorem iblk2_eq (c : Dev nD) : iblk m c 2 tonly = x2 m c := by
  have hz : (fun a => (win0_2.index tonly) a * main_arg2.ty.shape.size a) = fun _ => 0 := funext fun a => by fin_cases a <;> decide
  rw [x2, ← V_main_arg2 m c]
  exact Memref.read_access_unit_zero (Elt F) main_arg2 hz (fun a => by fin_cases a <;> decide) _
abbrev x3 (c : Dev nD) : Vec F S5760x5760 .i8 := (m ((c : Thread nD τ).loc main_arg3))
theorem iblk3_eq (c : Dev nD) : iblk m c 3 tonly = x3 m c := by
  have hz : (fun a => (win0_3.index tonly) a * main_arg3.ty.shape.size a) = fun _ => 0 := funext fun a => by fin_cases a <;> decide
  rw [x3, ← V_main_arg3 m c]
  exact Memref.read_access_unit_zero (Elt F) main_arg3 hz (fun a => by fin_cases a <;> decide) _
abbrev x4 (c : Dev nD) : Vec F S1x5760 .f32 := (shapeCast S1x5760 (m ((c : Thread nD τ).loc main_arg4)) shapeCasts_S5760_S1x5760)
theorem iblk4_eq (c : Dev nD) : iblk m c 4 tonly = x4 m c := by
  have hz : (fun a => (win0_4.index tonly) a * main_v0.ty.shape.size a) = fun _ => 0 := funext fun a => by fin_cases a <;> decide
  rw [x4, ← V_main_v0 m c]
  exact Memref.read_access_unit_zero (Elt F) main_v0 hz (fun a => by fin_cases a <;> decide) _
abbrev x5 (c : Dev nD) : Vec F S1x5760 .f32 := (shapeCast S1x5760 (m ((c : Thread nD τ).loc main_arg5)) shapeCasts_S5760_S1x5760)
theorem iblk5_eq (c : Dev nD) : iblk m c 5 tonly = x5 m c := by
  have hz : (fun a => (win0_5.index tonly) a * main_v1.ty.shape.size a) = fun _ => 0 := funext fun a => by fin_cases a <;> decide
  rw [x5, ← V_main_v1 m c]
  exact Memref.read_access_unit_zero (Elt F) main_v1 hz (fun a => by fin_cases a <;> decide) _
abbrev x6 (c : Dev nD) : Vec F S1x5760 .f32 := (shapeCast S1x5760 (m ((c : Thread nD τ).loc main_arg6)) shapeCasts_S5760_S1x5760)
theorem iblk6_eq (c : Dev nD) : iblk m c 6 tonly = x6 m c := by
  have hz : (fun a => (win0_6.index tonly) a * main_v2.ty.shape.size a) = fun _ => 0 := funext fun a => by fin_cases a <;> decide
  rw [x6, ← V_main_v2 m c]
  exact Memref.read_access_unit_zero (Elt F) main_v2 hz (fun a => by fin_cases a <;> decide) _
abbrev x7 (c : Dev nD) : Vec F S1x5760 .f32 := (shapeCast S1x5760 (m ((c : Thread nD τ).loc main_arg7)) shapeCasts_S5760_S1x5760)
theorem iblk7_eq (c : Dev nD) : iblk m c 7 tonly = x7 m c := by
  have hz : (fun a => (win0_7.index tonly) a * main_v3.ty.shape.size a) = fun _ => 0 := funext fun a => by fin_cases a <;> decide
  rw [x7, ← V_main_v3 m c]
  exact Memref.read_access_unit_zero (Elt F) main_v3 hz (fun a => by fin_cases a <;> decide) _

theorem final_of (c : Dev nD) (w : Fin cfg0.W) (hf : (cfg0.win w).flush tonly = true) :
    ((cfg0.win w).blk tonly).view.read (Elt F) ((dats m 0 c).arrAt w cfg0.N) = (dats m 0 c).flushed w tonly := by
  rw [show cfg0.N = tonly.val + 1 from rfl, (dats m 0 c).arrAt_succ w tonly, if_pos hf]
  exact View.read_write_univ _ _

/-! The results as the body's values. -/

theorem final_C (c : Dev nD) : (dats m 0 c).arrAt 8 cfg0.N = oCc (x0 m c) := by
  have hz : (fun a => (win0_8.index tonly) a * main_v4_0.ty.shape.size a) = fun _ => 0 := funext fun a => by fin_cases a <;> decide
  have hr := fun f => Memref.read_access_unit_zero (Elt F) main_v4_0 hz (fun a => by fin_cases a <;> decide) f
  refine (hr _).symm.trans ((final_of m c 8 (by decide)).trans ?_)
  show (cfg0.win 8).cut _ ((dats m 0 c).after 8 tonly) = _
  have e : (dats m 0 c).after 8 tonly = oCc (iblk m c 0 tonly) := rfl
  rw [e, iblk0_eq]
  rfl
theorem final_Cs (c : Dev nD) : (dats m 0 c).arrAt 9 cfg0.N = oCs (x0 m c) := by
  have hz : (fun a => (win0_9.index tonly) a * main_v4_1.ty.shape.size a) = fun _ => 0 := funext fun a => by fin_cases a <;> decide
  have hr := fun f => Memref.read_access_unit_zero (Elt F) main_v4_1 hz (fun a => by fin_cases a <;> decide) f
  refine (hr _).symm.trans ((final_of m c 9 (by decide)).trans ?_)
  show (cfg0.win 9).cut _ ((dats m 0 c).after 9 tonly) = _
  have e : (dats m 0 c).after 9 tonly = oCs (iblk m c 0 tonly) := rfl
  rw [e, iblk0_eq]
  rfl
theorem final_H (c : Dev nD) : (dats m 0 c).arrAt 10 cfg0.N = oHc (x0 m c) (x1 m c) (x2 m c) (x3 m c) (x4 m c) (x5 m c) := by
  have hz : (fun a => (win0_10.index tonly) a * main_v4_2.ty.shape.size a) = fun _ => 0 := funext fun a => by fin_cases a <;> decide
  have hr := fun f => Memref.read_access_unit_zero (Elt F) main_v4_2 hz (fun a => by fin_cases a <;> decide) f
  refine (hr _).symm.trans ((final_of m c 10 (by decide)).trans ?_)
  show (cfg0.win 10).cut _ ((dats m 0 c).after 10 tonly) = _
  have e : (dats m 0 c).after 10 tonly = oHc (iblk m c 0 tonly) (iblk m c 1 tonly) (iblk m c 2 tonly) (iblk m c 3 tonly) (iblk m c 4 tonly) (iblk m c 5 tonly) := rfl
  rw [e, iblk0_eq, iblk1_eq, iblk2_eq, iblk3_eq, iblk4_eq, iblk5_eq]
  rfl
theorem final_Hs (c : Dev nD) : (dats m 0 c).arrAt 11 cfg0.N = oHs (x0 m c) (x1 m c) (x2 m c) (x3 m c) (x4 m c) (x5 m c) := by
  have hz : (fun a => (win0_11.index tonly) a * main_v4_3.ty.shape.size a) = fun _ => 0 := funext fun a => by fin_cases a <;> decide
  have hr := fun f => Memref.read_access_unit_zero (Elt F) main_v4_3 hz (fun a => by fin_cases a <;> decide) f
  refine (hr _).symm.trans ((final_of m c 11 (by decide)).trans ?_)
  show (cfg0.win 11).cut _ ((dats m 0 c).after 11 tonly) = _
  have e : (dats m 0 c).after 11 tonly = oHs (iblk m c 0 tonly) (iblk m c 1 tonly) (iblk m c 2 tonly) (iblk m c 3 tonly) (iblk m c 4 tonly) (iblk m c 5 tonly) := rfl
  rw [e, iblk0_eq, iblk1_eq, iblk2_eq, iblk3_eq, iblk4_eq, iblk5_eq]
  rfl
theorem final_O (c : Dev nD) : (dats m 0 c).arrAt 12 cfg0.N = oOc (x0 m c) (x1 m c) (x2 m c) (x3 m c) (x4 m c) (x5 m c) (x6 m c) (x7 m c) := by
  have hz : (fun a => (win0_12.index tonly) a * main_v4_4.ty.shape.size a) = fun _ => 0 := funext fun a => by fin_cases a <;> decide
  have hr := fun f => Memref.read_access_unit_zero (Elt F) main_v4_4 hz (fun a => by fin_cases a <;> decide) f
  refine (hr _).symm.trans ((final_of m c 12 (by decide)).trans ?_)
  show (cfg0.win 12).cut _ ((dats m 0 c).after 12 tonly) = _
  have e : (dats m 0 c).after 12 tonly = oOc (iblk m c 0 tonly) (iblk m c 1 tonly) (iblk m c 2 tonly) (iblk m c 3 tonly) (iblk m c 4 tonly) (iblk m c 5 tonly) (iblk m c 6 tonly) (iblk m c 7 tonly) := rfl
  rw [e, iblk0_eq, iblk1_eq, iblk2_eq, iblk3_eq, iblk4_eq, iblk5_eq, iblk6_eq, iblk7_eq]
  rfl
theorem final_Os (c : Dev nD) : (dats m 0 c).arrAt 13 cfg0.N = oOs (x0 m c) (x1 m c) (x2 m c) (x3 m c) (x4 m c) (x5 m c) (x6 m c) (x7 m c) := by
  have hz : (fun a => (win0_13.index tonly) a * main_v4_5.ty.shape.size a) = fun _ => 0 := funext fun a => by fin_cases a <;> decide
  have hr := fun f => Memref.read_access_unit_zero (Elt F) main_v4_5 hz (fun a => by fin_cases a <;> decide) f
  refine (hr _).symm.trans ((final_of m c 13 (by decide)).trans ?_)
  show (cfg0.win 13).cut _ ((dats m 0 c).after 13 tonly) = _
  have e : (dats m 0 c).after 13 tonly = oOs (iblk m c 0 tonly) (iblk m c 1 tonly) (iblk m c 2 tonly) (iblk m c 3 tonly) (iblk m c 4 tonly) (iblk m c 5 tonly) (iblk m c 6 tonly) (iblk m c 7 tonly) := rfl
  rw [e, iblk0_eq, iblk1_eq, iblk2_eq, iblk3_eq, iblk4_eq, iblk5_eq, iblk6_eq, iblk7_eq]
  rfl
end Arrays

/-! One entry of the body's values from the entries they are computed from, at any float interpretation. -/

section Entries
variable {F : FTy → Type} [FloatOps F] (i : Fin 256) (u : Fin 1) (j : Fin 5760)

/-- A Newton step of the column is that of its entry. -/
theorem pay4_at (n r : IVec S256x1 32) (x : S256x1.Idx) : k0_pay4 n r x = IntOp.addi (r x) (fdiv (n x) (r x)) := rfl
theorem pay5_at (n r : IVec S256x1 32) (x : S256x1.Idx) : k0_pay5 n r x = IntOp.divsi .vector (k0_pay4 n r x) 2#32 := rfl
theorem pay6_at (n r : IVec S256x1 32) (x : S256x1.Idx) : k0_pay6 n r x
    = IntOp.andi (IntOp.cmpi .ne (sgn (k0_pay4 n r x)) (sgn 2#32)) (IntOp.cmpi .ne (IntOp.remsi .vector (k0_pay4 n r x) 2#32) 0#32) := rfl
theorem pay23_at (r a : IVec S256x1 32) (b : IVec S256x1 1) (x : S256x1.Idx) :
    k0_pay23 r a b k0_pay7 x = IntOp.minsi (r x) (Scalar.select (b x) (IntOp.subi (a x) 1#32) (a x)) := rfl
theorem step_at (n r : IVec S256x1 32) (x : S256x1.Idx) : k0_pay23 r (k0_pay5 n r) (k0_pay6 n r) k0_pay7 x = nstep (n x) (r x) := by
  rw [pay23_at, pay5_at, pay6_at, pay4_at]
  rfl
theorem pay22_at (x : S256x1.Idx) : k0_pay22 x = 65536#32 := rfl
theorem trips1 : k0_t1_loop.trips = 24 := by decide +kernel
theorem newton_at (n : IVec S256x1 32) (x : S256x1.Idx) : newton n x = nsd 24 (n x) := by
  unfold newton
  rw [← trips1]
  exact fold_apply (fun r => k0_pay23 r (k0_pay5 n r) (k0_pay6 n r) k0_pay7) k0_pay22 x (n x) (fun r => step_at _ _ x) (pay22_at x)
variable (p : FVec F S256x5760 .f32) (a1 : Vec F S256x5760 .i8) (a2 : Vec F S256x1 .f32)
/-- The codes in 32 bits. -/
abbrev wide : IVec S256x5760 32 := k0_pay16 p a1 a2
theorem wide_at (x : S256x5760.Idx) : wide p a1 a2 x = BitVec.signExtend 32 (k0_pay13 p a1 a2 x) := rfl
theorem pay17_at : k0_pay17 p a1 a2 (ix2 i u) = ∑ j, wide p a1 a2 (ix2 i j) :=
  isum_apply (wide p a1 a2) reduces_S256x5760_S256 rfl shapeCasts_S256_S256x1 i u
theorem pay18_at (x : S256x1.Idx) : k0_pay18 p a1 a2 x = IntOp.divsi .vector (k0_pay17 p a1 a2 x) 5760#32 := rfl
theorem pay19_at (x : S256x1.Idx) : k0_pay19 p a1 a2 x = BitVec.zeroExtend 32 (IntOp.cmpi .sgt (k0_pay17 p a1 a2 x) 0#32) := rfl
/-- The centred codes, and their variances. -/
abbrev cen : IVec S256x5760 32 := k0_pay20 (k0_pay16 p a1 a2) (k0_pay17 p a1 a2) 5760#32 (k0_pay18 p a1 a2) (k0_pay19 p a1 a2) 0#32
abbrev vrn : IVec S256x1 32 := k0_pay21 (k0_pay16 p a1 a2) (k0_pay17 p a1 a2) 5760#32 (k0_pay18 p a1 a2) (k0_pay19 p a1 a2) 0#32
theorem cen_at : cen p a1 a2 (ix2 i j) = ctr (row (wide p a1 a2) i) j := by
  have e : ∀ (W : IVec S256x5760 32) (T q s : IVec S256x1 32), (∀ x, q x = IntOp.divsi .vector (T x) 5760#32) →
      (∀ x, s x = BitVec.zeroExtend 32 (IntOp.cmpi .sgt (T x) 0#32)) → T (ix2 i 0) = (∑ j, W (ix2 i j)) →
      k0_pay20 W T 5760#32 q s 0#32 (ix2 i j) = ctr (row W i) j := fun W T q s hq hs hT => by
    obtain rfl : q = fun x => IntOp.divsi .vector (T x) 5760#32 := funext hq
    obtain rfl : s = fun x => BitVec.zeroExtend 32 (IntOp.cmpi .sgt (T x) 0#32) := funext hs
    unfold k0_pay20
    refine (congrArg (IntOp.subi _) (bcol_apply _ broadcasts_S256x1_S256x5760 i j)).trans ?_
    show IntOp.subi _ (fdiv (T (ix2 i 0)) 5760#32) = _
    rw [hT]
    rfl
  exact e _ _ _ _ (pay18_at p a1 a2) (pay19_at p a1 a2) (pay17_at i 0 p a1 a2)
theorem vrn_at : vrn p a1 a2 (ix2 i u) = vr (row (wide p a1 a2) i) := by
  unfold vrn k0_pay21
  refine (congrArg (IntOp.maxsi · 1#32) ((isum_apply (muli (cen p a1 a2) (cen p a1 a2)) reduces_S256x5760_S256 rfl shapeCasts_S256_S256x1 i u).trans
    (Finset.sum_congr rfl fun k _ => ?_))).trans rfl
  show IntOp.muli (cen p a1 a2 (ix2 i k)) (cen p a1 a2 (ix2 i k)) = _
  rw [cen_at]
variable (g o : FVec F S1x5760 .f32)
theorem pay14_eq : k0_pay14 g = g := shapeCast_self _ _
theorem pay15_eq : k0_pay15 g = g := shapeCast_self _ _
theorem pay1_at (y : IVec S256x5760 32) (r : IVec S256x1 32) :
    k0_pay1 g o y r 1048576#32 (k0_pay24 r) (k0_pay25 r) (ix2 i j) = nval (y (ix2 i j)) (fdiv 1048576#32 (r (ix2 i 0))) (g (ix2 0 j)) (o (ix2 0 j)) := by
  have e : ∀ f : IVec S256x1 32, f (ix2 i 0) = fdiv 1048576#32 (r (ix2 i 0)) →
      addf (mulf (mulf (sitofp .f32 (muli y (broadcastTo S256x5760 f broadcasts_S256x1_S256x5760))) (broadcast S256x5760 (Scalar.ofBits .f32 0x3897CA11#32)))
        (broadcastTo S256x5760 g broadcasts_S1x5760_S256x5760)) (broadcastTo S256x5760 o broadcasts_S1x5760_S256x5760) (ix2 i j)
      = nval (y (ix2 i j)) (fdiv 1048576#32 (r (ix2 i 0))) (g (ix2 0 j)) (o (ix2 0 j)) := fun f hf => by
    have e1 := brow_apply g broadcasts_S1x5760_S256x5760 i j
    have e2 := brow_apply o broadcasts_S1x5760_S256x5760 i j
    have e3 := (bcol_apply f broadcasts_S256x1_S256x5760 i j).trans hf
    exact congrArg₂ FloatOps.addf (congrArg₂ FloatOps.mulf (congrArg (fun z => FloatOps.mulf (FloatOps.sitofp .f32 (IntOp.muli _ z)) _) e3) e1) e2
  unfold k0_pay1
  exact e _ rfl
end Entries

section Ideals
variable (a0 : Vec Ideal S256x5760 .f32) (a1 : Vec Ideal S256x5760 .i8) (a2 : Vec Ideal S256x1 .f32) (a3 : Vec Ideal S5760x5760 .i8)
  (a4 a5 a6 a7 : Vec Ideal S1x5760 .f32) (i : Fin 256) (u : Fin 1) (j : Fin 5760)

/-- The rows of the first input, the rows of `h`, and the normalised rows. -/
abbrev cr : Fin 256 → Fin 5760 → Ideal .f32 := fun i => row a0 i
abbrev hr : Fin 256 → Fin 5760 → Ideal .f32 := linRes (codes (cr a0)) (scales (cr a0)) a3 a4 a5 a1 a2
abbrev nr : Fin 256 → Fin 5760 → Ideal .f32 := fun i => nrow (hr a0 a1 a2 a3 a4 a5 i) (fun j => a6 (ix2 0 j)) (fun j => a7 (ix2 0 j))
theorem oCs_eq : oCs a0 = scales (cr a0) := scales_ext fun i u => by
  unfold oCs k0_pay8
  exact scale_apply a0 _ _ _ _ i u
theorem oCc_eq : oCc a0 = codes (cr a0) := codes_ext fun i j => by
  unfold oCc k0_pay9
  refine congrArg (FloatOps.fptosi 8) ((code_apply a0 (oCs a0) _ i j).trans ?_)
  rw [oCs_eq]
  rfl
theorem pay11_eq : k0_pay11 (pa a0 a3 a4 a5) a1 a2 (ix2 i j) = hr a0 a1 a2 a3 a4 a5 i j := by
  unfold hr
  rw [← oCc_eq, ← oCs_eq]
  unfold k0_pay11 pa k0_pay10
  exact congrArg₂ FloatOps.addf (linear_apply (oCc a0) a3 (oCs a0) a4 a5 _ _ _ i j) (congrArg (FloatOps.mulf _) (bcol_apply _ _ _ _))
theorem row_pay11 : row (k0_pay11 (pa a0 a3 a4 a5) a1 a2) i = hr a0 a1 a2 a3 a4 a5 i := row_ext fun j => pay11_eq a0 a1 a2 a3 a4 a5 i j
theorem oHs_eq : oHs a0 a1 a2 a3 a4 a5 (ix2 i u) = qscale (hr a0 a1 a2 a3 a4 a5 i) := by
  unfold oHs k0_pay12
  refine (scale_apply (k0_pay11 (pa a0 a3 a4 a5) a1 a2) _ _ _ _ i u).trans ?_
  rw [row_pay11]
theorem oHc_eq : oHc a0 a1 a2 a3 a4 a5 (ix2 i j) = FloatOps.fptosi 8 (qcode (qscale (hr a0 a1 a2 a3 a4 a5 i)) (hr a0 a1 a2 a3 a4 a5 i j)) := by
  unfold oHc k0_pay13
  refine congrArg (FloatOps.fptosi 8) ((code_apply (k0_pay11 (pa a0 a3 a4 a5) a1 a2) (oHs a0 a1 a2 a3 a4 a5) _ i j).trans ?_)
  rw [oHs_eq, pay11_eq]
theorem row_wide : row (wide (pa a0 a3 a4 a5) a1 a2) i = icodes (hr a0 a1 a2 a3 a4 a5 i) := row_ext fun j => by
  rw [wide_at, icodes, ← extsi_qcode]
  exact congrArg (BitVec.signExtend 32) (oHc_eq a0 a1 a2 a3 a4 a5 i j)
theorem sd_eq : sd a0 a1 a2 a3 a4 a5 (ix2 i u) = nsd 24 (vr (icodes (hr a0 a1 a2 a3 a4 a5 i))) := by
  unfold sd
  rw [newton_at, ← row_wide]
  exact congrArg (nsd 24) (vrn_at i u _ a1 a2)
theorem ce_eq : ce a0 a1 a2 a3 a4 a5 (ix2 i j) = ctr (icodes (hr a0 a1 a2 a3 a4 a5 i)) j := by
  rw [← row_wide]
  exact cen_at i j _ a1 a2
theorem oN_eq : oN a0 a1 a2 a3 a4 a5 a6 a7 (ix2 i j) = nr a0 a1 a2 a3 a4 a5 a6 a7 i j := by
  unfold oN
  rw [pay14_eq, pay15_eq, pay1_at, ce_eq, sd_eq]
  rfl
theorem row_oN : row (oN a0 a1 a2 a3 a4 a5 a6 a7) i = nr a0 a1 a2 a3 a4 a5 a6 a7 i := row_ext fun j => oN_eq a0 a1 a2 a3 a4 a5 a6 a7 i j
theorem oOs_eq : oOs a0 a1 a2 a3 a4 a5 a6 a7 (ix2 i u) = qscale (nr a0 a1 a2 a3 a4 a5 a6 a7 i) := by
  unfold oOs k0_pay2
  refine (scale_apply (oN a0 a1 a2 a3 a4 a5 a6 a7) _ _ _ _ i u).trans ?_
  rw [row_oN]
theorem oOc_eq : oOc a0 a1 a2 a3 a4 a5 a6 a7 (ix2 i j)
    = FloatOps.fptosi 8 (qcode (qscale (nr a0 a1 a2 a3 a4 a5 a6 a7 i)) (nr a0 a1 a2 a3 a4 a5 a6 a7 i j)) := by
  unfold oOc k0_pay3
  refine congrArg (FloatOps.fptosi 8) ((code_apply (oN a0 a1 a2 a3 a4 a5 a6 a7) (oOs a0 a1 a2 a3 a4 a5 a6 a7) _ i j).trans ?_)
  rw [oOs_eq, oN_eq]
end Ideals

section Results
variable (m : (ℓ : Loc nD τ sig) → Buf (Elt Ideal) ℓ)

/-- The rows of the first input, the rows of `h`, and the normalised rows. -/
abbrev ctxRows (c : Dev nD) : Fin 256 → Fin 5760 → Ideal .f32 := cr (x0 m c)
abbrev resRows (c : Dev nD) : Fin 256 → Fin 5760 → Ideal .f32 := hr (x0 m c) (x1 m c) (x2 m c) (x3 m c) (x4 m c) (x5 m c)
abbrev nrmRows (c : Dev nD) : Fin 256 → Fin 5760 → Ideal .f32 := nr (x0 m c) (x1 m c) (x2 m c) (x3 m c) (x4 m c) (x5 m c) (x6 m c) (x7 m c)
theorem res_C (c : Dev nD) : (dats m 0 c).arrAt 8 cfg0.N = codes (ctxRows m c) := (final_C m c).trans (oCc_eq _)
theorem res_Cs (c : Dev nD) : (dats m 0 c).arrAt 9 cfg0.N = scales (ctxRows m c) := (final_Cs m c).trans (oCs_eq _)
theorem res_H (c : Dev nD) : (dats m 0 c).arrAt 10 cfg0.N = codes (resRows m c) :=
  (final_H m c).trans (codes_ext fun i j => oHc_eq _ _ _ _ _ _ i j)
theorem res_Hs (c : Dev nD) : (dats m 0 c).arrAt 11 cfg0.N = scales (resRows m c) :=
  (final_Hs m c).trans (scales_ext fun i u => oHs_eq _ _ _ _ _ _ i u)
theorem res_O (c : Dev nD) : (dats m 0 c).arrAt 12 cfg0.N = codes (nrmRows m c) :=
  (final_O m c).trans (codes_ext fun i j => oOc_eq _ _ _ _ _ _ _ _ i j)
theorem res_Os (c : Dev nD) : (dats m 0 c).arrAt 13 cfg0.N = scales (nrmRows m c) :=
  (final_Os m c).trans (scales_ext fun i u => oOs_eq _ _ _ _ _ _ _ _ i u)

/-- The run: the six results, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v4_0) = codes (ctxRows m c)
      ∧ r.2.mem ((c.tc : Thread nD τ).loc main_v4_1) = scales (ctxRows m c)
      ∧ r.2.mem ((c.tc : Thread nD τ).loc main_v4_2) = codes (resRows m c)
      ∧ r.2.mem ((c.tc : Thread nD τ).loc main_v4_3) = scales (resRows m c)
      ∧ r.2.mem ((c.tc : Thread nD τ).loc main_v4_4) = codes (nrmRows m c)
      ∧ r.2.mem ((c.tc : Thread nD τ).loc main_v4_5) = scales (nrmRows m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h.1 c).1 8).trans (res_C m c), ((h.1 c).1 9).trans (res_Cs m c), ((h.1 c).1 10).trans (res_H m c),
    ((h.1 c).1 11).trans (res_Hs m c), ((h.1 c).1 12).trans (res_O m c), ((h.1 c).1 13).trans (res_Os m c), h.2 c⟩)
    (θ_run_and (run_main m ρ) (unchanged m ρ))
end Results

end Cert.ThirdReferenceIdeal.Gen

end
-- ==== Proof.lean ====
/-
  The proof of `Cert.Claim`: of each of the three kernels the frames of its three programs, the trivial statement that the ideal program
  is the kernel read over the extended reals, and the equation between the kernel's results and the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Second
public import proofs.«01_k».proof.Proof.Gen.Second.Skeleton
public import proofs.«01_k».proof.Proof.Gen.Second.Loops
public import proofs.«01_k».proof.Proof.Gen.Second.Launch
public import proofs.«01_k».proof.Proof.Gen.Second.Points
public import proofs.«01_k».proof.Proof.Gen.Second.Frame
public import proofs.«01_k».proof.Proof.Gen.SecondIdeal
public import proofs.«01_k».proof.Proof.Gen.SecondIdeal.Skeleton
public import proofs.«01_k».proof.Proof.Gen.SecondIdeal.Loops
public import proofs.«01_k».proof.Proof.Gen.SecondIdeal.Launch
public import proofs.«01_k».proof.Proof.Gen.SecondIdeal.Points
public import proofs.«01_k».proof.Proof.Gen.SecondIdeal.Frame
public import proofs.«01_k».proof.Proof.Gen.SecondReferenceIdeal
public import proofs.«01_k».proof.Proof.Gen.SecondReferenceIdeal.Skeleton
public import proofs.«01_k».proof.Proof.Gen.SecondReferenceIdeal.Loops
public import proofs.«01_k».proof.Proof.Gen.SecondReferenceIdeal.Launch
public import proofs.«01_k».proof.Proof.Gen.SecondReferenceIdeal.Points
public import proofs.«01_k».proof.Proof.Gen.SecondReferenceIdeal.Frame
public import proofs.«01_k».proof.Proof.Gen.Third
public import proofs.«01_k».proof.Proof.Gen.Third.Skeleton
public import proofs.«01_k».proof.Proof.Gen.Third.Loops
public import proofs.«01_k».proof.Proof.Gen.Third.Launch
public import proofs.«01_k».proof.Proof.Gen.Third.Points
public import proofs.«01_k».proof.Proof.Gen.Third.Frame
public import proofs.«01_k».proof.Proof.Gen.ThirdIdeal
public import proofs.«01_k».proof.Proof.Gen.ThirdIdeal.Skeleton
public import proofs.«01_k».proof.Proof.Gen.ThirdIdeal.Loops
public import proofs.«01_k».proof.Proof.Gen.ThirdIdeal.Launch
public import proofs.«01_k».proof.Proof.Gen.ThirdIdeal.Points
public import proofs.«01_k».proof.Proof.Gen.ThirdIdeal.Frame
public import proofs.«01_k».proof.Proof.Gen.ThirdReferenceIdeal
public import proofs.«01_k».proof.Proof.Gen.ThirdReferenceIdeal.Skeleton
public import proofs.«01_k».proof.Proof.Gen.ThirdReferenceIdeal.Loops
public import proofs.«01_k».proof.Proof.Gen.ThirdReferenceIdeal.Launch
public import proofs.«01_k».proof.Proof.Gen.ThirdReferenceIdeal.Points
public import proofs.«01_k».proof.Proof.Gen.ThirdReferenceIdeal.Frame
public import proofs.«01_k».proof.Proof.Same
public import proofs.«01_k».proof.Proof.KernelIdealValue
public import proofs.«01_k».proof.Proof.ReferenceValue
public import proofs.«01_k».proof.Proof.SecondIdealValue
public import proofs.«01_k».proof.Proof.SecondReferenceValue
public import proofs.«01_k».proof.Proof.ThirdIdealValue
public import proofs.«01_k».proof.Proof.ThirdReferenceValue
public import Idealize.ShloMosaic.Adequacy
public import Idealize.ShloMosaic.Init

@[expose] public section

noncomputable section

namespace Cert.Proof

open Idealize.ShloMosaic Idealize.SL.Sem Cert.Proof.Quant

/-- Kernel and reference leave the same four arrays: the codes and scales of the rows of `u`, and of its activation. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => codes (Cert.KernelIdeal.Gen.resRows m c), fun c => scales (Cert.KernelIdeal.Gen.resRows m c),
    fun c => codes fun i => grow (Cert.KernelIdeal.Gen.resRows m c i), fun c => scales fun i => grow (Cert.KernelIdeal.Gen.resRows m c i), ?_, ?_⟩
  · refine (θ_run (Cert.KernelIdeal.defs (F := Ideal)) _ _).mono (fun r h c => ?_) (Cert.KernelIdeal.Gen.run (F := Ideal) m g)
    obtain ⟨h0, h1, h2, h3, hu⟩ := h c
    exact ⟨h0.trans (Cert.KernelIdeal.Gen.res_U m c), h1.trans (Cert.KernelIdeal.Gen.res_Us m c), h2.trans (Cert.KernelIdeal.Gen.res_G m c),
      h3.trans (Cert.KernelIdeal.Gen.res_Gs m c), hu⟩
  · refine (θ_run (Cert.ReferenceIdeal.defs (F := Ideal)) _ _).mono (fun r h c => ?_) (Cert.ReferenceIdeal.Gen.run m' g')
    have e : Cert.ReferenceIdeal.Gen.resRows m' c = Cert.KernelIdeal.Gen.resRows m c := by
      unfold Cert.ReferenceIdeal.Gen.resRows Cert.KernelIdeal.Gen.resRows Cert.ReferenceIdeal.Gen.x0 Cert.ReferenceIdeal.Gen.x1
        Cert.ReferenceIdeal.Gen.x2 Cert.ReferenceIdeal.Gen.x3 Cert.ReferenceIdeal.Gen.x4
      rw [(hargs c).1, (hargs c).2.1, (hargs c).2.2.1, (hargs c).2.2.2.1, (hargs c).2.2.2.2]
    have h' := h c
    rw [e] at h'
    exact h'

/-- The second kernel and its reference leave the same four arrays: the codes and scales of the rows of `h`, and of the
    normalised rows. -/
theorem algebraic_second : Cert.algebraic_SecondIdeal_SecondReferenceIdeal (hSecondIdeal := Cert.SecondIdeal.Gen.facts)
    (hSecondReferenceIdeal := Cert.SecondReferenceIdeal.Gen.facts) := by
  intro m g m' g' _ hargs
  refine ⟨fun c => codes (Cert.SecondIdeal.Gen.resRows m c), fun c => scales (Cert.SecondIdeal.Gen.resRows m c),
    fun c => codes (Cert.SecondIdeal.Gen.nrmRows m c), fun c => scales (Cert.SecondIdeal.Gen.nrmRows m c), ?_, ?_⟩
  · refine (θ_run (Cert.SecondIdeal.defs (F := Ideal)) _ _).mono (fun r h c => ?_) (Cert.SecondIdeal.Gen.run (F := Ideal) m g)
    obtain ⟨h0, h1, h2, h3, hu⟩ := h c
    exact ⟨h0.trans (Cert.SecondIdeal.Gen.res_H m c), h1.trans (Cert.SecondIdeal.Gen.res_Hs m c), h2.trans (Cert.SecondIdeal.Gen.res_O m c),
      h3.trans (Cert.SecondIdeal.Gen.res_Os m c), hu⟩
  · refine (θ_run (Cert.SecondReferenceIdeal.defs (F := Ideal)) _ _).mono (fun r h c => ?_) (Cert.SecondReferenceIdeal.Gen.run m' g')
    have e : Cert.SecondReferenceIdeal.Gen.resRows m' c = Cert.SecondIdeal.Gen.resRows m c := by
      unfold Cert.SecondReferenceIdeal.Gen.resRows Cert.SecondReferenceIdeal.Gen.hr Cert.SecondIdeal.Gen.resRows Cert.SecondReferenceIdeal.Gen.x0
        Cert.SecondReferenceIdeal.Gen.x1 Cert.SecondReferenceIdeal.Gen.x2 Cert.SecondReferenceIdeal.Gen.x3 Cert.SecondReferenceIdeal.Gen.x4
        Cert.SecondReferenceIdeal.Gen.x5 Cert.SecondReferenceIdeal.Gen.x6
      rw [(hargs c).1, (hargs c).2.1, (hargs c).2.2.1, (hargs c).2.2.2.1, (hargs c).2.2.2.2.1, (hargs c).2.2.2.2.2.1, (hargs c).2.2.2.2.2.2.1]
    have eg : Cert.SecondReferenceIdeal.Gen.x7 m' c = Cert.SecondIdeal.Gen.gam m c := by
      unfold Cert.SecondReferenceIdeal.Gen.x7 Cert.SecondIdeal.Gen.gam
      rw [(hargs c).2.2.2.2.2.2.2.1]
    have eb : Cert.SecondReferenceIdeal.Gen.x8 m' c = Cert.SecondIdeal.Gen.bet m c := by
      unfold Cert.SecondReferenceIdeal.Gen.x8 Cert.SecondIdeal.Gen.bet
      rw [(hargs c).2.2.2.2.2.2.2.2]
    have en : Cert.SecondReferenceIdeal.Gen.nrmRows m' c = Cert.SecondIdeal.Gen.nrmRows m c := by
      unfold Cert.SecondIdeal.Gen.nrmRows
      rw [← e, ← eg, ← eb]
    have h' := h c
    rw [e, en] at h'
    exact h'

/-- The third kernel and its reference leave the same six arrays: the codes and scales of the rows of its first input, of the rows
    of `h`, and of the normalised rows. -/
theorem algebraic_third : Cert.algebraic_ThirdIdeal_ThirdReferenceIdeal (hThirdIdeal := Cert.ThirdIdeal.Gen.facts)
    (hThirdReferenceIdeal := Cert.ThirdReferenceIdeal.Gen.facts) := by
  intro m g m' g' _ hargs
  refine ⟨fun c => codes (Cert.ThirdIdeal.Gen.ctxRows m c), fun c => scales (Cert.ThirdIdeal.Gen.ctxRows m c), fun c => codes (Cert.ThirdIdeal.Gen.resRows m c), fun c => scales (Cert.ThirdIdeal.Gen.resRows m c), fun c => codes (Cert.ThirdIdeal.Gen.nrmRows m c), fun c => scales (Cert.ThirdIdeal.Gen.nrmRows m c), ?_, ?_⟩
  · refine (θ_run (Cert.ThirdIdeal.defs (F := Ideal)) _ _).mono (fun r h c => ?_) (Cert.ThirdIdeal.Gen.run (F := Ideal) m g)
    obtain ⟨h0, h1, h2, h3, h4, h5, hu⟩ := h c
    exact ⟨h0.trans (Cert.ThirdIdeal.Gen.res_C m c), h1.trans (Cert.ThirdIdeal.Gen.res_Cs m c), h2.trans (Cert.ThirdIdeal.Gen.res_H m c), h3.trans (Cert.ThirdIdeal.Gen.res_Hs m c), h4.trans (Cert.ThirdIdeal.Gen.res_O m c), h5.trans (Cert.ThirdIdeal.Gen.res_Os m c), hu⟩
  · refine (θ_run (Cert.ThirdReferenceIdeal.defs (F := Ideal)) _ _).mono (fun r h c => ?_) (Cert.ThirdReferenceIdeal.Gen.run m' g')
    have ec : Cert.ThirdReferenceIdeal.Gen.ctxRows m' c = Cert.ThirdIdeal.Gen.ctxRows m c := by
      unfold Cert.ThirdReferenceIdeal.Gen.ctxRows Cert.ThirdReferenceIdeal.Gen.cr Cert.ThirdIdeal.Gen.ctxRows Cert.ThirdReferenceIdeal.Gen.x0
      rw [(hargs c).1]
    have e : Cert.ThirdReferenceIdeal.Gen.resRows m' c = Cert.ThirdIdeal.Gen.resRows m c := by
      unfold Cert.ThirdIdeal.Gen.resRows
      rw [← ec]
      unfold Cert.ThirdReferenceIdeal.Gen.resRows Cert.ThirdReferenceIdeal.Gen.hr Cert.ThirdReferenceIdeal.Gen.ctxRows Cert.ThirdReferenceIdeal.Gen.x1 Cert.ThirdReferenceIdeal.Gen.x2 Cert.ThirdReferenceIdeal.Gen.x3 Cert.ThirdReferenceIdeal.Gen.x4 Cert.ThirdReferenceIdeal.Gen.x5
      rw [(hargs c).2.1, (hargs c).2.2.1, (hargs c).2.2.2.1, (hargs c).2.2.2.2.1, (hargs c).2.2.2.2.2.1]
    have eg : Cert.ThirdReferenceIdeal.Gen.x6 m' c = Cert.ThirdIdeal.Gen.gam m c := by
      unfold Cert.ThirdReferenceIdeal.Gen.x6 Cert.ThirdIdeal.Gen.gam
      rw [(hargs c).2.2.2.2.2.2.1]
    have eb : Cert.ThirdReferenceIdeal.Gen.x7 m' c = Cert.ThirdIdeal.Gen.bet m c := by
      unfold Cert.ThirdReferenceIdeal.Gen.x7 Cert.ThirdIdeal.Gen.bet
      rw [(hargs c).2.2.2.2.2.2.2]
    have en : Cert.ThirdReferenceIdeal.Gen.nrmRows m' c = Cert.ThirdIdeal.Gen.nrmRows m c := by
      unfold Cert.ThirdIdeal.Gen.nrmRows
      rw [← e, ← eg, ← eb]
    have h' := h c
    rw [ec, e, en] at h'
    exact h'

theorem claim : Cert.Claim := ⟨Cert.Kernel.Gen.facts, Cert.KernelIdeal.Gen.facts, Cert.ReferenceIdeal.Gen.facts,
  Cert.Second.Gen.facts, Cert.SecondIdeal.Gen.facts, Cert.SecondReferenceIdeal.Gen.facts,
  Cert.Third.Gen.facts, Cert.ThirdIdeal.Gen.facts, Cert.ThirdReferenceIdeal.Gen.facts,
  Cert.Proof.Same.fc1_frame, fun m g _ => Cert.KernelIdeal.Gen.frame m g, fun m g _ => Cert.ReferenceIdeal.Gen.frame m g,
  Cert.Proof.Same.fc2_frame, fun m g _ => Cert.SecondIdeal.Gen.frame m g, fun m g _ => Cert.SecondReferenceIdeal.Gen.frame m g,
  Cert.Proof.Same.wo_frame, fun m g _ => Cert.ThirdIdeal.Gen.frame m g, fun m g _ => Cert.ThirdReferenceIdeal.Gen.frame m g,
  trivial, algebraic, trivial, algebraic_second, trivial, algebraic_third⟩

end Cert.Proof

end
